-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInIdeal_finite_in [hPre_finite_in : Cert.Pre_finite_in.Facts] (m : (ℓ : Loc Cert.ProjInIdeal.nD Cert.ProjInIdeal.τ Cert.ProjInIdeal.sig) → Buf (Elt Ideal) ℓ) : Prop :=
  ∀ c : Dev Cert.ProjInIdeal.nD,
    (Cert.Pre_finite_in.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6)) (m ((c.tc : Thread Cert.ProjInIdeal.nD Cert.ProjInIdeal.τ).loc Cert.ProjInIdeal.main_arg7)) (m ((c.tc : Thread Cert.ProjInIdeal.nD Cert.ProjInIdeal.τ).loc Cert.ProjInIdeal.main_arg8))).1 = (fun _ => 1#1)
    ∧ (Cert.Pre_finite_in.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6)) (m ((c.tc : Thread Cert.ProjInIdeal.nD Cert.ProjInIdeal.τ).loc Cert.ProjInIdeal.main_arg7)) (m ((c.tc : Thread Cert.ProjInIdeal.nD Cert.ProjInIdeal.τ).loc Cert.ProjInIdeal.main_arg8))).2.1 = (fun _ => 1#1)
    ∧ (Cert.Pre_finite_in.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6)) (m ((c.tc : Thread Cert.ProjInIdeal.nD Cert.ProjInIdeal.τ).loc Cert.ProjInIdeal.main_arg7)) (m ((c.tc : Thread Cert.ProjInIdeal.nD Cert.ProjInIdeal.τ).loc Cert.ProjInIdeal.main_arg8))).2.2.1 = (fun _ => 1#1)
    ∧ (Cert.Pre_finite_in.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6)) (m ((c.tc : Thread Cert.ProjInIdeal.nD Cert.ProjInIdeal.τ).loc Cert.ProjInIdeal.main_arg7)) (m ((c.tc : Thread Cert.ProjInIdeal.nD Cert.ProjInIdeal.τ).loc Cert.ProjInIdeal.main_arg8))).2.2.2 = (fun _ => 1#1)

def Pre_RefInIdeal (m : (ℓ : Loc Cert.RefInIdeal.nD Cert.RefInIdeal.τ Cert.RefInIdeal.sig) → Buf (Elt Ideal) ℓ) : Prop :=
  True

def Pre_RefInIdeal_finite_in [hPre_finite_in : Cert.Pre_finite_in.Facts] (m : (ℓ : Loc Cert.RefInIdeal.nD Cert.RefInIdeal.τ Cert.RefInIdeal.sig) → Buf (Elt Ideal) ℓ) : Prop :=
  ∀ c : Dev Cert.RefInIdeal.nD,
    (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2 = (fun _ => 1#1)

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutIdeal_finite_out [hPre_finite_out : Cert.Pre_finite_out.Facts] (m : (ℓ : Loc Cert.ProjOutIdeal.nD Cert.ProjOutIdeal.τ Cert.ProjOutIdeal.sig) → Buf (Elt Ideal) ℓ) : Prop :=
  ∀ c : Dev Cert.ProjOutIdeal.nD,
    (Cert.Pre_finite_out.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8)) (m ((c.tc : Thread Cert.ProjOutIdeal.nD Cert.ProjOutIdeal.τ).loc Cert.ProjOutIdeal.main_arg9)) (m ((c.tc : Thread Cert.ProjOutIdeal.nD Cert.ProjOutIdeal.τ).loc Cert.ProjOutIdeal.main_arg10)) (m ((c.tc : Thread Cert.ProjOutIdeal.nD Cert.ProjOutIdeal.τ).loc Cert.ProjOutIdeal.main_arg11)) (m ((c.tc : Thread Cert.ProjOutIdeal.nD Cert.ProjOutIdeal.τ).loc Cert.ProjOutIdeal.main_arg12)) (m ((c.tc : Thread Cert.ProjOutIdeal.nD Cert.ProjOutIdeal.τ).loc Cert.ProjOutIdeal.main_arg13)) (m ((c.tc : Thread Cert.ProjOutIdeal.nD Cert.ProjOutIdeal.τ).loc Cert.ProjOutIdeal.main_arg14)) (m ((c.tc : Thread Cert.ProjOutIdeal.nD Cert.ProjOutIdeal.τ).loc Cert.ProjOutIdeal.main_arg15))).1 = (fun _ => 1#1)
    ∧ (Cert.Pre_finite_out.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8)) (m ((c.tc : Thread Cert.ProjOutIdeal.nD Cert.ProjOutIdeal.τ).loc Cert.ProjOutIdeal.main_arg9)) (m ((c.tc : Thread Cert.ProjOutIdeal.nD Cert.ProjOutIdeal.τ).loc Cert.ProjOutIdeal.main_arg10)) (m ((c.tc : Thread Cert.ProjOutIdeal.nD Cert.ProjOutIdeal.τ).loc Cert.ProjOutIdeal.main_arg11)) (m ((c.tc : Thread Cert.ProjOutIdeal.nD Cert.ProjOutIdeal.τ).loc Cert.ProjOutIdeal.main_arg12)) (m ((c.tc : Thread Cert.ProjOutIdeal.nD Cert.ProjOutIdeal.τ).loc Cert.ProjOutIdeal.main_arg13)) (m ((c.tc : Thread Cert.ProjOutIdeal.nD Cert.ProjOutIdeal.τ).loc Cert.ProjOutIdeal.main_arg14)) (m ((c.tc : Thread Cert.ProjOutIdeal.nD Cert.ProjOutIdeal.τ).loc Cert.ProjOutIdeal.main_arg15))).2.1 = (fun _ => 1#1)
    ∧ (Cert.Pre_finite_out.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8)) (m ((c.tc : Thread Cert.ProjOutIdeal.nD Cert.ProjOutIdeal.τ).loc Cert.ProjOutIdeal.main_arg9)) (m ((c.tc : Thread Cert.ProjOutIdeal.nD Cert.ProjOutIdeal.τ).loc Cert.ProjOutIdeal.main_arg10)) (m ((c.tc : Thread Cert.ProjOutIdeal.nD Cert.ProjOutIdeal.τ).loc Cert.ProjOutIdeal.main_arg11)) (m ((c.tc : Thread Cert.ProjOutIdeal.nD Cert.ProjOutIdeal.τ).loc Cert.ProjOutIdeal.main_arg12)) (m ((c.tc : Thread Cert.ProjOutIdeal.nD Cert.ProjOutIdeal.τ).loc Cert.ProjOutIdeal.main_arg13)) (m ((c.tc : Thread Cert.ProjOutIdeal.nD Cert.ProjOutIdeal.τ).loc Cert.ProjOutIdeal.main_arg14)) (m ((c.tc : Thread Cert.ProjOutIdeal.nD Cert.ProjOutIdeal.τ).loc Cert.ProjOutIdeal.main_arg15))).2.2.1 = (fun _ => 1#1)
    ∧ (Cert.Pre_finite_out.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8)) (m ((c.tc : Thread Cert.ProjOutIdeal.nD Cert.ProjOutIdeal.τ).loc Cert.ProjOutIdeal.main_arg9)) (m ((c.tc : Thread Cert.ProjOutIdeal.nD Cert.ProjOutIdeal.τ).loc Cert.ProjOutIdeal.main_arg10)) (m ((c.tc : Thread Cert.ProjOutIdeal.nD Cert.ProjOutIdeal.τ).loc Cert.ProjOutIdeal.main_arg11)) (m ((c.tc : Thread Cert.ProjOutIdeal.nD Cert.ProjOutIdeal.τ).loc Cert.ProjOutIdeal.main_arg12)) (m ((c.tc : Thread Cert.ProjOutIdeal.nD Cert.ProjOutIdeal.τ).loc Cert.ProjOutIdeal.main_arg13)) (m ((c.tc : Thread Cert.ProjOutIdeal.nD Cert.ProjOutIdeal.τ).loc Cert.ProjOutIdeal.main_arg14)) (m ((c.tc : Thread Cert.ProjOutIdeal.nD Cert.ProjOutIdeal.τ).loc Cert.ProjOutIdeal.main_arg15))).2.2.2 = (fun _ => 1#1)

def Pre_RefOutIdeal (m : (ℓ : Loc Cert.RefOutIdeal.nD Cert.RefOutIdeal.τ Cert.RefOutIdeal.sig) → Buf (Elt Ideal) ℓ) : Prop :=
  True

def Pre_RefOutIdeal_finite_out [hPre_finite_out : Cert.Pre_finite_out.Facts] (m : (ℓ : Loc Cert.RefOutIdeal.nD Cert.RefOutIdeal.τ Cert.RefOutIdeal.sig) → Buf (Elt Ideal) ℓ) : Prop :=
  ∀ c : Dev Cert.RefOutIdeal.nD,
    (Cert.Pre_finite_out.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7)) (m ((c.tc : Thread Cert.RefOutIdeal.nD Cert.RefOutIdeal.τ).loc Cert.RefOutIdeal.main_arg8)) (m ((c.tc : Thread Cert.RefOutIdeal.nD Cert.RefOutIdeal.τ).loc Cert.RefOutIdeal.main_arg9)) (m ((c.tc : Thread Cert.RefOutIdeal.nD Cert.RefOutIdeal.τ).loc Cert.RefOutIdeal.main_arg10)) (m ((c.tc : Thread Cert.RefOutIdeal.nD Cert.RefOutIdeal.τ).loc Cert.RefOutIdeal.main_arg11)) (m ((c.tc : Thread Cert.RefOutIdeal.nD Cert.RefOutIdeal.τ).loc Cert.RefOutIdeal.main_arg12)) (m ((c.tc : Thread Cert.RefOutIdeal.nD Cert.RefOutIdeal.τ).loc Cert.RefOutIdeal.main_arg13)) (m ((c.tc : Thread Cert.RefOutIdeal.nD Cert.RefOutIdeal.τ).loc Cert.RefOutIdeal.main_arg14)) (m ((c.tc : Thread Cert.RefOutIdeal.nD Cert.RefOutIdeal.τ).loc Cert.RefOutIdeal.main_arg15))).1 = (fun _ => 1#1)
    ∧ (Cert.Pre_finite_out.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7)) (m ((c.tc : Thread Cert.RefOutIdeal.nD Cert.RefOutIdeal.τ).loc Cert.RefOutIdeal.main_arg8)) (m ((c.tc : Thread Cert.RefOutIdeal.nD Cert.RefOutIdeal.τ).loc Cert.RefOutIdeal.main_arg9)) (m ((c.tc : Thread Cert.RefOutIdeal.nD Cert.RefOutIdeal.τ).loc Cert.RefOutIdeal.main_arg10)) (m ((c.tc : Thread Cert.RefOutIdeal.nD Cert.RefOutIdeal.τ).loc Cert.RefOutIdeal.main_arg11)) (m ((c.tc : Thread Cert.RefOutIdeal.nD Cert.RefOutIdeal.τ).loc Cert.RefOutIdeal.main_arg12)) (m ((c.tc : Thread Cert.RefOutIdeal.nD Cert.RefOutIdeal.τ).loc Cert.RefOutIdeal.main_arg13)) (m ((c.tc : Thread Cert.RefOutIdeal.nD Cert.RefOutIdeal.τ).loc Cert.RefOutIdeal.main_arg14)) (m ((c.tc : Thread Cert.RefOutIdeal.nD Cert.RefOutIdeal.τ).loc Cert.RefOutIdeal.main_arg15))).2.1 = (fun _ => 1#1)
    ∧ (Cert.Pre_finite_out.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7)) (m ((c.tc : Thread Cert.RefOutIdeal.nD Cert.RefOutIdeal.τ).loc Cert.RefOutIdeal.main_arg8)) (m ((c.tc : Thread Cert.RefOutIdeal.nD Cert.RefOutIdeal.τ).loc Cert.RefOutIdeal.main_arg9)) (m ((c.tc : Thread Cert.RefOutIdeal.nD Cert.RefOutIdeal.τ).loc Cert.RefOutIdeal.main_arg10)) (m ((c.tc : Thread Cert.RefOutIdeal.nD Cert.RefOutIdeal.τ).loc Cert.RefOutIdeal.main_arg11)) (m ((c.tc : Thread Cert.RefOutIdeal.nD Cert.RefOutIdeal.τ).loc Cert.RefOutIdeal.main_arg12)) (m ((c.tc : Thread Cert.RefOutIdeal.nD Cert.RefOutIdeal.τ).loc Cert.RefOutIdeal.main_arg13)) (m ((c.tc : Thread Cert.RefOutIdeal.nD Cert.RefOutIdeal.τ).loc Cert.RefOutIdeal.main_arg14)) (m ((c.tc : Thread Cert.RefOutIdeal.nD Cert.RefOutIdeal.τ).loc Cert.RefOutIdeal.main_arg15))).2.2.1 = (fun _ => 1#1)
    ∧ (Cert.Pre_finite_out.fn (F := Ideal) (m ((c.tc : Thread Cert.RefOutIdeal.nD Cert.RefOutIdeal.τ).loc Cert.RefOutIdeal.main_arg0)) (m ((c.tc : Thread Cert.RefOutIdeal.nD Cert.RefOutIdeal.τ).loc Cert.RefOutIdeal.main_arg1)) (m ((c.tc : Thread Cert.RefOutIdeal.nD Cert.RefOutIdeal.τ).loc Cert.RefOutIdeal.main_arg2)) (m ((c.tc : Thread Cert.RefOutIdeal.nD Cert.RefOutIdeal.τ).loc Cert.RefOutIdeal.main_arg3)) (m ((c.tc : Thread Cert.RefOutIdeal.nD Cert.RefOutIdeal.τ).loc Cert.RefOutIdeal.main_arg4)) (m ((c.tc : Thread Cert.RefOutIdeal.nD Cert.RefOutIdeal.τ).loc Cert.RefOutIdeal.main_arg5)) (m ((c.tc : Thread Cert.RefOutIdeal.nD Cert.RefOutIdeal.τ).loc Cert.RefOutIdeal.main_arg6)) (m ((c.tc : Thread Cert.RefOutIdeal.nD Cert.RefOutIdeal.τ).loc Cert.RefOutIdeal.main_arg7)) (m ((c.tc : Thread Cert.RefOutIdeal.nD Cert.RefOutIdeal.τ).loc Cert.RefOutIdeal.main_arg8)) (m ((c.tc : Thread Cert.RefOutIdeal.nD Cert.RefOutIdeal.τ).loc Cert.RefOutIdeal.main_arg9)) (m ((c.tc : Thread Cert.RefOutIdeal.nD Cert.RefOutIdeal.τ).loc Cert.RefOutIdeal.main_arg10)) (m ((c.tc : Thread Cert.RefOutIdeal.nD Cert.RefOutIdeal.τ).loc Cert.RefOutIdeal.main_arg11)) (m ((c.tc : Thread Cert.RefOutIdeal.nD Cert.RefOutIdeal.τ).loc Cert.RefOutIdeal.main_arg12)) (m ((c.tc : Thread Cert.RefOutIdeal.nD Cert.RefOutIdeal.τ).loc Cert.RefOutIdeal.main_arg13)) (m ((c.tc : Thread Cert.RefOutIdeal.nD Cert.RefOutIdeal.τ).loc Cert.RefOutIdeal.main_arg14)) (m ((c.tc : Thread Cert.RefOutIdeal.nD Cert.RefOutIdeal.τ).loc Cert.RefOutIdeal.main_arg15))).2.2.2 = (fun _ => 1#1)

def Pre_Ffn [hPre_experts : Cert.Pre_experts.Facts] (m : (ℓ : Loc Cert.Ffn.nD Cert.Ffn.τ Cert.Ffn.sig) → Buf (Elt Bits) ℓ) : Prop :=
  ∀ c : Dev Cert.Ffn.nD,
    (Cert.Pre_experts.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))).1 = (fun _ => 1#1)
    ∧ (Cert.Pre_experts.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))).2 = (fun _ => 1#1)

def Pre_FfnIdeal [hPre_experts : Cert.Pre_experts.Facts] (m : (ℓ : Loc Cert.FfnIdeal.nD Cert.FfnIdeal.τ Cert.FfnIdeal.sig) → Buf (Elt Ideal) ℓ) : Prop :=
  ∀ c : Dev Cert.FfnIdeal.nD,
    (Cert.Pre_experts.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_experts.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2 = (fun _ => 1#1)

def Pre_RefFfnIdeal (m : (ℓ : Loc Cert.RefFfnIdeal.nD Cert.RefFfnIdeal.τ Cert.RefFfnIdeal.sig) → Buf (Elt Ideal) ℓ) : Prop :=
  True

def Pre_RefFfnIdeal_experts [hPre_experts : Cert.Pre_experts.Facts] (m : (ℓ : Loc Cert.RefFfnIdeal.nD Cert.RefFfnIdeal.τ Cert.RefFfnIdeal.sig) → Buf (Elt Ideal) ℓ) : Prop :=
  ∀ c : Dev Cert.RefFfnIdeal.nD,
    (Cert.Pre_experts.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5))).1 = (fun _ => 1#1)
    ∧ (Cert.Pre_experts.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5)
      ∧ r.2.mem ((c.tc : Thread Cert.ProjIn.nD Cert.ProjIn.τ).loc Cert.ProjIn.main_arg6) = m ((c.tc : Thread Cert.ProjIn.nD Cert.ProjIn.τ).loc Cert.ProjIn.main_arg6)
      ∧ r.2.mem ((c.tc : Thread Cert.ProjIn.nD Cert.ProjIn.τ).loc Cert.ProjIn.main_arg7) = m ((c.tc : Thread Cert.ProjIn.nD Cert.ProjIn.τ).loc Cert.ProjIn.main_arg7)
      ∧ r.2.mem ((c.tc : Thread Cert.ProjIn.nD Cert.ProjIn.τ).loc Cert.ProjIn.main_arg8) = m ((c.tc : Thread Cert.ProjIn.nD Cert.ProjIn.τ).loc Cert.ProjIn.main_arg8))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
      ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ r.2.sem = fun _ => 0)

def quiescent_ProjInIdeal_pre_finite_in [hProjInIdeal : Cert.ProjInIdeal.Facts] [hPre_finite_in : Cert.Pre_finite_in.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal_finite_in m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
      ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8))
      ∧ r.2.sem = fun _ => 0)

def quiescent_RefInIdeal_pre_finite_in [hRefInIdeal : Cert.RefInIdeal.Facts] [hPre_finite_in : Cert.Pre_finite_in.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_finite_in m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7)
      ∧ r.2.mem ((c.tc : Thread Cert.ProjOut.nD Cert.ProjOut.τ).loc Cert.ProjOut.main_arg8) = m ((c.tc : Thread Cert.ProjOut.nD Cert.ProjOut.τ).loc Cert.ProjOut.main_arg8)
      ∧ r.2.mem ((c.tc : Thread Cert.ProjOut.nD Cert.ProjOut.τ).loc Cert.ProjOut.main_arg9) = m ((c.tc : Thread Cert.ProjOut.nD Cert.ProjOut.τ).loc Cert.ProjOut.main_arg9)
      ∧ r.2.mem ((c.tc : Thread Cert.ProjOut.nD Cert.ProjOut.τ).loc Cert.ProjOut.main_arg10) = m ((c.tc : Thread Cert.ProjOut.nD Cert.ProjOut.τ).loc Cert.ProjOut.main_arg10)
      ∧ r.2.mem ((c.tc : Thread Cert.ProjOut.nD Cert.ProjOut.τ).loc Cert.ProjOut.main_arg11) = m ((c.tc : Thread Cert.ProjOut.nD Cert.ProjOut.τ).loc Cert.ProjOut.main_arg11)
      ∧ r.2.mem ((c.tc : Thread Cert.ProjOut.nD Cert.ProjOut.τ).loc Cert.ProjOut.main_arg12) = m ((c.tc : Thread Cert.ProjOut.nD Cert.ProjOut.τ).loc Cert.ProjOut.main_arg12)
      ∧ r.2.mem ((c.tc : Thread Cert.ProjOut.nD Cert.ProjOut.τ).loc Cert.ProjOut.main_arg13) = m ((c.tc : Thread Cert.ProjOut.nD Cert.ProjOut.τ).loc Cert.ProjOut.main_arg13)
      ∧ r.2.mem ((c.tc : Thread Cert.ProjOut.nD Cert.ProjOut.τ).loc Cert.ProjOut.main_arg14) = m ((c.tc : Thread Cert.ProjOut.nD Cert.ProjOut.τ).loc Cert.ProjOut.main_arg14)
      ∧ r.2.mem ((c.tc : Thread Cert.ProjOut.nD Cert.ProjOut.τ).loc Cert.ProjOut.main_arg15) = m ((c.tc : Thread Cert.ProjOut.nD Cert.ProjOut.τ).loc Cert.ProjOut.main_arg15))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8)
      ∧ r.2.mem ((c.tc : Thread Cert.ProjOutIdeal.nD Cert.ProjOutIdeal.τ).loc Cert.ProjOutIdeal.main_arg9) = m ((c.tc : Thread Cert.ProjOutIdeal.nD Cert.ProjOutIdeal.τ).loc Cert.ProjOutIdeal.main_arg9)
      ∧ r.2.mem ((c.tc : Thread Cert.ProjOutIdeal.nD Cert.ProjOutIdeal.τ).loc Cert.ProjOutIdeal.main_arg10) = m ((c.tc : Thread Cert.ProjOutIdeal.nD Cert.ProjOutIdeal.τ).loc Cert.ProjOutIdeal.main_arg10)
      ∧ r.2.mem ((c.tc : Thread Cert.ProjOutIdeal.nD Cert.ProjOutIdeal.τ).loc Cert.ProjOutIdeal.main_arg11) = m ((c.tc : Thread Cert.ProjOutIdeal.nD Cert.ProjOutIdeal.τ).loc Cert.ProjOutIdeal.main_arg11)
      ∧ r.2.mem ((c.tc : Thread Cert.ProjOutIdeal.nD Cert.ProjOutIdeal.τ).loc Cert.ProjOutIdeal.main_arg12) = m ((c.tc : Thread Cert.ProjOutIdeal.nD Cert.ProjOutIdeal.τ).loc Cert.ProjOutIdeal.main_arg12)
      ∧ r.2.mem ((c.tc : Thread Cert.ProjOutIdeal.nD Cert.ProjOutIdeal.τ).loc Cert.ProjOutIdeal.main_arg13) = m ((c.tc : Thread Cert.ProjOutIdeal.nD Cert.ProjOutIdeal.τ).loc Cert.ProjOutIdeal.main_arg13)
      ∧ r.2.mem ((c.tc : Thread Cert.ProjOutIdeal.nD Cert.ProjOutIdeal.τ).loc Cert.ProjOutIdeal.main_arg14) = m ((c.tc : Thread Cert.ProjOutIdeal.nD Cert.ProjOutIdeal.τ).loc Cert.ProjOutIdeal.main_arg14)
      ∧ r.2.mem ((c.tc : Thread Cert.ProjOutIdeal.nD Cert.ProjOutIdeal.τ).loc Cert.ProjOutIdeal.main_arg15) = m ((c.tc : Thread Cert.ProjOutIdeal.nD Cert.ProjOutIdeal.τ).loc Cert.ProjOutIdeal.main_arg15))
      ∧ r.2.sem = fun _ => 0)

def quiescent_ProjOutIdeal_pre_finite_out [hProjOutIdeal : Cert.ProjOutIdeal.Facts] [hPre_finite_out : Cert.Pre_finite_out.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal_finite_out m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8)
      ∧ r.2.mem ((c.tc : Thread Cert.ProjOutIdeal.nD Cert.ProjOutIdeal.τ).loc Cert.ProjOutIdeal.main_arg9) = m ((c.tc : Thread Cert.ProjOutIdeal.nD Cert.ProjOutIdeal.τ).loc Cert.ProjOutIdeal.main_arg9)
      ∧ r.2.mem ((c.tc : Thread Cert.ProjOutIdeal.nD Cert.ProjOutIdeal.τ).loc Cert.ProjOutIdeal.main_arg10) = m ((c.tc : Thread Cert.ProjOutIdeal.nD Cert.ProjOutIdeal.τ).loc Cert.ProjOutIdeal.main_arg10)
      ∧ r.2.mem ((c.tc : Thread Cert.ProjOutIdeal.nD Cert.ProjOutIdeal.τ).loc Cert.ProjOutIdeal.main_arg11) = m ((c.tc : Thread Cert.ProjOutIdeal.nD Cert.ProjOutIdeal.τ).loc Cert.ProjOutIdeal.main_arg11)
      ∧ r.2.mem ((c.tc : Thread Cert.ProjOutIdeal.nD Cert.ProjOutIdeal.τ).loc Cert.ProjOutIdeal.main_arg12) = m ((c.tc : Thread Cert.ProjOutIdeal.nD Cert.ProjOutIdeal.τ).loc Cert.ProjOutIdeal.main_arg12)
      ∧ r.2.mem ((c.tc : Thread Cert.ProjOutIdeal.nD Cert.ProjOutIdeal.τ).loc Cert.ProjOutIdeal.main_arg13) = m ((c.tc : Thread Cert.ProjOutIdeal.nD Cert.ProjOutIdeal.τ).loc Cert.ProjOutIdeal.main_arg13)
      ∧ r.2.mem ((c.tc : Thread Cert.ProjOutIdeal.nD Cert.ProjOutIdeal.τ).loc Cert.ProjOutIdeal.main_arg14) = m ((c.tc : Thread Cert.ProjOutIdeal.nD Cert.ProjOutIdeal.τ).loc Cert.ProjOutIdeal.main_arg14)
      ∧ r.2.mem ((c.tc : Thread Cert.ProjOutIdeal.nD Cert.ProjOutIdeal.τ).loc Cert.ProjOutIdeal.main_arg15) = m ((c.tc : Thread Cert.ProjOutIdeal.nD Cert.ProjOutIdeal.τ).loc Cert.ProjOutIdeal.main_arg15))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7)
      ∧ r.2.mem ((c.tc : Thread Cert.RefOutIdeal.nD Cert.RefOutIdeal.τ).loc Cert.RefOutIdeal.main_arg8) = m ((c.tc : Thread Cert.RefOutIdeal.nD Cert.RefOutIdeal.τ).loc Cert.RefOutIdeal.main_arg8)
      ∧ r.2.mem ((c.tc : Thread Cert.RefOutIdeal.nD Cert.RefOutIdeal.τ).loc Cert.RefOutIdeal.main_arg9) = m ((c.tc : Thread Cert.RefOutIdeal.nD Cert.RefOutIdeal.τ).loc Cert.RefOutIdeal.main_arg9)
      ∧ r.2.mem ((c.tc : Thread Cert.RefOutIdeal.nD Cert.RefOutIdeal.τ).loc Cert.RefOutIdeal.main_arg10) = m ((c.tc : Thread Cert.RefOutIdeal.nD Cert.RefOutIdeal.τ).loc Cert.RefOutIdeal.main_arg10)
      ∧ r.2.mem ((c.tc : Thread Cert.RefOutIdeal.nD Cert.RefOutIdeal.τ).loc Cert.RefOutIdeal.main_arg11) = m ((c.tc : Thread Cert.RefOutIdeal.nD Cert.RefOutIdeal.τ).loc Cert.RefOutIdeal.main_arg11)
      ∧ r.2.mem ((c.tc : Thread Cert.RefOutIdeal.nD Cert.RefOutIdeal.τ).loc Cert.RefOutIdeal.main_arg12) = m ((c.tc : Thread Cert.RefOutIdeal.nD Cert.RefOutIdeal.τ).loc Cert.RefOutIdeal.main_arg12)
      ∧ r.2.mem ((c.tc : Thread Cert.RefOutIdeal.nD Cert.RefOutIdeal.τ).loc Cert.RefOutIdeal.main_arg13) = m ((c.tc : Thread Cert.RefOutIdeal.nD Cert.RefOutIdeal.τ).loc Cert.RefOutIdeal.main_arg13)
      ∧ r.2.mem ((c.tc : Thread Cert.RefOutIdeal.nD Cert.RefOutIdeal.τ).loc Cert.RefOutIdeal.main_arg14) = m ((c.tc : Thread Cert.RefOutIdeal.nD Cert.RefOutIdeal.τ).loc Cert.RefOutIdeal.main_arg14)
      ∧ r.2.mem ((c.tc : Thread Cert.RefOutIdeal.nD Cert.RefOutIdeal.τ).loc Cert.RefOutIdeal.main_arg15) = m ((c.tc : Thread Cert.RefOutIdeal.nD Cert.RefOutIdeal.τ).loc Cert.RefOutIdeal.main_arg15))
      ∧ r.2.sem = fun _ => 0)

def quiescent_RefOutIdeal_pre_finite_out [hRefOutIdeal : Cert.RefOutIdeal.Facts] [hPre_finite_out : Cert.Pre_finite_out.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal_finite_out m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7)
      ∧ r.2.mem ((c.tc : Thread Cert.RefOutIdeal.nD Cert.RefOutIdeal.τ).loc Cert.RefOutIdeal.main_arg8) = m ((c.tc : Thread Cert.RefOutIdeal.nD Cert.RefOutIdeal.τ).loc Cert.RefOutIdeal.main_arg8)
      ∧ r.2.mem ((c.tc : Thread Cert.RefOutIdeal.nD Cert.RefOutIdeal.τ).loc Cert.RefOutIdeal.main_arg9) = m ((c.tc : Thread Cert.RefOutIdeal.nD Cert.RefOutIdeal.τ).loc Cert.RefOutIdeal.main_arg9)
      ∧ r.2.mem ((c.tc : Thread Cert.RefOutIdeal.nD Cert.RefOutIdeal.τ).loc Cert.RefOutIdeal.main_arg10) = m ((c.tc : Thread Cert.RefOutIdeal.nD Cert.RefOutIdeal.τ).loc Cert.RefOutIdeal.main_arg10)
      ∧ r.2.mem ((c.tc : Thread Cert.RefOutIdeal.nD Cert.RefOutIdeal.τ).loc Cert.RefOutIdeal.main_arg11) = m ((c.tc : Thread Cert.RefOutIdeal.nD Cert.RefOutIdeal.τ).loc Cert.RefOutIdeal.main_arg11)
      ∧ r.2.mem ((c.tc : Thread Cert.RefOutIdeal.nD Cert.RefOutIdeal.τ).loc Cert.RefOutIdeal.main_arg12) = m ((c.tc : Thread Cert.RefOutIdeal.nD Cert.RefOutIdeal.τ).loc Cert.RefOutIdeal.main_arg12)
      ∧ r.2.mem ((c.tc : Thread Cert.RefOutIdeal.nD Cert.RefOutIdeal.τ).loc Cert.RefOutIdeal.main_arg13) = m ((c.tc : Thread Cert.RefOutIdeal.nD Cert.RefOutIdeal.τ).loc Cert.RefOutIdeal.main_arg13)
      ∧ r.2.mem ((c.tc : Thread Cert.RefOutIdeal.nD Cert.RefOutIdeal.τ).loc Cert.RefOutIdeal.main_arg14) = m ((c.tc : Thread Cert.RefOutIdeal.nD Cert.RefOutIdeal.τ).loc Cert.RefOutIdeal.main_arg14)
      ∧ r.2.mem ((c.tc : Thread Cert.RefOutIdeal.nD Cert.RefOutIdeal.τ).loc Cert.RefOutIdeal.main_arg15) = m ((c.tc : Thread Cert.RefOutIdeal.nD Cert.RefOutIdeal.τ).loc Cert.RefOutIdeal.main_arg15))
      ∧ r.2.sem = fun _ => 0)

def quiescent_Ffn [hFfn : Cert.Ffn.Facts] [hPre_experts : Cert.Pre_experts.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_experts : Cert.Pre_experts.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_RefFfnIdeal_pre_experts [hRefFfnIdeal : Cert.RefFfnIdeal.Facts] [hPre_experts : Cert.Pre_experts.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal_experts m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ProjIn_ProjInIdeal : Prop :=
  True

def algebraic_ProjInIdeal_RefInIdeal_pre_finite_in [hProjInIdeal : Cert.ProjInIdeal.Facts] [hRefInIdeal : Cert.RefInIdeal.Facts] [hPre_finite_in : Cert.Pre_finite_in.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.RefInIdeal.nD Cert.RefInIdeal.τ Cert.RefInIdeal.sig) → Buf (Elt Ideal) ℓ) (g' : Dev Cert.RefInIdeal.nD → PrngReg), Pre_ProjInIdeal_finite_in m →
    (∀ c : Dev Cert.ProjInIdeal.nD,
      m' ((c.tc : Thread Cert.RefInIdeal.nD Cert.RefInIdeal.τ).loc Cert.RefInIdeal.main_arg0) = m ((c.tc : Thread Cert.ProjInIdeal.nD Cert.ProjInIdeal.τ).loc Cert.ProjInIdeal.main_arg0)
      ∧ m' ((c.tc : Thread Cert.RefInIdeal.nD Cert.RefInIdeal.τ).loc Cert.RefInIdeal.main_arg1) = m ((c.tc : Thread Cert.ProjInIdeal.nD Cert.ProjInIdeal.τ).loc Cert.ProjInIdeal.main_arg1)
      ∧ m' ((c.tc : Thread Cert.RefInIdeal.nD Cert.RefInIdeal.τ).loc Cert.RefInIdeal.main_arg2) = m ((c.tc : Thread Cert.ProjInIdeal.nD Cert.ProjInIdeal.τ).loc Cert.ProjInIdeal.main_arg2)
      ∧ m' ((c.tc : Thread Cert.RefInIdeal.nD Cert.RefInIdeal.τ).loc Cert.RefInIdeal.main_arg3) = m ((c.tc : Thread Cert.ProjInIdeal.nD Cert.ProjInIdeal.τ).loc Cert.ProjInIdeal.main_arg3)
      ∧ m' ((c.tc : Thread Cert.RefInIdeal.nD Cert.RefInIdeal.τ).loc Cert.RefInIdeal.main_arg4) = m ((c.tc : Thread Cert.ProjInIdeal.nD Cert.ProjInIdeal.τ).loc Cert.ProjInIdeal.main_arg4)
      ∧ m' ((c.tc : Thread Cert.RefInIdeal.nD Cert.RefInIdeal.τ).loc Cert.RefInIdeal.main_arg5) = m ((c.tc : Thread Cert.ProjInIdeal.nD Cert.ProjInIdeal.τ).loc Cert.ProjInIdeal.main_arg5)
      ∧ m' ((c.tc : Thread Cert.RefInIdeal.nD Cert.RefInIdeal.τ).loc Cert.RefInIdeal.main_arg6) = m ((c.tc : Thread Cert.ProjInIdeal.nD Cert.ProjInIdeal.τ).loc Cert.ProjInIdeal.main_arg6)
      ∧ m' ((c.tc : Thread Cert.RefInIdeal.nD Cert.RefInIdeal.τ).loc Cert.RefInIdeal.main_arg7) = m ((c.tc : Thread Cert.ProjInIdeal.nD Cert.ProjInIdeal.τ).loc Cert.ProjInIdeal.main_arg7)
      ∧ m' ((c.tc : Thread Cert.RefInIdeal.nD Cert.RefInIdeal.τ).loc Cert.RefInIdeal.main_arg8) = m ((c.tc : Thread Cert.ProjInIdeal.nD Cert.ProjInIdeal.τ).loc Cert.ProjInIdeal.main_arg8)) →
    ∃ (v0 : (c : Dev Cert.ProjInIdeal.nD) → Buf (Elt Ideal) ((c.tc : Thread Cert.ProjInIdeal.nD Cert.ProjInIdeal.τ).loc Cert.ProjInIdeal.main_v28_0)) (v1 : (c : Dev Cert.ProjInIdeal.nD) → Buf (Elt Ideal) ((c.tc : Thread Cert.ProjInIdeal.nD Cert.ProjInIdeal.τ).loc Cert.ProjInIdeal.main_v28_1)) (v2 : (c : Dev Cert.ProjInIdeal.nD) → Buf (Elt Ideal) ((c.tc : Thread Cert.ProjInIdeal.nD Cert.ProjInIdeal.τ).loc Cert.ProjInIdeal.main_v28_2)) (v3 : (c : Dev Cert.ProjInIdeal.nD) → Buf (Elt Ideal) ((c.tc : Thread Cert.ProjInIdeal.nD Cert.ProjInIdeal.τ).loc Cert.ProjInIdeal.main_v28_3)) (v4 : (c : Dev Cert.ProjInIdeal.nD) → Buf (Elt Ideal) ((c.tc : Thread Cert.ProjInIdeal.nD Cert.ProjInIdeal.τ).loc Cert.ProjInIdeal.main_v28_4)) (v5 : (c : Dev Cert.ProjInIdeal.nD) → Buf (Elt Ideal) ((c.tc : Thread Cert.ProjInIdeal.nD Cert.ProjInIdeal.τ).loc Cert.ProjInIdeal.main_v28_5)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v28_0) = v0 c
          ∧ r.2.mem ((c.tc : Thread Cert.ProjInIdeal.nD Cert.ProjInIdeal.τ).loc Cert.ProjInIdeal.main_v28_1) = v1 c
          ∧ r.2.mem ((c.tc : Thread Cert.ProjInIdeal.nD Cert.ProjInIdeal.τ).loc Cert.ProjInIdeal.main_v28_2) = v2 c
          ∧ r.2.mem ((c.tc : Thread Cert.ProjInIdeal.nD Cert.ProjInIdeal.τ).loc Cert.ProjInIdeal.main_v28_3) = v3 c
          ∧ r.2.mem ((c.tc : Thread Cert.ProjInIdeal.nD Cert.ProjInIdeal.τ).loc Cert.ProjInIdeal.main_v28_4) = v4 c
          ∧ r.2.mem ((c.tc : Thread Cert.ProjInIdeal.nD Cert.ProjInIdeal.τ).loc Cert.ProjInIdeal.main_v28_5) = v5 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
          ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
          ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
          ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v98) = v0 c
          ∧ r.2.mem ((c.tc : Thread Cert.RefInIdeal.nD Cert.RefInIdeal.τ).loc Cert.RefInIdeal.main_v103) = v1 c
          ∧ r.2.mem ((c.tc : Thread Cert.RefInIdeal.nD Cert.RefInIdeal.τ).loc Cert.RefInIdeal.main_v108) = v2 c
          ∧ r.2.mem ((c.tc : Thread Cert.RefInIdeal.nD Cert.RefInIdeal.τ).loc Cert.RefInIdeal.main_v113) = v3 c
          ∧ r.2.mem ((c.tc : Thread Cert.RefInIdeal.nD Cert.RefInIdeal.τ).loc Cert.RefInIdeal.main_v120) = v4 c
          ∧ r.2.mem ((c.tc : Thread Cert.RefInIdeal.nD Cert.RefInIdeal.τ).loc Cert.RefInIdeal.main_v126) = v5 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7)
          ∧ r.2.mem ((c.tc : Thread Cert.RefInIdeal.nD Cert.RefInIdeal.τ).loc Cert.RefInIdeal.main_arg8) = m' ((c.tc : Thread Cert.RefInIdeal.nD Cert.RefInIdeal.τ).loc Cert.RefInIdeal.main_arg8))

def preserves_ProjOut_ProjOutIdeal : Prop :=
  True

def algebraic_ProjOutIdeal_RefOutIdeal_pre_finite_out [hProjOutIdeal : Cert.ProjOutIdeal.Facts] [hRefOutIdeal : Cert.RefOutIdeal.Facts] [hPre_finite_out : Cert.Pre_finite_out.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_ProjOutIdeal_finite_out m →
    (∀ c : Dev Cert.ProjOutIdeal.nD,
      m' ((c.tc : Thread Cert.RefOutIdeal.nD Cert.RefOutIdeal.τ).loc Cert.RefOutIdeal.main_arg0) = m ((c.tc : Thread Cert.ProjOutIdeal.nD Cert.ProjOutIdeal.τ).loc Cert.ProjOutIdeal.main_arg0)
      ∧ m' ((c.tc : Thread Cert.RefOutIdeal.nD Cert.RefOutIdeal.τ).loc Cert.RefOutIdeal.main_arg1) = m ((c.tc : Thread Cert.ProjOutIdeal.nD Cert.ProjOutIdeal.τ).loc Cert.ProjOutIdeal.main_arg1)
      ∧ m' ((c.tc : Thread Cert.RefOutIdeal.nD Cert.RefOutIdeal.τ).loc Cert.RefOutIdeal.main_arg2) = m ((c.tc : Thread Cert.ProjOutIdeal.nD Cert.ProjOutIdeal.τ).loc Cert.ProjOutIdeal.main_arg2)
      ∧ m' ((c.tc : Thread Cert.RefOutIdeal.nD Cert.RefOutIdeal.τ).loc Cert.RefOutIdeal.main_arg3) = m ((c.tc : Thread Cert.ProjOutIdeal.nD Cert.ProjOutIdeal.τ).loc Cert.ProjOutIdeal.main_arg3)
      ∧ m' ((c.tc : Thread Cert.RefOutIdeal.nD Cert.RefOutIdeal.τ).loc Cert.RefOutIdeal.main_arg4) = m ((c.tc : Thread Cert.ProjOutIdeal.nD Cert.ProjOutIdeal.τ).loc Cert.ProjOutIdeal.main_arg4)
      ∧ m' ((c.tc : Thread Cert.RefOutIdeal.nD Cert.RefOutIdeal.τ).loc Cert.RefOutIdeal.main_arg5) = m ((c.tc : Thread Cert.ProjOutIdeal.nD Cert.ProjOutIdeal.τ).loc Cert.ProjOutIdeal.main_arg5)
      ∧ m' ((c.tc : Thread Cert.RefOutIdeal.nD Cert.RefOutIdeal.τ).loc Cert.RefOutIdeal.main_arg6) = m ((c.tc : Thread Cert.ProjOutIdeal.nD Cert.ProjOutIdeal.τ).loc Cert.ProjOutIdeal.main_arg6)
      ∧ m' ((c.tc : Thread Cert.RefOutIdeal.nD Cert.RefOutIdeal.τ).loc Cert.RefOutIdeal.main_arg7) = m ((c.tc : Thread Cert.ProjOutIdeal.nD Cert.ProjOutIdeal.τ).loc Cert.ProjOutIdeal.main_arg7)
      ∧ m' ((c.tc : Thread Cert.RefOutIdeal.nD Cert.RefOutIdeal.τ).loc Cert.RefOutIdeal.main_arg8) = m ((c.tc : Thread Cert.ProjOutIdeal.nD Cert.ProjOutIdeal.τ).loc Cert.ProjOutIdeal.main_arg8)
      ∧ m' ((c.tc : Thread Cert.RefOutIdeal.nD Cert.RefOutIdeal.τ).loc Cert.RefOutIdeal.main_arg9) = m ((c.tc : Thread Cert.ProjOutIdeal.nD Cert.ProjOutIdeal.τ).loc Cert.ProjOutIdeal.main_arg9)
      ∧ m' ((c.tc : Thread Cert.RefOutIdeal.nD Cert.RefOutIdeal.τ).loc Cert.RefOutIdeal.main_arg10) = m ((c.tc : Thread Cert.ProjOutIdeal.nD Cert.ProjOutIdeal.τ).loc Cert.ProjOutIdeal.main_arg10)
      ∧ m' ((c.tc : Thread Cert.RefOutIdeal.nD Cert.RefOutIdeal.τ).loc Cert.RefOutIdeal.main_arg11) = m ((c.tc : Thread Cert.ProjOutIdeal.nD Cert.ProjOutIdeal.τ).loc Cert.ProjOutIdeal.main_arg11)
      ∧ m' ((c.tc : Thread Cert.RefOutIdeal.nD Cert.RefOutIdeal.τ).loc Cert.RefOutIdeal.main_arg12) = m ((c.tc : Thread Cert.ProjOutIdeal.nD Cert.ProjOutIdeal.τ).loc Cert.ProjOutIdeal.main_arg12)
      ∧ m' ((c.tc : Thread Cert.RefOutIdeal.nD Cert.RefOutIdeal.τ).loc Cert.RefOutIdeal.main_arg13) = m ((c.tc : Thread Cert.ProjOutIdeal.nD Cert.ProjOutIdeal.τ).loc Cert.ProjOutIdeal.main_arg13)
      ∧ m' ((c.tc : Thread Cert.RefOutIdeal.nD Cert.RefOutIdeal.τ).loc Cert.RefOutIdeal.main_arg14) = m ((c.tc : Thread Cert.ProjOutIdeal.nD Cert.ProjOutIdeal.τ).loc Cert.ProjOutIdeal.main_arg14)
      ∧ m' ((c.tc : Thread Cert.RefOutIdeal.nD Cert.RefOutIdeal.τ).loc Cert.RefOutIdeal.main_arg15) = m ((c.tc : Thread Cert.ProjOutIdeal.nD Cert.ProjOutIdeal.τ).loc Cert.ProjOutIdeal.main_arg15)) →
    ∃ (v0 : (c : Dev Cert.ProjOutIdeal.nD) → Buf (Elt Ideal) ((c.tc : Thread Cert.ProjOutIdeal.nD Cert.ProjOutIdeal.τ).loc Cert.ProjOutIdeal.main_v31)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v31) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
          ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8)
          ∧ r.2.mem ((c.tc : Thread Cert.ProjOutIdeal.nD Cert.ProjOutIdeal.τ).loc Cert.ProjOutIdeal.main_arg9) = m ((c.tc : Thread Cert.ProjOutIdeal.nD Cert.ProjOutIdeal.τ).loc Cert.ProjOutIdeal.main_arg9)
          ∧ r.2.mem ((c.tc : Thread Cert.ProjOutIdeal.nD Cert.ProjOutIdeal.τ).loc Cert.ProjOutIdeal.main_arg10) = m ((c.tc : Thread Cert.ProjOutIdeal.nD Cert.ProjOutIdeal.τ).loc Cert.ProjOutIdeal.main_arg10)
          ∧ r.2.mem ((c.tc : Thread Cert.ProjOutIdeal.nD Cert.ProjOutIdeal.τ).loc Cert.ProjOutIdeal.main_arg11) = m ((c.tc : Thread Cert.ProjOutIdeal.nD Cert.ProjOutIdeal.τ).loc Cert.ProjOutIdeal.main_arg11)
          ∧ r.2.mem ((c.tc : Thread Cert.ProjOutIdeal.nD Cert.ProjOutIdeal.τ).loc Cert.ProjOutIdeal.main_arg12) = m ((c.tc : Thread Cert.ProjOutIdeal.nD Cert.ProjOutIdeal.τ).loc Cert.ProjOutIdeal.main_arg12)
          ∧ r.2.mem ((c.tc : Thread Cert.ProjOutIdeal.nD Cert.ProjOutIdeal.τ).loc Cert.ProjOutIdeal.main_arg13) = m ((c.tc : Thread Cert.ProjOutIdeal.nD Cert.ProjOutIdeal.τ).loc Cert.ProjOutIdeal.main_arg13)
          ∧ r.2.mem ((c.tc : Thread Cert.ProjOutIdeal.nD Cert.ProjOutIdeal.τ).loc Cert.ProjOutIdeal.main_arg14) = m ((c.tc : Thread Cert.ProjOutIdeal.nD Cert.ProjOutIdeal.τ).loc Cert.ProjOutIdeal.main_arg14)
          ∧ r.2.mem ((c.tc : Thread Cert.ProjOutIdeal.nD Cert.ProjOutIdeal.τ).loc Cert.ProjOutIdeal.main_arg15) = m ((c.tc : Thread Cert.ProjOutIdeal.nD Cert.ProjOutIdeal.τ).loc Cert.ProjOutIdeal.main_arg15))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v64) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7)
          ∧ r.2.mem ((c.tc : Thread Cert.RefOutIdeal.nD Cert.RefOutIdeal.τ).loc Cert.RefOutIdeal.main_arg8) = m' ((c.tc : Thread Cert.RefOutIdeal.nD Cert.RefOutIdeal.τ).loc Cert.RefOutIdeal.main_arg8)
          ∧ r.2.mem ((c.tc : Thread Cert.RefOutIdeal.nD Cert.RefOutIdeal.τ).loc Cert.RefOutIdeal.main_arg9) = m' ((c.tc : Thread Cert.RefOutIdeal.nD Cert.RefOutIdeal.τ).loc Cert.RefOutIdeal.main_arg9)
          ∧ r.2.mem ((c.tc : Thread Cert.RefOutIdeal.nD Cert.RefOutIdeal.τ).loc Cert.RefOutIdeal.main_arg10) = m' ((c.tc : Thread Cert.RefOutIdeal.nD Cert.RefOutIdeal.τ).loc Cert.RefOutIdeal.main_arg10)
          ∧ r.2.mem ((c.tc : Thread Cert.RefOutIdeal.nD Cert.RefOutIdeal.τ).loc Cert.RefOutIdeal.main_arg11) = m' ((c.tc : Thread Cert.RefOutIdeal.nD Cert.RefOutIdeal.τ).loc Cert.RefOutIdeal.main_arg11)
          ∧ r.2.mem ((c.tc : Thread Cert.RefOutIdeal.nD Cert.RefOutIdeal.τ).loc Cert.RefOutIdeal.main_arg12) = m' ((c.tc : Thread Cert.RefOutIdeal.nD Cert.RefOutIdeal.τ).loc Cert.RefOutIdeal.main_arg12)
          ∧ r.2.mem ((c.tc : Thread Cert.RefOutIdeal.nD Cert.RefOutIdeal.τ).loc Cert.RefOutIdeal.main_arg13) = m' ((c.tc : Thread Cert.RefOutIdeal.nD Cert.RefOutIdeal.τ).loc Cert.RefOutIdeal.main_arg13)
          ∧ r.2.mem ((c.tc : Thread Cert.RefOutIdeal.nD Cert.RefOutIdeal.τ).loc Cert.RefOutIdeal.main_arg14) = m' ((c.tc : Thread Cert.RefOutIdeal.nD Cert.RefOutIdeal.τ).loc Cert.RefOutIdeal.main_arg14)
          ∧ r.2.mem ((c.tc : Thread Cert.RefOutIdeal.nD Cert.RefOutIdeal.τ).loc Cert.RefOutIdeal.main_arg15) = m' ((c.tc : Thread Cert.RefOutIdeal.nD Cert.RefOutIdeal.τ).loc Cert.RefOutIdeal.main_arg15))

def preserves_Ffn_FfnIdeal : Prop :=
  True

def algebraic_FfnIdeal_RefFfnIdeal [hFfnIdeal : Cert.FfnIdeal.Facts] [hRefFfnIdeal : Cert.RefFfnIdeal.Facts] [hPre_experts : Cert.Pre_experts.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v39) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def Claim : Prop :=
  ∃ (hKernel : Cert.Kernel.Facts) (hKernelIdeal : Cert.KernelIdeal.Facts) (hReferenceIdeal : Cert.ReferenceIdeal.Facts) (hProjIn : Cert.ProjIn.Facts) (hProjInIdeal : Cert.ProjInIdeal.Facts) (hRefInIdeal : Cert.RefInIdeal.Facts) (hProjOut : Cert.ProjOut.Facts) (hProjOutIdeal : Cert.ProjOutIdeal.Facts) (hRefOutIdeal : Cert.RefOutIdeal.Facts) (hFfn : Cert.Ffn.Facts) (hFfnIdeal : Cert.FfnIdeal.Facts) (hRefFfnIdeal : Cert.RefFfnIdeal.Facts) (hPre_finite : Cert.Pre_finite.Facts) (hPre_finite_in : Cert.Pre_finite_in.Facts) (hPre_finite_out : Cert.Pre_finite_out.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjIn (hProjIn := hProjIn)
    ∧ quiescent_ProjInIdeal (hProjInIdeal := hProjInIdeal)
    ∧ quiescent_ProjInIdeal_pre_finite_in (hProjInIdeal := hProjInIdeal) (hPre_finite_in := hPre_finite_in)
    ∧ quiescent_RefInIdeal (hRefInIdeal := hRefInIdeal)
    ∧ quiescent_RefInIdeal_pre_finite_in (hRefInIdeal := hRefInIdeal) (hPre_finite_in := hPre_finite_in)
    ∧ quiescent_ProjOut (hProjOut := hProjOut)
    ∧ quiescent_ProjOutIdeal (hProjOutIdeal := hProjOutIdeal)
    ∧ quiescent_ProjOutIdeal_pre_finite_out (hProjOutIdeal := hProjOutIdeal) (hPre_finite_out := hPre_finite_out)
    ∧ quiescent_RefOutIdeal (hRefOutIdeal := hRefOutIdeal)
    ∧ quiescent_RefOutIdeal_pre_finite_out (hRefOutIdeal := hRefOutIdeal) (hPre_finite_out := hPre_finite_out)
    ∧ quiescent_Ffn (hFfn := hFfn) (hPre_experts := hPre_experts)
    ∧ quiescent_FfnIdeal (hFfnIdeal := hFfnIdeal) (hPre_experts := hPre_experts)
    ∧ quiescent_RefFfnIdeal (hRefFfnIdeal := hRefFfnIdeal)
    ∧ quiescent_RefFfnIdeal_pre_experts (hRefFfnIdeal := hRefFfnIdeal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjIn_ProjInIdeal
    ∧ algebraic_ProjInIdeal_RefInIdeal_pre_finite_in (hProjInIdeal := hProjInIdeal) (hRefInIdeal := hRefInIdeal) (hPre_finite_in := hPre_finite_in)
    ∧ preserves_ProjOut_ProjOutIdeal
    ∧ algebraic_ProjOutIdeal_RefOutIdeal_pre_finite_out (hProjOutIdeal := hProjOutIdeal) (hRefOutIdeal := hRefOutIdeal) (hPre_finite_out := hPre_finite_out)
    ∧ preserves_Ffn_FfnIdeal
    ∧ algebraic_FfnIdeal_RefFfnIdeal (hFfnIdeal := hFfnIdeal) (hRefFfnIdeal := hRefFfnIdeal) (hPre_experts := hPre_experts)
-- ==== Pre_experts.lean ====
abbrev S168 : Shape := ⟨1, ![168]⟩
abbrev S1 : Shape := ⟨1, ![1]⟩
abbrev S86016x1024 : Shape := ⟨2, ![86016, 1024]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : IVec S168 32) (main_arg1 : IVec S1 32) (main_arg2 : FVec F S86016x1024 .f32) (main_arg3 : FVec F S2x32x1024x512 .f32) (main_arg4 : FVec F S2x32x1024x512 .f32) (main_arg5 : FVec F S2x32x512x1024 .f32) : IVec S168 1 × IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  (main_v1, main_v3)
-- ==== Pre_finite.lean ====
abbrev S8x4096x512 : Shape := ⟨3, ![8, 4096, 512]⟩
abbrev S8x256x512 : Shape := ⟨3, ![8, 256, 512]⟩
abbrev S4x64 : Shape := ⟨2, ![4, 64]⟩
abbrev S128 : Shape := ⟨1, ![128]⟩
abbrev S_ : Shape := ⟨0, ![]⟩

class Facts : Prop where
  bcast_S_S8x4096x512 : S_.BroadcastsInDim S8x4096x512 (![] : Fin 0 → Fin S8x4096x512.rank)
  bcast_S_S8x256x512 : S_.BroadcastsInDim S8x256x512 (![] : Fin 0 → Fin S8x256x512.rank)
  bcast_S_S4x64 : S_.BroadcastsInDim S4x64 (![] : Fin 0 → Fin S4x64.rank)

variable [Facts]

def fn {F : FTy → Type} [FloatOps F] (main_arg0 : FVec F S8x4096x512 .f32) (main_arg1 : FVec F S8x4096x512 .f32) (main_arg2 : FVec F S8x4096x512 .f32) (main_arg3 : FVec F S8x256x512 .f32) (main_arg4 : FVec F S8x256x512 .f32) (main_arg5 : FVec F S8x256x512 .f32) (main_arg6 : FVec F S4x64 .f32) (main_arg7 : FVec F S128 .f32) : IVec S8x4096x512 1 × IVec S8x4096x512 1 × IVec S8x4096x512 1 × IVec S8x256x512 1 × IVec S8x256x512 1 × IVec S4x64 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x512 .f32 := Host.absf main_arg1
  let main_cst_0 : FVec F S_ .f32 := constant S_ .f32 0x7F800000#32
  let main_v4 : FVec F S8x4096x512 .f32 := broadcastInDim S8x4096x512 ![] bcast_S_S8x4096x512 main_cst_0
  let main_v5 : IVec S8x4096x512 1 := cmpf .olt main_v3 main_v4
  let main_v6 : FVec F S8x4096x512 .f32 := Host.absf main_arg2
  let main_cst_1 : FVec F S_ .f32 := constant S_ .f32 0x7F800000#32
  let main_v7 : FVec F S8x4096x512 .f32 := broadcastInDim S8x4096x512 ![] bcast_S_S8x4096x512 main_cst_1
  let main_v8 : IVec S8x4096x512 1 := cmpf .olt main_v6 main_v7
  let main_v9 : FVec F S8x256x512 .f32 := Host.absf main_arg4
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_v12 : FVec F S8x256x512 .f32 := Host.absf main_arg5
  let main_cst_3 : FVec F S_ .f32 := constant S_ .f32 0x7F800000#32
  let main_v13 : FVec F S8x256x512 .f32 := broadcastInDim S8x256x512 ![] bcast_S_S8x256x512 main_cst_3
  let main_v14 : IVec S8x256x512 1 := cmpf .olt main_v12 main_v13
  let main_v15 : FVec F S4x64 .f32 := Host.absf main_arg6
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Pre_finite_in.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x3344 : Shape := ⟨2, ![1024, 3344]⟩
abbrev S3344 : Shape := ⟨1, ![3344]⟩
abbrev S4096x64 : Shape := ⟨2, ![4096, 64]⟩
abbrev S8x2048 : Shape := ⟨2, ![8, 2048]⟩
abbrev S1024x1024 : Shape := ⟨2, ![1024, 1024]⟩
abbrev S_ : Shape := ⟨0, ![]⟩

class Facts : Prop where
  slices_S8x6144_S8x2048_0_0 : S8x6144.Slices ![0, 0] S8x2048
  slices_S1024x3344_S1024x1024_0_1808 : S1024x3344.Slices ![0, 1808] S1024x1024
  slices_S3344_S1024_1808 : S3344.Slices ![1808] S1024
  bcast_S_S8x2048 : S_.BroadcastsInDim S8x2048 (![] : Fin 0 → Fin S8x2048.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8x4096x1024 .f32) (main_arg1 : FVec F S8x256x1024 .f32) (main_arg2 : FVec F S8x6144 .f32) (main_arg3 : FVec F S6144 .f32) (main_arg4 : FVec F S1024 .f32) (main_arg5 : FVec F S1024x3344 .f32) (main_arg6 : FVec F S3344 .f32) (main_arg7 : FVec F S4096x64 .f32) (main_arg8 : FVec F S4096x64 .f32) : IVec S8x2048 1 × IVec S1024 1 × IVec S1024x1024 1 × IVec S1024 1 :=
  let main_v0 : FVec F S8x2048 .f32 := (extractStridedSlice S8x2048 ![0, 0] · slices_S8x6144_S8x2048_0_0) main_arg2
  let main_v1 : FVec F S1024x1024 .f32 := (extractStridedSlice S1024x1024 ![0, 1808] · slices_S1024x3344_S1024x1024_0_1808) main_arg5
  let main_v2 : FVec F S1024 .f32 := (extractStridedSlice S1024 ![1808] · slices_S3344_S1024_1808) main_arg6
  let main_v3 : FVec F S8x2048 .f32 := Host.absf main_v0
  let main_cst : FVec F S_ .f32 := constant S_ .f32 0x7F800000#32
  let main_v4 : FVec F S8x2048 .f32 := broadcastInDim S8x2048 ![] bcast_S_S8x2048 main_cst
  let main_v5 : IVec S8x2048 1 := cmpf .olt main_v3 main_v4
  let main_v6 : FVec F S1024 .f32 := Host.absf main_arg4
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_v9 : FVec F S1024x1024 .f32 := Host.absf main_v1
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  let main_v12 : FVec F S1024 .f32 := Host.absf main_v2
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  (main_v5, main_v8, main_v11, main_v14)
-- ==== Pre_finite_out.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S256 : Shape := ⟨1, ![256]⟩
abbrev S1024x1024 : Shape := ⟨2, ![1024, 1024]⟩
abbrev S_ : Shape := ⟨0, ![]⟩

class Facts : Prop where
  bcast_S_S8x4096x256 : S_.BroadcastsInDim S8x4096x256 (![] : Fin 0 → Fin S8x4096x256.rank)
  bcast_S_S8x256x256 : S_.BroadcastsInDim S8x256x256 (![] : Fin 0 → Fin S8x256x256.rank)

variable [Facts]

def fn {F : FTy → Type} [FloatOps F] (main_arg0 : FVec F S8x4096x1024 .f32) (main_arg1 : FVec F S8x256x1024 .f32) (main_arg2 : FVec F S8x6144 .f32) (main_arg3 : FVec F S6144 .f32) (main_arg4 : FVec F S8x4096x256 .f32) (main_arg5 : FVec F S8x256x256 .f32) (main_arg6 : FVec F S8x4096x256 .f32) (main_arg7 : FVec F S8x256x256 .f32) (main_arg8 : FVec F S8x4096x256 .f32) (main_arg9 : FVec F S8x256x256 .f32) (main_arg10 : FVec F S8x4096x256 .f32) (main_arg11 : FVec F S8x256x256 .f32) (main_arg12 : FVec F S8x4096x512 .f32) (main_arg13 : FVec F S8x256x512 .f32) (main_arg14 : FVec F S256 .f32) (main_arg15 : FVec F S1024x1024 .f32) : IVec S8x4096x256 1 × IVec S8x256x256 1 × IVec S8x4096x256 1 × IVec S8x256x256 1 :=
  let main_v0 : FVec F S8x4096x256 .f32 := Host.absf main_arg6
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x256x256 .f32 := Host.absf main_arg7
  let main_cst_0 : FVec F S_ .f32 := constant S_ .f32 0x7F800000#32
  let main_v4 : FVec F S8x256x256 .f32 := broadcastInDim S8x256x256 ![] bcast_S_S8x256x256 main_cst_0
  let main_v5 : IVec S8x256x256 1 := cmpf .olt main_v3 main_v4
  let main_v6 : FVec F S8x4096x256 .f32 := Host.absf main_arg8
  let main_cst_1 : FVec F S_ .f32 := constant S_ .f32 0x7F800000#32
  let main_v7 : FVec F S8x4096x256 .f32 := broadcastInDim S8x4096x256 ![] bcast_S_S8x4096x256 main_cst_1
  let main_v8 : IVec S8x4096x256 1 := cmpf .olt main_v6 main_v7
  let main_v9 : FVec F S8x256x256 .f32 := Host.absf main_arg9
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  (main_v2, main_v5, main_v8, main_v11)
-- ==== Kernel.lean ====
abbrev S8x4096x512 : Shape := ⟨3, ![8, 4096, 512]⟩
abbrev S8x256x512 : Shape := ⟨3, ![8, 256, 512]⟩
abbrev S4x64 : Shape := ⟨2, ![4, 64]⟩
abbrev S128 : Shape := ⟨1, ![128]⟩
abbrev S32768x512 : Shape := ⟨2, ![32768, 512]⟩
abbrev S2048x512 : Shape := ⟨2, ![2048, 512]⟩
abbrev S34816x512 : Shape := ⟨2, ![34816, 512]⟩
abbrev S512x34816 : Shape := ⟨2, ![512, 34816]⟩
abbrev S128x1 : Shape := ⟨2, ![128, 1]⟩
abbrev S1024x128 : Shape := ⟨2, ![1024, 128]⟩
abbrev S4096x128 : Shape := ⟨2, ![4096, 128]⟩
abbrev S256x128 : Shape := ⟨2, ![256, 128]⟩
abbrev S128x4096 : Shape := ⟨2, ![128, 4096]⟩
abbrev S128x256 : Shape := ⟨2, ![128, 256]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S512x128 : Shape := ⟨2, ![512, 128]⟩
abbrev S4096x512 : Shape := ⟨2, ![4096, 512]⟩
abbrev S256x512 : Shape := ⟨2, ![256, 512]⟩
abbrev S512 : Shape := ⟨1, ![512]⟩
abbrev S1x512 : Shape := ⟨2, ![1, 512]⟩
abbrev S128x512 : Shape := ⟨2, ![128, 512]⟩

abbrev nBuf : Space → Nat
  | .hbm => 23
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S4x64, .f32⟩
  | .hbm, ⟨7, _⟩ => ⟨S128, .f32⟩
  | .hbm, ⟨8, _⟩ => ⟨S32768x512, .f32⟩
  | .hbm, ⟨9, _⟩ => ⟨S2048x512, .f32⟩
  | .hbm, ⟨10, _⟩ => ⟨S34816x512, .f32⟩
  | .hbm, ⟨11, _⟩ => ⟨S34816x512, .bf16⟩
  | .hbm, ⟨12, _⟩ => ⟨S32768x512, .f32⟩
  | .hbm, ⟨13, _⟩ => ⟨S2048x512, .f32⟩
  | .hbm, ⟨14, _⟩ => ⟨S34816x512, .f32⟩
  | .hbm, ⟨15, _⟩ => ⟨S34816x512, .bf16⟩
  | .hbm, ⟨16, _⟩ => ⟨S32768x512, .f32⟩
  | .hbm, ⟨17, _⟩ => ⟨S2048x512, .f32⟩
  | .hbm, ⟨18, _⟩ => ⟨S34816x512, .f32⟩
  | .hbm, ⟨19, _⟩ => ⟨S512x34816, .f32⟩
  | .hbm, ⟨20, _⟩ => ⟨S512x34816, .bf16⟩
  | .hbm, ⟨21, _⟩ => ⟨S128x1, .f32⟩
  | .hbm, ⟨22, _⟩ => ⟨S32768x512, .f32⟩
  | .local _ .vmem, ⟨0, _⟩ => ⟨S4x64, .f32⟩
  | .local _ .vmem, ⟨1, _⟩ => ⟨S128x1, .f32⟩
  | .local _ .vmem, ⟨2, _⟩ => ⟨S1024x128, .bf16⟩
  | .local _ .vmem, ⟨3, _⟩ => ⟨S1024x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S128x4096, .bf16⟩
  | .local _ .vmem, ⟨9, _⟩ => ⟨S128x4096, .bf16⟩
  | .local _ .vmem, ⟨10, _⟩ => ⟨S128x256, .bf16⟩
  | .local _ .vmem, ⟨11, _⟩ => ⟨S128x256, .bf16⟩
  | .local _ .vmem, ⟨12, _⟩ => ⟨S1024x128, .f32⟩
  | .local _ .vmem, ⟨13, _⟩ => ⟨S1024x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S8x4096x512 : Shape := ⟨3, ![8, 4096, 512]⟩
abbrev S8x256x512 : Shape := ⟨3, ![8, 256, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4096x4x2x64 : Shape := ⟨5, ![8, 4096, 4, 2, 64]⟩
abbrev S8x256x4x2x64 : Shape := ⟨5, ![8, 256, 4, 2, 64]⟩
abbrev S8x4352x4x2x64 : Shape := ⟨5, ![8, 4352, 4, 2, 64]⟩
abbrev S8x4096x4x128 : Shape := ⟨4, ![8, 4096, 4, 128]⟩
abbrev S8x256x4x128 : Shape := ⟨4, ![8, 256, 4, 128]⟩
abbrev S8x4352x4x128 : Shape := ⟨4, ![8, 4352, 4, 128]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4096x4x2x64, .f32⟩
  | .hbm, ⟨28, _⟩ => ⟨S8x4096x4x2x64, .f32⟩
  | .hbm, ⟨29, _⟩ => ⟨S8x256x4x2x64, .f32⟩
  | .hbm, ⟨30, _⟩ => ⟨S8x4352x4x2x64, .f32⟩
  | .hbm, ⟨31, _⟩ => ⟨S8x4096x4x128, .f32⟩
  | .hbm, ⟨32, _⟩ => ⟨S8x256x4x128, .f32⟩
  | .hbm, ⟨33, _⟩ => ⟨S8x4352x4x128, .f32⟩
  | .hbm, ⟨34, _⟩ => ⟨S8x4x2x4096x4352, .f32⟩
  | .hbm, ⟨35, _⟩ => ⟨S_, .f32⟩
  | .hbm, ⟨36, _⟩ => ⟨S8x4x2x4096x4352, .f32⟩
  | .hbm, ⟨37, _⟩ => ⟨S8x4x2x4096x4352, .f32⟩
  | .hbm, ⟨38, _⟩ => ⟨S_, .f32⟩
  | .hbm, ⟨39, _⟩ => ⟨S8x4x2x4096, .f32⟩
  | .hbm, ⟨40, _⟩ => ⟨S_, .f32⟩
  | .hbm, ⟨41, _⟩ => ⟨S8x4x2x4096, .f32⟩
  | .hbm, ⟨42, _⟩ => ⟨S8x4x2x4096, .f32⟩
  | .hbm, ⟨43, _⟩ => ⟨S8x4x2x4096x1, .f32⟩
  | .hbm, ⟨44, _⟩ => ⟨S8x4x2x4096x4352, .f32⟩
  | .hbm, ⟨45, _⟩ => ⟨S8x4x2x4096x4352, .f32⟩
  | .hbm, ⟨46, _⟩ => ⟨S8x4x2x4096x4352, .f32⟩
  | .hbm, ⟨47, _⟩ => ⟨S_, .f32⟩
  | .hbm, ⟨48, _⟩ => ⟨S8x4x2x4096, .f32⟩
  | .hbm, ⟨49, _⟩ => ⟨S8x4x2x4096x1, .f32⟩
  | .hbm, ⟨50, _⟩ => ⟨S8x4x2x4096x4352, .f32⟩
  | .hbm, ⟨51, _⟩ => ⟨S8x4x2x4096x4352, .f32⟩
  | .hbm, ⟨52, _⟩ => ⟨S8x4x1x4096x4352, .f32⟩
  | .hbm, ⟨53, _⟩ => ⟨S8x4x4096x4352, .f32⟩
  | .hbm, ⟨54, _⟩ => ⟨S8x4x1x4096x4352, .f32⟩
  | .hbm, ⟨55, _⟩ => ⟨S8x4x4096x4352, .f32⟩
  | .hbm, ⟨56, _⟩ => ⟨S8x4x4096x4352, .f32⟩
  | .hbm, ⟨57, _⟩ => ⟨S8x4x4096x4352, .f32⟩
  | .hbm, ⟨58, _⟩ => ⟨S8x4x4096x4352, .f32⟩
  | .hbm, ⟨59, _⟩ => ⟨S8x4x128x4096, .f32⟩
  | .hbm, ⟨60, _⟩ => ⟨S8x4096x4x128, .f32⟩
  | .hbm, ⟨61, _⟩ => ⟨S8x4096x4x128, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x128, .f32⟩
  | .hbm, ⟨73, _⟩ => ⟨S8x4096x4x128, .f32⟩
  | .hbm, ⟨74, _⟩ => ⟨S1x1x1x128, .f32⟩
  | .hbm, ⟨75, _⟩ => ⟨S8x4096x4x128, .f32⟩
  | .hbm, ⟨76, _⟩ => ⟨S8x4096x4x128, .f32⟩
  | .hbm, ⟨77, _⟩ => ⟨S_, .f32⟩
  | .hbm, ⟨78, _⟩ => ⟨S8x4096x4x128, .f32⟩
  | .hbm, ⟨79, _⟩ => ⟨S8x4096x4x128, .f32⟩
  | .hbm, ⟨80, _⟩ => ⟨S32768x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== ProjIn.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x3344 : Shape := ⟨2, ![1024, 3344]⟩
abbrev S3344 : Shape := ⟨1, ![3344]⟩
abbrev S4096x64 : Shape := ⟨2, ![4096, 64]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S4096x128 : Shape := ⟨2, ![4096, 128]⟩
abbrev S1024x768 : Shape := ⟨2, ![1024, 768]⟩
abbrev S1024x1024 : Shape := ⟨2, ![1024, 1024]⟩
abbrev S1024x16 : Shape := ⟨2, ![1024, 16]⟩
abbrev S1024x512 : Shape := ⟨2, ![1024, 512]⟩
abbrev S768 : Shape := ⟨1, ![768]⟩
abbrev S16 : Shape := ⟨1, ![16]⟩
abbrev S512 : Shape := ⟨1, ![512]⟩
abbrev S1x1024 : Shape := ⟨2, ![1, 1024]⟩
abbrev S512x1024 : Shape := ⟨2, ![512, 1024]⟩
abbrev S16x1024 : Shape := ⟨2, ![16, 1024]⟩
abbrev S1x768 : Shape := ⟨2, ![1, 768]⟩
abbrev S512x1 : Shape := ⟨2, ![512, 1]⟩
abbrev S16x1 : Shape := ⟨2, ![16, 1]⟩
abbrev S34816x768 : Shape := ⟨2, ![34816, 768]⟩
abbrev S34816x512 : Shape := ⟨2, ![34816, 512]⟩
abbrev S512x34816 : Shape := ⟨2, ![512, 34816]⟩
abbrev S16x34816 : Shape := ⟨2, ![16, 34816]⟩
abbrev S256x1024 : Shape := ⟨2, ![256, 1024]⟩
abbrev S1x6x1024 : Shape := ⟨3, ![1, 6, 1024]⟩
abbrev S256x128 : Shape := ⟨2, ![256, 128]⟩
abbrev S256x768 : Shape := ⟨2, ![256, 768]⟩
abbrev S256x512 : Shape := ⟨2, ![256, 512]⟩
abbrev S512x256 : Shape := ⟨2, ![512, 256]⟩
abbrev S16x256 : Shape := ⟨2, ![16, 256]⟩
abbrev S1x1x1024 : Shape := ⟨3, ![1, 1, 1024]⟩
abbrev S256 : Shape := ⟨1, ![256]⟩
abbrev S256x1 : Shape := ⟨2, ![256, 1]⟩
abbrev S128x128 : Shape := ⟨2, ![128, 128]⟩

abbrev nBuf : Space → Nat
  | .hbm => 44
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x3344, .f32⟩
  | .hbm, ⟨6, _⟩ => ⟨S3344, .f32⟩
  | .hbm, ⟨7, _⟩ => ⟨S4096x64, .f32⟩
  | .hbm, ⟨8, _⟩ => ⟨S4096x64, .f32⟩
  | .hbm, ⟨9, _⟩ => ⟨S32768x1024, .f32⟩
  | .hbm, ⟨10, _⟩ => ⟨S2048x1024, .f32⟩
  | .hbm, ⟨11, _⟩ => ⟨S34816x1024, .f32⟩
  | .hbm, ⟨12, _⟩ => ⟨S1x6144, .f32⟩
  | .hbm, ⟨13, _⟩ => ⟨S_, .f32⟩
  | .hbm, ⟨14, _⟩ => ⟨S7x6144, .f32⟩
  | .hbm, ⟨15, _⟩ => ⟨S16x6144, .f32⟩
  | .hbm, ⟨16, _⟩ => ⟨S16x6x1024, .f32⟩
  | .hbm, ⟨17, _⟩ => ⟨S4096x128, .f32⟩
  | .hbm, ⟨18, _⟩ => ⟨S4096x128, .f32⟩
  | .hbm, ⟨19, _⟩ => ⟨S1024x3344, .bf16⟩
  | .hbm, ⟨20, _⟩ => ⟨S1024x768, .bf16⟩
  | .hbm, ⟨21, _⟩ => ⟨S1024x1024, .bf16⟩
  | .hbm, ⟨22, _⟩ => ⟨S1024x16, .bf16⟩
  | .hbm, ⟨23, _⟩ => ⟨S1024x1024, .bf16⟩
  | .hbm, ⟨24, _⟩ => ⟨S1024x512, .bf16⟩
  | .hbm, ⟨25, _⟩ => ⟨S768, .f32⟩
  | .hbm, ⟨26, _⟩ => ⟨S1024, .f32⟩
  | .hbm, ⟨27, _⟩ => ⟨S16, .f32⟩
  | .hbm, ⟨28, _⟩ => ⟨S1024, .f32⟩
  | .hbm, ⟨29, _⟩ => ⟨S512, .f32⟩
  | .hbm, ⟨30, _⟩ => ⟨S1x1024, .f32⟩
  | .hbm, ⟨31, _⟩ => ⟨S512x1024, .bf16⟩
  | .hbm, ⟨32, _⟩ => ⟨S16x1024, .bf16⟩
  | .hbm, ⟨33, _⟩ => ⟨S1x768, .f32⟩
  | .hbm, ⟨34, _⟩ => ⟨S1x1024, .f32⟩
  | .hbm, ⟨35, _⟩ => ⟨S1x1024, .f32⟩
  | .hbm, ⟨36, _⟩ => ⟨S512x1, .f32⟩
  | .hbm, ⟨37, _⟩ => ⟨S16x1, .f32⟩
  | .hbm, ⟨38, _⟩ => ⟨S34816x768, .f32⟩
  | .hbm, ⟨39, _⟩ => ⟨S34816x1024, .f32⟩
  | .hbm, ⟨40, _⟩ => ⟨S34816x512, .bf16⟩
  | .hbm, ⟨41, _⟩ => ⟨S34816x512, .bf16⟩
  | .hbm, ⟨42, _⟩ => ⟨S512x34816, .bf16⟩
  | .hbm, ⟨43, _⟩ => ⟨S16x34816, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1024x768, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S16x1024, .bf16⟩
  | .local _ .vmem, ⟨14, _⟩ => ⟨S1x768, .f32⟩
  | .local _ .vmem, ⟨15, _⟩ => ⟨S1x1024, .f32⟩
  | .local _ .vmem, ⟨16, _⟩ => ⟨S1x1024, .f32⟩
  | .local _ .vmem, ⟨17, _⟩ => ⟨S512x1, .f32⟩
  | .local _ .vmem, ⟨18, _⟩ => ⟨S16x1, .f32⟩
  | .local _ .vmem, ⟨19, _⟩ => ⟨S256x768, .f32⟩
  | .local _ .vmem, ⟨20, _⟩ => ⟨S256x768, .f32⟩
  | .local _ .vmem, ⟨21, _⟩ => ⟨S256x1024, .f32⟩
  | .local _ .vmem, ⟨22, _⟩ => ⟨S256x1024, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S512x256, .bf16⟩
  | .local _ .vmem, ⟨28, _⟩ => ⟨S512x256, .bf16⟩
  | .local _ .vmem, ⟨29, _⟩ => ⟨S16x256, .f32⟩
  | .local _ .vmem, ⟨30, _⟩ => ⟨S16x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev main_v28_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 v10 c0_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RefInIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x3344 : Shape := ⟨2, ![1024, 3344]⟩
abbrev S3344 : Shape := ⟨1, ![3344]⟩
abbrev S4096x64 : Shape := ⟨2, ![4096, 64]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S8x4096x3344 : Shape := ⟨3, ![8, 4096, 3344]⟩
abbrev S1x1x3344 : Shape := ⟨3, ![1, 1, 3344]⟩
abbrev S8x256x3344 : Shape := ⟨3, ![8, 256, 3344]⟩
abbrev S8x4096x512 : Shape := ⟨3, ![8, 4096, 512]⟩
abbrev S8x4096x4x2x64 : Shape := ⟨5, ![8, 4096, 4, 2, 64]⟩
abbrev S8x4096x4x2x2x2x16 : Shape := ⟨7, ![8, 4096, 4, 2, 2, 2, 16]⟩
abbrev S8x4096x4x2x2x1x16 : Shape := ⟨7, ![8, 4096, 4, 2, 2, 1, 16]⟩
abbrev S8x4096x4x2x2x16 : Shape := ⟨6, ![8, 4096, 4, 2, 2, 16]⟩
abbrev S1x4096x1x1x64 : Shape := ⟨5, ![1, 4096, 1, 1, 64]⟩
abbrev S8x4096x768 : Shape := ⟨3, ![8, 4096, 768]⟩
abbrev S8x256x768 : Shape := ⟨3, ![8, 256, 768]⟩
abbrev S32768x768 : Shape := ⟨2, ![32768, 768]⟩
abbrev S2048x768 : Shape := ⟨2, ![2048, 768]⟩
abbrev S34816x768 : Shape := ⟨2, ![34816, 768]⟩
abbrev S32768x1024 : Shape := ⟨2, ![32768, 1024]⟩
abbrev S2048x1024 : Shape := ⟨2, ![2048, 1024]⟩
abbrev S34816x1024 : Shape := ⟨2, ![34816, 1024]⟩
abbrev S8x256x512 : Shape := ⟨3, ![8, 256, 512]⟩
abbrev S32768x512 : Shape := ⟨2, ![32768, 512]⟩
abbrev S2048x512 : Shape := ⟨2, ![2048, 512]⟩
abbrev S34816x512 : Shape := ⟨2, ![34816, 512]⟩
abbrev S512x34816 : Shape := ⟨2, ![512, 34816]⟩
abbrev S8x4096x16 : Shape := ⟨3, ![8, 4096, 16]⟩
abbrev S8x256x16 : Shape := ⟨3, ![8, 256, 16]⟩
abbrev S32768x16 : Shape := ⟨2, ![32768, 16]⟩
abbrev S2048x16 : Shape := ⟨2, ![2048, 16]⟩
abbrev S34816x16 : Shape := ⟨2, ![34816, 16]⟩
abbrev S16x34816 : Shape := ⟨2, ![16, 34816]⟩

abbrev nBuf : Space → Nat
  | .hbm => 144
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x3344, .f32⟩
  | 6 => ⟨S3344, .f32⟩
  | 7 => ⟨S4096x64, .f32⟩
  | 8 => ⟨S4096x64, .f32⟩
  | 9 => ⟨S8x1024, .f32⟩
  | 10 => ⟨S8x1x1024, .f32⟩
  | 11 => ⟨S8x1024, .f32⟩
  | 12 => ⟨S8x1x1024, .f32⟩
  | 13 => ⟨S1024, .f32⟩
  | 14 => ⟨S1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x256x1024, .f32⟩
  | 39 => ⟨S_, .f32⟩
  | 40 => ⟨S8x256, .f32⟩
  | 41 => ⟨S8x256x1, .f32⟩
  | 42 => ⟨S_, .f32⟩
  | 43 => ⟨S8x256x1, .f32⟩
  | 44 => ⟨S8x256x1, .f32⟩
  | 45 => ⟨S_, .f32⟩
  | 46 => ⟨S8x256x1, .f32⟩
  | 47 => ⟨S8x256x1, .f32⟩
  | 48 => ⟨S8x256x1, .f32⟩
  | 49 => ⟨S8x256x1024, .f32⟩
  | 50 => ⟨S8x256x1024, .f32⟩
  | 51 => ⟨S1x1x1024, .f32⟩
  | 52 => ⟨S8x256x1024, .f32⟩
  | 53 => ⟨S8x256x1024, .f32⟩
  | 54 => ⟨S_, .f32⟩
  | 55 => ⟨S1024, .f32⟩
  | 56 => ⟨S1024, .f32⟩
  | 57 => ⟨S1x1x1024, .f32⟩
  | 58 => ⟨S8x256x1024, .f32⟩
  | 59 => ⟨S8x256x1024, .f32⟩
  | 60 => ⟨S1x1x1024, .f32⟩
  | 61 => ⟨S8x256x1024, .f32⟩
  | 62 => ⟨S8x256x1024, .f32⟩
  | 63 => ⟨S8x4096x3344, .f32⟩
  | 64 => ⟨S1x1x3344, .f32⟩
  | 65 => ⟨S8x4096x3344, .f32⟩
  | 66 => ⟨S8x4096x3344, .f32⟩
  | 67 => ⟨S8x256x3344, .f32⟩
  | 68 => ⟨S1x1x3344, .f32⟩
  | 69 => ⟨S8x256x3344, .f32⟩
  | 70 => ⟨S8x256x3344, .f32⟩
  | 71 => ⟨S8x4096x512, .f32⟩
  | 72 => ⟨S8x4096x4x2x64, .f32⟩
  | 73 => ⟨S8x4096x4x2x2x2x16, .f32⟩
  | 74 => ⟨S8x4096x4x2x2x1x16, .f32⟩
  | 75 => ⟨S8x4096x4x2x2x16, .f32⟩
  | 76 => ⟨S8x4096x4x2x2x16, .f32⟩
  | 77 => ⟨S8x4096x4x2x2x1x16, .f32⟩
  | 78 => ⟨S8x4096x4x2x2x16, .f32⟩
  | 79 => ⟨S8x4096x4x2x2x1x16, .f32⟩
  | 80 => ⟨S8x4096x4x2x2x1x16, .f32⟩
  | 81 => ⟨S8x4096x4x2x2x2x16, .f32⟩
  | 82 => ⟨S8x4096x4x2x64, .f32⟩
  | 83 => ⟨S1x4096x1x1x64, .f32⟩
  | 84 => ⟨S1x4096x1x1x64, .f32⟩
  | 85 => ⟨S8x4096x4x2x64, .f32⟩
  | 86 => ⟨S8x4096x4x2x64, .f32⟩
  | 87 => ⟨S8x4096x4x2x64, .f32⟩
  | 88 => ⟨S8x4096x4x2x64, .f32⟩
  | 89 => ⟨S8x4096x4x2x64, .f32⟩
  | 90 => ⟨S8x4096x512, .f32⟩
  | 91 => ⟨S8x4096x512, .f32⟩
  | 92 => ⟨S8x4096x4x2x64, .f32⟩
  | 93 => ⟨S8x4096x4x2x2x2x16, .f32⟩
  | 94 => ⟨S8x4096x4x2x2x1x16, .f32⟩
  | 95 => ⟨S8x4096x4x2x2x16, .f32⟩
  | 96 => ⟨S8x4096x4x2x2x16, .f32⟩
  | 97 => ⟨S8x4096x4x2x2x1x16, .f32⟩
  | 98 => ⟨S8x4096x4x2x2x16, .f32⟩
  | 99 => ⟨S8x4096x4x2x2x1x16, .f32⟩
  | 100 => ⟨S8x4096x4x2x2x1x16, .f32⟩
  | 101 => ⟨S8x4096x4x2x2x2x16, .f32⟩
  | 102 => ⟨S8x4096x4x2x64, .f32⟩
  | 103 => ⟨S1x4096x1x1x64, .f32⟩
  | 104 => ⟨S1x4096x1x1x64, .f32⟩
  | 105 => ⟨S8x4096x4x2x64, .f32⟩
  | 106 => ⟨S8x4096x4x2x64, .f32⟩
  | 107 => ⟨S8x4096x4x2x64, .f32⟩
  | 108 => ⟨S8x4096x4x2x64, .f32⟩
  | 109 => ⟨S8x4096x4x2x64, .f32⟩
  | 110 => ⟨S8x4096x512, .f32⟩
  | 111 => ⟨S8x4096x768, .f32⟩
  | 112 => ⟨S8x256x768, .f32⟩
  | 113 => ⟨S32768x768, .f32⟩
  | 114 => ⟨S2048x768, .f32⟩
  | 115 => ⟨S34816x768, .f32⟩
  | 116 => ⟨S8x4096x1024, .f32⟩
  | 117 => ⟨S8x256x1024, .f32⟩
  | 118 => ⟨S32768x1024, .f32⟩
  | 119 => ⟨S2048x1024, .f32⟩
  | 120 => ⟨S34816x1024, .f32⟩
  | 121 => ⟨S8x256x512, .f32⟩
  | 122 => ⟨S32768x512, .f32⟩
  | 123 => ⟨S2048x512, .f32⟩
  | 124 => ⟨S34816x512, .f32⟩
  | 125 => ⟨S34816x512, .bf16⟩
  | 126 => ⟨S8x256x512, .f32⟩
  | 127 => ⟨S32768x512, .f32⟩
  | _ => ⟨S8x4096x1024, .f32⟩

abbrev hbmTy0_1 (i : Nat) : BufTy := match i % 128 with
  | 0 => ⟨S2048x512, .f32⟩
  | 1 => ⟨S34816x512, .f32⟩
  | 2 => ⟨S34816x512, .bf16⟩
  | 3 => ⟨S8x4096x512, .f32⟩
  | 4 => ⟨S8x256x512, .f32⟩
  | 5 => ⟨S32768x512, .f32⟩
  | 6 => ⟨S2048x512, .f32⟩
  | 7 => ⟨S34816x512, .f32⟩
  | 8 => ⟨S512x34816, .f32⟩
  | 9 => ⟨S512x34816, .bf16⟩
  | 10 => ⟨S8x4096x16, .f32⟩
  | 11 => ⟨S8x256x16, .f32⟩
  | 12 => ⟨S32768x16, .f32⟩
  | 13 => ⟨S2048x16, .f32⟩
  | 14 => ⟨S34816x16, .f32⟩
  | 15 => ⟨S16x34816, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩

abbrev nD : Nat := 1
abbrev τ : Topo := Topo.v7x

variable {F : FTy → Type} [FloatOps F]
-- ==== ProjOut.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S256 : Shape := ⟨1, ![256]⟩
abbrev S1024x1024 : Shape := ⟨2, ![1024, 1024]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S32768x256 : Shape := ⟨2, ![32768, 256]⟩
abbrev S2048x256 : Shape := ⟨2, ![2048, 256]⟩
abbrev S34816x256 : Shape := ⟨2, ![34816, 256]⟩
abbrev S34816x2x128 : Shape := ⟨3, ![34816, 2, 128]⟩
abbrev S2x34816x128 : Shape := ⟨3, ![2, 34816, 128]⟩
abbrev S34816x768 : Shape := ⟨2, ![34816, 768]⟩
abbrev S32768x512 : Shape := ⟨2, ![32768, 512]⟩
abbrev S2048x512 : Shape := ⟨2, ![2048, 512]⟩
abbrev S34816x512 : Shape := ⟨2, ![34816, 512]⟩
abbrev S256x1024 : Shape := ⟨2, ![256, 1024]⟩
abbrev S512x1024 : Shape := ⟨2, ![512, 1024]⟩
abbrev S1x256 : Shape := ⟨2, ![1, 256]⟩
abbrev S1x6x1024 : Shape := ⟨3, ![1, 6, 1024]⟩
abbrev S2x256x128 : Shape := ⟨3, ![2, 256, 128]⟩
abbrev S256x256 : Shape := ⟨2, ![256, 256]⟩
abbrev S256x512 : Shape := ⟨2, ![256, 512]⟩
abbrev S1x256x128 : Shape := ⟨3, ![1, 256, 128]⟩
abbrev S256x128 : Shape := ⟨2, ![256, 128]⟩
abbrev S1x1x1024 : Shape := ⟨3, ![1, 1, 1024]⟩
abbrev S1x1024 : Shape := ⟨2, ![1, 1024]⟩

abbrev nBuf : Space → Nat
  | .hbm => 50
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x4096x256, .f32⟩
  | .hbm, ⟨5, _⟩ => ⟨S8x256x256, .f32⟩
  | .hbm, ⟨6, _⟩ => ⟨S8x4096x256, .f32⟩
  | .hbm, ⟨7, _⟩ => ⟨S8x256x256, .f32⟩
  | .hbm, ⟨8, _⟩ => ⟨S8x4096x256, .f32⟩
  | .hbm, ⟨9, _⟩ => ⟨S8x256x256, .f32⟩
  | .hbm, ⟨10, _⟩ => ⟨S8x4096x256, .f32⟩
  | .hbm, ⟨11, _⟩ => ⟨S8x256x256, .f32⟩
  | .hbm, ⟨12, _⟩ => ⟨S8x4096x512, .f32⟩
  | .hbm, ⟨13, _⟩ => ⟨S8x256x512, .f32⟩
  | .hbm, ⟨14, _⟩ => ⟨S256, .f32⟩
  | .hbm, ⟨15, _⟩ => ⟨S1024x1024, .f32⟩
  | .hbm, ⟨16, _⟩ => ⟨S32768x1024, .f32⟩
  | .hbm, ⟨17, _⟩ => ⟨S2048x1024, .f32⟩
  | .hbm, ⟨18, _⟩ => ⟨S34816x1024, .f32⟩
  | .hbm, ⟨19, _⟩ => ⟨S1x6144, .f32⟩
  | .hbm, ⟨20, _⟩ => ⟨S_, .f32⟩
  | .hbm, ⟨21, _⟩ => ⟨S7x6144, .f32⟩
  | .hbm, ⟨22, _⟩ => ⟨S16x6144, .f32⟩
  | .hbm, ⟨23, _⟩ => ⟨S16x6x1024, .f32⟩
  | .hbm, ⟨24, _⟩ => ⟨S32768x256, .f32⟩
  | .hbm, ⟨25, _⟩ => ⟨S2048x256, .f32⟩
  | .hbm, ⟨26, _⟩ => ⟨S34816x256, .f32⟩
  | .hbm, ⟨27, _⟩ => ⟨S34816x2x128, .f32⟩
  | .hbm, ⟨28, _⟩ => ⟨S2x34816x128, .f32⟩
  | .hbm, ⟨29, _⟩ => ⟨S32768x256, .f32⟩
  | .hbm, ⟨30, _⟩ => ⟨S2048x256, .f32⟩
  | .hbm, ⟨31, _⟩ => ⟨S34816x256, .f32⟩
  | .hbm, ⟨32, _⟩ => ⟨S_, .f32⟩
  | .hbm, ⟨33, _⟩ => ⟨S34816x768, .f32⟩
  | .hbm, ⟨34, _⟩ => ⟨S34816x1024, .f32⟩
  | .hbm, ⟨35, _⟩ => ⟨S32768x256, .f32⟩
  | .hbm, ⟨36, _⟩ => ⟨S2048x256, .f32⟩
  | .hbm, ⟨37, _⟩ => ⟨S34816x256, .f32⟩
  | .hbm, ⟨38, _⟩ => ⟨S32768x256, .f32⟩
  | .hbm, ⟨39, _⟩ => ⟨S2048x256, .f32⟩
  | .hbm, ⟨40, _⟩ => ⟨S34816x256, .f32⟩
  | .hbm, ⟨41, _⟩ => ⟨S32768x512, .f32⟩
  | .hbm, ⟨42, _⟩ => ⟨S2048x512, .f32⟩
  | .hbm, ⟨43, _⟩ => ⟨S34816x512, .f32⟩
  | .hbm, ⟨44, _⟩ => ⟨S1024x1024, .bf16⟩
  | .hbm, ⟨45, _⟩ => ⟨S256x1024, .bf16⟩
  | .hbm, ⟨46, _⟩ => ⟨S256x1024, .bf16⟩
  | .hbm, ⟨47, _⟩ => ⟨S512x1024, .bf16⟩
  | .hbm, ⟨48, _⟩ => ⟨S1x256, .f32⟩
  | .hbm, ⟨49, _⟩ => ⟨S34816x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S2x256x128, .f32⟩
  | .local _ .vmem, ⟨5, _⟩ => ⟨S2x256x128, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S512x1024, .bf16⟩
  | .local _ .vmem, ⟨18, _⟩ => ⟨S256x1024, .f32⟩
  | .local _ .vmem, ⟨19, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefOutIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S256 : Shape := ⟨1, ![256]⟩
abbrev S1024x1024 : Shape := ⟨2, ![1024, 1024]⟩
abbrev S8x1024 : Shape := ⟨2, ![8, 1024]⟩
abbrev S8x1x1024 : Shape := ⟨3, ![8, 1, 1024]⟩
abbrev S1024 : Shape := ⟨1, ![1024]⟩
abbrev S8x4096x4x64 : Shape := ⟨4, ![8, 4096, 4, 64]⟩
abbrev S4x64 : Shape := ⟨2, ![4, 64]⟩
abbrev S_ : Shape := ⟨0, ![]⟩
abbrev S8x4096x4 : Shape := ⟨3, ![8, 4096, 4]⟩
abbrev S8x4096x4x1 : Shape := ⟨4, ![8, 4096, 4, 1]⟩
abbrev S1x1x4x64 : Shape := ⟨4, ![1, 1, 4, 64]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S1x1x1024 : Shape := ⟨3, ![1, 1, 1024]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x4096x256, .f32⟩
  | .hbm, ⟨5, _⟩ => ⟨S8x256x256, .f32⟩
  | .hbm, ⟨6, _⟩ => ⟨S8x4096x256, .f32⟩
  | .hbm, ⟨7, _⟩ => ⟨S8x256x256, .f32⟩
  | .hbm, ⟨8, _⟩ => ⟨S8x4096x256, .f32⟩
  | .hbm, ⟨9, _⟩ => ⟨S8x256x256, .f32⟩
  | .hbm, ⟨10, _⟩ => ⟨S8x4096x256, .f32⟩
  | .hbm, ⟨11, _⟩ => ⟨S8x256x256, .f32⟩
  | .hbm, ⟨12, _⟩ => ⟨S8x4096x512, .f32⟩
  | .hbm, ⟨13, _⟩ => ⟨S8x256x512, .f32⟩
  | .hbm, ⟨14, _⟩ => ⟨S256, .f32⟩
  | .hbm, ⟨15, _⟩ => ⟨S1024x1024, .f32⟩
  | .hbm, ⟨16, _⟩ => ⟨S8x1024, .f32⟩
  | .hbm, ⟨17, _⟩ => ⟨S8x1x1024, .f32⟩
  | .hbm, ⟨18, _⟩ => ⟨S1024, .f32⟩
  | .hbm, ⟨19, _⟩ => ⟨S8x4096x256, .f32⟩
  | .hbm, ⟨20, _⟩ => ⟨S8x4096x4x64, .f32⟩
  | .hbm, ⟨21, _⟩ => ⟨S4x64, .f32⟩
  | .hbm, ⟨22, _⟩ => ⟨S8x4096x4x64, .f32⟩
  | .hbm, ⟨23, _⟩ => ⟨S_, .f32⟩
  | .hbm, ⟨24, _⟩ => ⟨S8x4096x4, .f32⟩
  | .hbm, ⟨25, _⟩ => ⟨S8x4096x4x1, .f32⟩
  | .hbm, ⟨26, _⟩ => ⟨S_, .f32⟩
  | .hbm, ⟨27, _⟩ => ⟨S8x4096x4x1, .f32⟩
  | .hbm, ⟨28, _⟩ => ⟨S8x4096x4x1, .f32⟩
  | .hbm, ⟨29, _⟩ => ⟨S_, .f32⟩
  | .hbm, ⟨30, _⟩ => ⟨S8x4096x4x1, .f32⟩
  | .hbm, ⟨31, _⟩ => ⟨S8x4096x4x1, .f32⟩
  | .hbm, ⟨32, _⟩ => ⟨S8x4096x4x1, .f32⟩
  | .hbm, ⟨33, _⟩ => ⟨S8x4096x4x64, .f32⟩
  | .hbm, ⟨34, _⟩ => ⟨S8x4096x4x64, .f32⟩
  | .hbm, ⟨35, _⟩ => ⟨S1x1x4x64, .f32⟩
  | .hbm, ⟨36, _⟩ => ⟨S8x4096x4x64, .f32⟩
  | .hbm, ⟨37, _⟩ => ⟨S8x4096x4x64, .f32⟩
  | .hbm, ⟨38, _⟩ => ⟨S8x4096x256, .f32⟩
  | .hbm, ⟨39, _⟩ => ⟨S8x4096x256, .f32⟩
  | .hbm, ⟨40, _⟩ => ⟨S8x4096x256, .f32⟩
  | .hbm, ⟨41, _⟩ => ⟨S_, .f32⟩
  | .hbm, ⟨42, _⟩ => ⟨S8x4096x256, .f32⟩
  | .hbm, ⟨43, _⟩ => ⟨S8x4096x256, .f32⟩
  | .hbm, ⟨44, _⟩ => ⟨S_, .f32⟩
  | .hbm, ⟨45, _⟩ => ⟨S8x4096x256, .f32⟩
  | .hbm, ⟨46, _⟩ => ⟨S8x4096x256, .f32⟩
  | .hbm, ⟨47, _⟩ => ⟨S8x4096x256, .f32⟩
  | .hbm, ⟨48, _⟩ => ⟨S8x4096x1024, .f32⟩
  | .hbm, ⟨49, _⟩ => ⟨S8x4096x1024, .f32⟩
  | .hbm, ⟨50, _⟩ => ⟨S8x256x256, .f32⟩
  | .hbm, ⟨51, _⟩ => ⟨S8x256x4x64, .f32⟩
  | .hbm, ⟨52, _⟩ => ⟨S4x64, .f32⟩
  | .hbm, ⟨53, _⟩ => ⟨S8x256x4x64, .f32⟩
  | .hbm, ⟨54, _⟩ => ⟨S_, .f32⟩
  | .hbm, ⟨55, _⟩ => ⟨S8x256x4, .f32⟩
  | .hbm, ⟨56, _⟩ => ⟨S8x256x4x1, .f32⟩
  | .hbm, ⟨57, _⟩ => ⟨S_, .f32⟩
  | .hbm, ⟨58, _⟩ => ⟨S8x256x4x1, .f32⟩
  | .hbm, ⟨59, _⟩ => ⟨S8x256x4x1, .f32⟩
  | .hbm, ⟨60, _⟩ => ⟨S_, .f32⟩
  | .hbm, ⟨61, _⟩ => ⟨S8x256x4x1, .f32⟩
  | .hbm, ⟨62, _⟩ => ⟨S8x256x4x1, .f32⟩
  | .hbm, ⟨63, _⟩ => ⟨S8x256x4x1, .f32⟩
  | .hbm, ⟨64, _⟩ => ⟨S8x256x4x64, .f32⟩
  | .hbm, ⟨65, _⟩ => ⟨S8x256x4x64, .f32⟩
  | .hbm, ⟨66, _⟩ => ⟨S1x1x4x64, .f32⟩
  | .hbm, ⟨67, _⟩ => ⟨S8x256x4x64, .f32⟩
  | .hbm, ⟨68, _⟩ => ⟨S8x256x4x64, .f32⟩
  | .hbm, ⟨69, _⟩ => ⟨S8x256x256, .f32⟩
  | .hbm, ⟨70, _⟩ => ⟨S8x256x256, .f32⟩
  | .hbm, ⟨71, _⟩ => ⟨S8x256x256, .f32⟩
  | .hbm, ⟨72, _⟩ => ⟨S_, .f32⟩
  | .hbm, ⟨73, _⟩ => ⟨S8x256x256, .f32⟩
  | .hbm, ⟨74, _⟩ => ⟨S8x256x256, .f32⟩
  | .hbm, ⟨75, _⟩ => ⟨S_, .f32⟩
  | .hbm, ⟨76, _⟩ => ⟨S8x256x256, .f32⟩
  | .hbm, ⟨77, _⟩ => ⟨S8x256x256, .f32⟩
  | .hbm, ⟨78, _⟩ => ⟨S8x256x256, .f32⟩
  | .hbm, ⟨79, _⟩ => ⟨S8x256x1024, .f32⟩
  | .hbm, ⟨80, _⟩ => ⟨S8x256x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x256x1024, .f32⟩
  | .hbm, ⟨86, _⟩ => ⟨S8x256x1024, .f32⟩
  | .hbm, ⟨87, _⟩ => ⟨S8x256x1024, .f32⟩
  | .hbm, ⟨88, _⟩ => ⟨S32768x1024, .f32⟩
  | .hbm, ⟨89, _⟩ => ⟨S2048x1024, .f32⟩
  | .hbm, ⟨90, _⟩ => ⟨S34816x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Ffn.lean ====
abbrev S168 : Shape := ⟨1, ![168]⟩
abbrev S1 : Shape := ⟨1, ![1]⟩
abbrev S86016x1024 : Shape := ⟨2, ![86016, 1024]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S86016x1024, .f32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S86016x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S168, .i32⟩
  | .local _ .smem, ⟨1, _⟩ => ⟨S1, .i32⟩
  | _, _ => ⟨S86016x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFfnIdeal.lean ====
abbrev S168 : Shape := ⟨1, ![168]⟩
abbrev S1 : Shape := ⟨1, ![1]⟩
abbrev S86016x1024 : Shape := ⟨2, ![86016, 1024]⟩
abbrev S2x32x1024x512 : Shape := ⟨4, ![2, 32, 1024, 512]⟩
abbrev S2x32x512x1024 : Shape := ⟨4, ![2, 32, 512, 1024]⟩
abbrev S168x512x1024 : Shape := ⟨3, ![168, 512, 1024]⟩
abbrev S1x32x1024x512 : Shape := ⟨4, ![1, 32, 1024, 512]⟩
abbrev S32x1024x512 : Shape := ⟨3, ![32, 1024, 512]⟩
abbrev S_ : Shape := ⟨0, ![]⟩
abbrev S168x1 : Shape := ⟨2, ![168, 1]⟩
abbrev S168x1024x512 : Shape := ⟨3, ![168, 1024, 512]⟩
abbrev S168x512x512 : Shape := ⟨3, ![168, 512, 512]⟩
abbrev S1x32x512x1024 : Shape := ⟨4, ![1, 32, 512, 1024]⟩
abbrev S32x512x1024 : Shape := ⟨3, ![32, 512, 1024]⟩
abbrev S168x1x1 : Shape := ⟨3, ![168, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S86016x1024, .f32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S168x512x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S168, .i32⟩
  | .hbm, ⟨11, _⟩ => ⟨S168, .i1⟩
  | .hbm, ⟨12, _⟩ => ⟨S_, .i32⟩
  | .hbm, ⟨13, _⟩ => ⟨S168, .i32⟩
  | .hbm, ⟨14, _⟩ => ⟨S168, .i32⟩
  | .hbm, ⟨15, _⟩ => ⟨S168, .i32⟩
  | .hbm, ⟨16, _⟩ => ⟨S168x1, .i32⟩
  | .hbm, ⟨17, _⟩ => ⟨S168x1024x512, .f32⟩
  | .hbm, ⟨18, _⟩ => ⟨S168x512x512, .f32⟩
  | .hbm, ⟨19, _⟩ => ⟨S1x32x1024x512, .f32⟩
  | .hbm, ⟨20, _⟩ => ⟨S32x1024x512, .f32⟩
  | .hbm, ⟨21, _⟩ => ⟨S_, .i32⟩
  | .hbm, ⟨22, _⟩ => ⟨S168, .i32⟩
  | .hbm, ⟨23, _⟩ => ⟨S168, .i1⟩
  | .hbm, ⟨24, _⟩ => ⟨S_, .i32⟩
  | .hbm, ⟨25, _⟩ => ⟨S168, .i32⟩
  | .hbm, ⟨26, _⟩ => ⟨S168, .i32⟩
  | .hbm, ⟨27, _⟩ => ⟨S168, .i32⟩
  | .hbm, ⟨28, _⟩ => ⟨S168x1, .i32⟩
  | .hbm, ⟨29, _⟩ => ⟨S168x1024x512, .f32⟩
  | .hbm, ⟨30, _⟩ => ⟨S168x512x512, .f32⟩
  | .hbm, ⟨31, _⟩ => ⟨S168x512x512, .f32⟩
  | .hbm, ⟨32, _⟩ => ⟨S168x512x512, .f32⟩
  | .hbm, ⟨33, _⟩ => ⟨S_, .f32⟩
  | .hbm, ⟨34, _⟩ => ⟨S168x512x512, .f32⟩
  | .hbm, ⟨35, _⟩ => ⟨S168x512x512, .f32⟩
  | .hbm, ⟨36, _⟩ => ⟨S_, .f32⟩
  | .hbm, ⟨37, _⟩ => ⟨S168x512x512, .f32⟩
  | .hbm, ⟨38, _⟩ => ⟨S168x512x512, .f32⟩
  | .hbm, ⟨39, _⟩ => ⟨S168x512x512, .f32⟩
  | .hbm, ⟨40, _⟩ => ⟨S168x512x512, .f32⟩
  | .hbm, ⟨41, _⟩ => ⟨S1x32x512x1024, .f32⟩
  | .hbm, ⟨42, _⟩ => ⟨S32x512x1024, .f32⟩
  | .hbm, ⟨43, _⟩ => ⟨S_, .i32⟩
  | .hbm, ⟨44, _⟩ => ⟨S168, .i32⟩
  | .hbm, ⟨45, _⟩ => ⟨S168, .i1⟩
  | .hbm, ⟨46, _⟩ => ⟨S_, .i32⟩
  | .hbm, ⟨47, _⟩ => ⟨S168, .i32⟩
  | .hbm, ⟨48, _⟩ => ⟨S168, .i32⟩
  | .hbm, ⟨49, _⟩ => ⟨S168, .i32⟩
  | .hbm, ⟨50, _⟩ => ⟨S168x1, .i32⟩
  | .hbm, ⟨51, _⟩ => ⟨S168x512x1024, .f32⟩
  | .hbm, ⟨52, _⟩ => ⟨S168x512x1024, .f32⟩
  | .hbm, ⟨53, _⟩ => ⟨S168, .i32⟩
  | .hbm, ⟨54, _⟩ => ⟨S_, .i32⟩
  | .hbm, ⟨55, _⟩ => ⟨S168, .i32⟩
  | .hbm, ⟨56, _⟩ => ⟨S168, .i1⟩
  | .hbm, ⟨57, _⟩ => ⟨S168x1x1, .i1⟩
  | .hbm, ⟨58, _⟩ => ⟨S_, .f32⟩
  | .hbm, ⟨59, _⟩ => ⟨S_, .f32⟩
  | .hbm, ⟨60, _⟩ => ⟨S168x512x1024, .i1⟩
  | .hbm, ⟨61, _⟩ => ⟨S168x512x1024, .f32⟩
  | .hbm, ⟨62, _⟩ => ⟨S168x512x1024, .f32⟩
  | .hbm, ⟨63, _⟩ => ⟨S86016x1024, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.Attention.lean ====
/- The real-number side of the attention: a softmax over two groups of keys does not depend on the number subtracted
   from its exponents, a power of two scaled by `1 / ln 2` is an exponential, and a difference of two softmax-weighted
   sums is the weighted sum of the differences. Nothing here is about either program. -/
module

public import Idealize.ShloMosaic.PureOps.Ideal
public import Idealize.ShloMosaic.PureOps.Ideal.Laws

@[expose] public section

noncomputable section

namespace Cert.Attention

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the lower one not zero. -/
theorem div_real (a b : ℝ) (hb : b ≠ 0) : Ideal.div (a : EReal) (b : EReal) = ((a / b : ℝ) : EReal) := by
  rw [Ideal.div_coe hb, ← EReal.coe_mul, mul_one_div]

/-- The greatest of finitely many reals, at least one, is a real. -/
theorem fold_max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- The pattern of `-∞`. -/
theorem ofBits_neg_inf : Ideal.ofBits .f32 0xFF800000#32 = ⊥ := by
  simp [Ideal.ofBits, Ideal.ieee]

/-- The pattern of one eighth. -/
theorem ofBits_eighth : Ideal.ofBits .f32 0x3E000000#32 = ((1 / 8 : ℝ) : EReal) := by
  simp [Ideal.ofBits, Ideal.ieee]
  rw [← EReal.coe_mul]
  norm_num

/-- A power of two whose exponent is a score times `1 / (8 ln 2)`, less `M`. -/
theorem exp2_scaled (x M : ℝ) :
    Ideal.exp2 (((x * ((1 / 8) * (Real.log 2)⁻¹) : ℝ) : EReal) - (M : EReal))
      = ((Real.exp (x / 8) * Real.exp (-(M * Real.log 2)) : ℝ) : EReal) := by
  have h2 : Real.log 2 ≠ 0 := (Real.log_pos one_lt_two).ne'
  rw [← EReal.coe_sub, Ideal.exp2_coe]
  refine congrArg _ ?_
  show (2 : ℝ) ^ (_ : ℝ) = _
  rw [Real.rpow_def_of_pos two_pos, ← Real.exp_add]
  congr 1
  field_simp
  ring

/-- An exponential of a scaled score less `M`. -/
theorem exp_scaled (x M : ℝ) :
    Ideal.exp (((x * (1 / 8) : ℝ) : EReal) - (M : EReal)) = ((Real.exp (x / 8) * Real.exp (-M) : ℝ) : EReal) := by
  rw [← EReal.coe_sub, Ideal.exp_coe, ← Real.exp_add]
  congr 2
  ring

/-- The softmax-weighted sum of `v` and `v'` over two groups of keys with scores `s` and `s'`. -/
def soft {K K' : Type} [Fintype K] [Fintype K'] (s : K → ℝ) (s' : K' → ℝ) (v : K → ℝ) (v' : K' → ℝ) : ℝ :=
  (∑ k, v k * Real.exp (s k / 8) + ∑ k, v' k * Real.exp (s' k / 8))
    / (∑ k, Real.exp (s k / 8) + ∑ k, Real.exp (s' k / 8))

/-- The sum of the exponentials. -/
def den {K K' : Type} [Fintype K] [Fintype K'] (s : K → ℝ) (s' : K' → ℝ) : ℝ :=
  ∑ k, Real.exp (s k / 8) + ∑ k, Real.exp (s' k / 8)

theorem den_pos {K K' : Type} [Fintype K] [Fintype K'] [Nonempty K] (s : K → ℝ) (s' : K' → ℝ) : 0 < den s s' :=
  add_pos_of_pos_of_nonneg (Finset.sum_pos (fun _ _ => Real.exp_pos _) Finset.univ_nonempty)
    (Finset.sum_nonneg fun _ _ => (Real.exp_pos _).le)

/-- The quotient of the two sums of shifted exponentials is the softmax-weighted sum, whatever the shift. -/
theorem soft_eq {K K' : Type} [Fintype K] [Fintype K'] [Nonempty K] (s : K → ℝ) (s' : K' → ℝ) (v : K → ℝ) (v' : K' → ℝ)
    (g : ℝ) (hg : 0 < g) :
    Ideal.div
        ((∑ k, (v k : EReal) * ((Real.exp (s k / 8) * g : ℝ) : EReal))
          + ∑ k, (v' k : EReal) * ((Real.exp (s' k / 8) * g : ℝ) : EReal))
        ((∑ k, ((Real.exp (s k / 8) * g : ℝ) : EReal)) + ∑ k, ((Real.exp (s' k / 8) * g : ℝ) : EReal))
      = (soft s s' v v' : EReal) := by
  have hd := den_pos s s'
  simp only [← EReal.coe_mul, ← coe_sum, ← EReal.coe_add]
  have e1 : (∑ k, v k * (Real.exp (s k / 8) * g) + ∑ k, v' k * (Real.exp (s' k / 8) * g))
      = (∑ k, v k * Real.exp (s k / 8) + ∑ k, v' k * Real.exp (s' k / 8)) * g := by
    simp only [add_mul, Finset.sum_mul, mul_assoc]
  have e2 : (∑ k, Real.exp (s k / 8) * g + ∑ k, Real.exp (s' k / 8) * g) = den s s' * g := by
    simp only [den, add_mul, Finset.sum_mul]
  rw [e1, e2, div_real _ _ (mul_pos hd hg).ne', mul_div_mul_right _ _ hg.ne']
  rfl

/-- One softmax weight: the quotient of a shifted exponential by the sum of all. -/
theorem weight_eq {K : Type} [Fintype K] [Nonempty K] (s : K → ℝ) (g : ℝ) (hg : 0 < g) (k : K) :
    Ideal.div ((Real.exp (s k / 8) * g : ℝ) : EReal) (∑ k, ((Real.exp (s k / 8) * g : ℝ) : EReal))
      = ((Real.exp (s k / 8) / ∑ k, Real.exp (s k / 8) : ℝ) : EReal) := by
  have hd : 0 < ∑ k, Real.exp (s k / 8) := Finset.sum_pos (fun _ _ => Real.exp_pos _) Finset.univ_nonempty
  rw [← coe_sum, ← Finset.sum_mul, div_real _ _ (mul_pos hd hg).ne', mul_div_mul_right _ _ hg.ne']

/-- Keys in one list of `a + b`: the weighted sum of the differences of two maps' weights is the difference of their
    softmax-weighted sums over the two groups. -/
theorem diff_eq {a b : ℕ} [NeZero a] (s0 s1 v : Fin (a + b) → ℝ) (l : ℝ) :
    (∑ k, (v k : EReal) * (((Real.exp (s0 k / 8) / ∑ k, Real.exp (s0 k / 8) : ℝ) : EReal)
        - (l : EReal) * ((Real.exp (s1 k / 8) / ∑ k, Real.exp (s1 k / 8) : ℝ) : EReal)))
      = (soft (fun k => s0 (Fin.castAdd b k)) (fun k => s0 (Fin.natAdd a k)) (fun k => v (Fin.castAdd b k)) (fun k => v (Fin.natAdd a k)) : EReal)
        - (l : EReal) * (soft (fun k => s1 (Fin.castAdd b k)) (fun k => s1 (Fin.natAdd a k)) (fun k => v (Fin.castAdd b k)) (fun k => v (Fin.natAdd a k)) : EReal) := by
  simp only [soft, ← Fin.sum_univ_add (fun k => Real.exp (s0 k / 8)), ← Fin.sum_univ_add (fun k => Real.exp (s1 k / 8)),
    ← Fin.sum_univ_add (fun k => v k * Real.exp (s0 k / 8)), ← Fin.sum_univ_add (fun k => v k * Real.exp (s1 k / 8))]
  simp only [← EReal.coe_mul, ← EReal.coe_sub, ← coe_sum]
  refine congrArg _ ?_
  rw [Finset.sum_div, Finset.sum_div, Finset.mul_sum, ← Finset.sum_sub_distrib]
  exact Finset.sum_congr rfl fun k _ => by ring

/-- Lane `i` of score map `m` among the 128 lanes of a head. -/
def lane (m : Fin 2) (i : Fin 64) : Fin 128 := ⟨m.val * 64 + i.val, by omega⟩

/-- The score of one query against one key in map `m`: the product over the map's 64 lanes. -/
def score (m : Fin 2) (q k : Fin 128 → ℝ) : ℝ := ∑ i : Fin 64, q (lane m i) * k (lane m i)

/-- A product over all 128 lanes with the other map's lanes of the (scaled) query set to zero. -/
theorem score_masked (m : Fin 2) (q k : Fin 128 → ℝ) (c : ℝ) :
    (∑ d : Fin 128, (k d : EReal) * (if d.val / 64 = m.val then ((q d : EReal) * (c : EReal)) else 0))
      = ((score m q k * c : ℝ) : EReal) := by
  have h : ∀ d : Fin 128, ((k d : EReal) * (if d.val / 64 = m.val then ((q d : EReal) * (c : EReal)) else 0))
      = ((k d * (if d.val / 64 = m.val then q d * c else 0) : ℝ) : EReal) := fun d => by
    split
    · rw [← EReal.coe_mul, ← EReal.coe_mul]
    · simp
  simp only [h]
  rw [← coe_sum]
  refine congrArg _ ?_
  show (∑ d : Fin (64 + 64), k d * (if d.val / 64 = m.val then q d * c else 0)) = _
  rw [Fin.sum_univ_add, score, Finset.sum_mul]
  have hl : ∀ i : Fin 64, (Fin.castAdd 64 i : Fin (64 + 64)).val / 64 = 0 := fun i => by simp
  have hr : ∀ i : Fin 64, (Fin.natAdd 64 i : Fin (64 + 64)).val / 64 = 1 := fun i => by simp
  simp only [hl, hr]
  match m with
  | 0 =>
    simp only [Fin.val_zero, if_true, one_ne_zero, if_false, mul_zero, Finset.sum_const_zero, add_zero]
    refine Finset.sum_congr rfl fun i _ => ?_
    have e : (Fin.castAdd 64 i : Fin 128) = lane 0 i := Fin.ext (by simp [lane])
    rw [e]; ring
  | 1 =>
    simp only [Fin.val_one, zero_ne_one, if_true, if_false, mul_zero, Finset.sum_const_zero, zero_add]
    refine Finset.sum_congr rfl fun i _ => ?_
    have e : (Fin.natAdd 64 i : Fin 128) = lane 1 i := Fin.ext (by simp [lane, add_comm])
    rw [e]; ring

end Cert.Attention

end
-- ==== Proof.Scores.lean ====
/- What the body's score products hold: the query scaled, the other map's lanes set to zero, times every key. -/
module

public import proofs.«01_k».proof.Proof.Gen.KernelIdeal.Value
public import proofs.«01_k».proof.Proof.Attention
public import Idealize.ShloMosaic.Lib.Pointwise

@[expose] public section

set_option maxRecDepth 16384

noncomputable section

namespace Cert.KernelIdeal.Scores

open Cert.KernelIdeal Cert.KernelIdeal.Gen Cert.Attention Idealize.ShloMosaic Idealize.SL.Sem

/-- The scale the query is multiplied by. -/
abbrev cst : ℝ := (1 / 8) * (Real.log 2)⁻¹

/-- The lane numbers. -/
abbrev lanes : IVec S1x128 32 := iota .tc S1x128 32 [1] iota_S1x128_d1_w32

/-- The scaled query at an index. -/
theorem scale2 (q : FVec Ideal S512x128 .bf16) (j : Fin 512) (d : Fin 128) :
    k0_pay2 (F := Ideal) q (ix2 j d) = q (ix2 j d) * (cst : EReal) := by
  pointwise [k0_pay2]
  rfl

theorem scale9 (q : FVec Ideal S512x128 .bf16) : k0_pay9 (F := Ideal) q = k0_pay2 (F := Ideal) q := rfl
theorem scale22 (q : FVec Ideal S512x128 .bf16) : k0_pay22 (F := Ideal) q = k0_pay2 (F := Ideal) q := rfl
theorem scale35 (q : FVec Ideal S512x128 .bf16) : k0_pay35 (F := Ideal) q = k0_pay2 (F := Ideal) q := rfl

/-- The bit the body computes to tell whether a lane is map 0's. -/
theorem bit0 : ∀ d : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32))
        0#32
      = if d.val / 64 = (0 : Fin 2).val then 1#1 else 0#1 := by
  decide +kernel

/-- The bit the body computes to tell whether a lane is map 1's. -/
theorem bit1 : ∀ d : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32))
        1#32
      = if d.val / 64 = (1 : Fin 2).val then 1#1 else 0#1 := by
  decide +kernel

/-- The lanes of map 0 keep their entry, the others hold zero. -/
theorem mask6 (q : FVec Ideal S512x128 .bf16) (j : Fin 512) (d : Fin 128) :
    k0_pay6 (F := Ideal) q k0_pay3 k0_pay4 k0_pay5 (ix2 j d) = if d.val / 64 = (0 : Fin 2).val then q (ix2 j d) else 0 := by
  pointwise [k0_pay6, k0_pay3, k0_pay4, k0_pay5]
  by_cases h : d.val / 64 = (0 : Fin 2).val
  · exact (congrArg (fun b => Scalar.select b (q (ix2 j d)) 0) ((bit0 d).trans (if_pos h))).trans (if_pos h).symm
  · exact (congrArg (fun b => Scalar.select b (q (ix2 j d)) 0) ((bit0 d).trans (if_neg h))).trans (if_neg h).symm

theorem mask13 (q : FVec Ideal S512x128 .bf16) (j : Fin 512) (d : Fin 128) :
    k0_pay13 (F := Ideal) q (k0_pay10 lanes) (k0_pay11 lanes) (k0_pay12 lanes) (ix2 j d)
      = if d.val / 64 = (1 : Fin 2).val then q (ix2 j d) else 0 := by
  pointwise [k0_pay13, k0_pay10, k0_pay11, k0_pay12]
  by_cases h : d.val / 64 = (1 : Fin 2).val
  · exact (congrArg (fun b => Scalar.select b (q (ix2 j d)) 0) ((bit1 d).trans (if_pos h))).trans (if_pos h).symm
  · exact (congrArg (fun b => Scalar.select b (q (ix2 j d)) 0) ((bit1 d).trans (if_neg h))).trans (if_neg h).symm

theorem mask24 (q : FVec Ideal S512x128 .bf16) (j : Fin 512) (d : Fin 128) :
    k0_pay24 (F := Ideal) lanes q 64#32 (k0_pay23 lanes) 0#32 (ix2 j d)
      = if d.val / 64 = (0 : Fin 2).val then q (ix2 j d) else 0 := by
  pointwise [k0_pay24, k0_pay23]
  by_cases h : d.val / 64 = (0 : Fin 2).val
  · exact (congrArg (fun b => Scalar.select b (q (ix2 j d)) 0) ((bit0 d).trans (if_pos h))).trans (if_pos h).symm
  · exact (congrArg (fun b => Scalar.select b (q (ix2 j d)) 0) ((bit0 d).trans (if_neg h))).trans (if_neg h).symm

theorem mask38 (q : FVec Ideal S512x128 .bf16) (j : Fin 512) (d : Fin 128) :
    k0_pay38 (F := Ideal) q (k0_pay36 lanes) (k0_pay37 lanes) (ix2 j d)
      = if d.val / 64 = (1 : Fin 2).val then q (ix2 j d) else 0 := by
  pointwise [k0_pay38, k0_pay36, k0_pay37]
  by_cases h : d.val / 64 = (1 : Fin 2).val
  · exact (congrArg (fun b => Scalar.select b (q (ix2 j d)) 0) ((bit1 d).trans (if_pos h))).trans (if_pos h).symm
  · exact (congrArg (fun b => Scalar.select b (q (ix2 j d)) 0) ((bit1 d).trans (if_neg h))).trans (if_neg h).symm

/-- A score of map 0: a latent key `k` against query `j`, both real. -/
theorem score7 (q : FVec Ideal S512x128 .bf16) (kk : FVec Ideal S4096x128 .bf16) (k : Fin 4096) (j : Fin 512)
    (qr kr : Fin 128 → ℝ) (hq : ∀ d, q (ix2 j d) = (qr d : EReal)) (hk : ∀ d, kk (ix2 k d) = (kr d : EReal)) :
    k0_pay7 (F := Ideal) (k0_pay2 q) k0_pay3 k0_pay4 k0_pay5 kk (ix2 k j) = ((score 0 qr kr * cst : ℝ) : EReal) := by
  have e : k0_pay7 (F := Ideal) (k0_pay2 q) k0_pay3 k0_pay4 k0_pay5 kk (ix2 k j) = ∑ d : Fin 128, kk (ix2 k d) * k0_pay6 (F := Ideal) (k0_pay2 q) k0_pay3 k0_pay4 k0_pay5 (ix2 j d) := by
    pointwise [k0_pay7]
  rw [e, ← score_masked]
  refine Finset.sum_congr rfl fun d _ => ?_
  rw [mask6, scale2, hq, hk]

/-- A score of map 0: a context key `k` against query `j`, both real. -/
theorem score8 (q : FVec Ideal S512x128 .bf16) (kk : FVec Ideal S256x128 .bf16) (k : Fin 256) (j : Fin 512)
    (qr kr : Fin 128 → ℝ) (hq : ∀ d, q (ix2 j d) = (qr d : EReal)) (hk : ∀ d, kk (ix2 k d) = (kr d : EReal)) :
    k0_pay8 (F := Ideal) (k0_pay2 q) k0_pay3 k0_pay4 k0_pay5 kk (ix2 k j) = ((score 0 qr kr * cst : ℝ) : EReal) := by
  have e : k0_pay8 (F := Ideal) (k0_pay2 q) k0_pay3 k0_pay4 k0_pay5 kk (ix2 k j) = ∑ d : Fin 128, kk (ix2 k d) * k0_pay6 (F := Ideal) (k0_pay2 q) k0_pay3 k0_pay4 k0_pay5 (ix2 j d) := by
    pointwise [k0_pay8]
  rw [e, ← score_masked]
  refine Finset.sum_congr rfl fun d _ => ?_
  rw [mask6, scale2, hq, hk]

/-- A score of map 1: a latent key `k` against query `j`, both real. -/
theorem score14 (q : FVec Ideal S512x128 .bf16) (kk : FVec Ideal S4096x128 .bf16) (k : Fin 4096) (j : Fin 512)
    (qr kr : Fin 128 → ℝ) (hq : ∀ d, q (ix2 j d) = (qr d : EReal)) (hk : ∀ d, kk (ix2 k d) = (kr d : EReal)) :
    k0_pay14 (F := Ideal) (k0_pay2 q) (k0_pay10 lanes) (k0_pay11 lanes) (k0_pay12 lanes) kk (ix2 k j) = ((score 1 qr kr * cst : ℝ) : EReal) := by
  have e : k0_pay14 (F := Ideal) (k0_pay2 q) (k0_pay10 lanes) (k0_pay11 lanes) (k0_pay12 lanes) kk (ix2 k j) = ∑ d : Fin 128, kk (ix2 k d) * k0_pay13 (F := Ideal) (k0_pay2 q) (k0_pay10 lanes) (k0_pay11 lanes) (k0_pay12 lanes) (ix2 j d) := by
    pointwise [k0_pay14]
  rw [e, ← score_masked]
  refine Finset.sum_congr rfl fun d _ => ?_
  rw [mask13, scale2, hq, hk]

/-- A score of map 1: a context key `k` against query `j`, both real. -/
theorem score15 (q : FVec Ideal S512x128 .bf16) (kk : FVec Ideal S256x128 .bf16) (k : Fin 256) (j : Fin 512)
    (qr kr : Fin 128 → ℝ) (hq : ∀ d, q (ix2 j d) = (qr d : EReal)) (hk : ∀ d, kk (ix2 k d) = (kr d : EReal)) :
    k0_pay15 (F := Ideal) (k0_pay2 q) (k0_pay10 lanes) (k0_pay11 lanes) (k0_pay12 lanes) kk (ix2 k j) = ((score 1 qr kr * cst : ℝ) : EReal) := by
  have e : k0_pay15 (F := Ideal) (k0_pay2 q) (k0_pay10 lanes) (k0_pay11 lanes) (k0_pay12 lanes) kk (ix2 k j) = ∑ d : Fin 128, kk (ix2 k d) * k0_pay13 (F := Ideal) (k0_pay2 q) (k0_pay10 lanes) (k0_pay11 lanes) (k0_pay12 lanes) (ix2 j d) := by
    pointwise [k0_pay15]
  rw [e, ← score_masked]
  refine Finset.sum_congr rfl fun d _ => ?_
  rw [mask13, scale2, hq, hk]

/-- A score of map 0: a latent key `k` against query `j`, both real. -/
theorem score25 (q : FVec Ideal S512x128 .bf16) (kk : FVec Ideal S4096x128 .bf16) (k : Fin 4096) (j : Fin 512)
    (qr kr : Fin 128 → ℝ) (hq : ∀ d, q (ix2 j d) = (qr d : EReal)) (hk : ∀ d, kk (ix2 k d) = (kr d : EReal)) :
    k0_pay25 (F := Ideal) lanes (k0_pay2 q) 64#32 (k0_pay23 lanes) 0#32 kk (ix2 k j) = ((score 0 qr kr * cst : ℝ) : EReal) := by
  have e : k0_pay25 (F := Ideal) lanes (k0_pay2 q) 64#32 (k0_pay23 lanes) 0#32 kk (ix2 k j) = ∑ d : Fin 128, kk (ix2 k d) * k0_pay24 (F := Ideal) lanes (k0_pay2 q) 64#32 (k0_pay23 lanes) 0#32 (ix2 j d) := by
    pointwise [k0_pay25]
  rw [e, ← score_masked]
  refine Finset.sum_congr rfl fun d _ => ?_
  rw [mask24, scale2, hq, hk]

/-- A score of map 0: a context key `k` against query `j`, both real. -/
theorem score26 (q : FVec Ideal S512x128 .bf16) (kk : FVec Ideal S256x128 .bf16) (k : Fin 256) (j : Fin 512)
    (qr kr : Fin 128 → ℝ) (hq : ∀ d, q (ix2 j d) = (qr d : EReal)) (hk : ∀ d, kk (ix2 k d) = (kr d : EReal)) :
    k0_pay26 (F := Ideal) lanes (k0_pay2 q) 64#32 (k0_pay23 lanes) 0#32 kk (ix2 k j) = ((score 0 qr kr * cst : ℝ) : EReal) := by
  have e : k0_pay26 (F := Ideal) lanes (k0_pay2 q) 64#32 (k0_pay23 lanes) 0#32 kk (ix2 k j) = ∑ d : Fin 128, kk (ix2 k d) * k0_pay24 (F := Ideal) lanes (k0_pay2 q) 64#32 (k0_pay23 lanes) 0#32 (ix2 j d) := by
    pointwise [k0_pay26]
  rw [e, ← score_masked]
  refine Finset.sum_congr rfl fun d _ => ?_
  rw [mask24, scale2, hq, hk]

/-- A score of map 1: a latent key `k` against query `j`, both real. -/
theorem score39 (q : FVec Ideal S512x128 .bf16) (kk : FVec Ideal S4096x128 .bf16) (k : Fin 4096) (j : Fin 512)
    (qr kr : Fin 128 → ℝ) (hq : ∀ d, q (ix2 j d) = (qr d : EReal)) (hk : ∀ d, kk (ix2 k d) = (kr d : EReal)) :
    k0_pay39 (F := Ideal) (k0_pay2 q) (k0_pay36 lanes) (k0_pay37 lanes) kk (ix2 k j) = ((score 1 qr kr * cst : ℝ) : EReal) := by
  have e : k0_pay39 (F := Ideal) (k0_pay2 q) (k0_pay36 lanes) (k0_pay37 lanes) kk (ix2 k j) = ∑ d : Fin 128, kk (ix2 k d) * k0_pay38 (F := Ideal) (k0_pay2 q) (k0_pay36 lanes) (k0_pay37 lanes) (ix2 j d) := by
    pointwise [k0_pay39]
  rw [e, ← score_masked]
  refine Finset.sum_congr rfl fun d _ => ?_
  rw [mask38, scale2, hq, hk]

/-- A score of map 1: a context key `k` against query `j`, both real. -/
theorem score40 (q : FVec Ideal S512x128 .bf16) (kk : FVec Ideal S256x128 .bf16) (k : Fin 256) (j : Fin 512)
    (qr kr : Fin 128 → ℝ) (hq : ∀ d, q (ix2 j d) = (qr d : EReal)) (hk : ∀ d, kk (ix2 k d) = (kr d : EReal)) :
    k0_pay40 (F := Ideal) (k0_pay2 q) (k0_pay36 lanes) (k0_pay37 lanes) kk (ix2 k j) = ((score 1 qr kr * cst : ℝ) : EReal) := by
  have e : k0_pay40 (F := Ideal) (k0_pay2 q) (k0_pay36 lanes) (k0_pay37 lanes) kk (ix2 k j) = ∑ d : Fin 128, kk (ix2 k d) * k0_pay38 (F := Ideal) (k0_pay2 q) (k0_pay36 lanes) (k0_pay37 lanes) (ix2 j d) := by
    pointwise [k0_pay40]
  rw [e, ← score_masked]
  refine Finset.sum_congr rfl fun d _ => ?_
  rw [mask38, scale2, hq, hk]

end Cert.KernelIdeal.Scores

end
-- ==== Proof.Soft.lean ====
/- What one map's output holds, from its scores and its values: the softmax-weighted sum of the values; and what the
   body makes of the two maps' outputs. -/
module

public import proofs.«01_k».proof.Proof.Gen.KernelIdeal.Value
public import proofs.«01_k».proof.Proof.Scores
public import Idealize.ShloMosaic.Lib.Pointwise

@[expose] public section

set_option maxRecDepth 16384

noncomputable section

namespace Cert.KernelIdeal.Soft

open Cert.KernelIdeal Cert.KernelIdeal.Gen Cert.KernelIdeal.Scores Cert.Attention Idealize.ShloMosaic Idealize.SL.Sem

variable (s : FVec Ideal S4096x512 .f32) (c : FVec Ideal S256x512 .f32)

/-- The greatest entry of a column of the latent scores. -/
theorem colmax (j : Fin 512) :
    multiReduction .maximumf [0] S512 s 0xFF800000#32 reduces_S4096x512_S512 (.inl rfl) rfl (ix1 j)
      = Finset.univ.fold max (Ideal.ofBits .f32 0xFF800000#32) fun k : Fin 4096 => s (ix2 k j) := by
  refine (Ideal.multiReduction_maximumf_single _ _ _ _ _ _).trans ?_
  refine congrArg (fun f => Finset.fold max (Ideal.ofBits .f32 0xFF800000#32) f (Finset.univ : Finset (Fin 4096))) (funext fun k => congrArg s ?_)
  refine funext fun x => ?_
  match x with
  | 0 => exact Fin.ext rfl
  | 1 => exact Fin.ext rfl

/-- The greatest entry of a column of the context scores. -/
theorem colmax' (j : Fin 512) :
    multiReduction .maximumf [0] S512 c 0xFF800000#32 reduces_S256x512_S512 (.inl rfl) rfl (ix1 j)
      = Finset.univ.fold max (Ideal.ofBits .f32 0xFF800000#32) fun k : Fin 256 => c (ix2 k j) := by
  pointwise

/-- The greater of two rows. -/
theorem rowmax (a b : FVec Ideal S512 .f32) (j : Fin 512) :
    maximumf (shapeCast S1x512 a shapeCasts_S512_S1x512) (shapeCast S1x512 b shapeCasts_S512_S1x512) (ix2 0 j)
      = max (a (ix1 j)) (b (ix1 j)) := by
  pointwise

/-- The greatest score of a query, its scores real, is a real. -/
theorem max_real (j : Fin 512) (x : Fin 4096 → ℝ) (y : Fin 256 → ℝ)
    (hs : ∀ k, s (ix2 k j) = (x k : EReal)) (hc : ∀ k, c (ix2 k j) = (y k : EReal)) :
    ∃ M : ℝ, k0_pay16 (F := Ideal) s c (ix2 0 j) = (M : EReal) := by
  obtain ⟨A, hA⟩ := fold_max_real Finset.univ Finset.univ_nonempty x
  obtain ⟨B, hB⟩ := fold_max_real Finset.univ Finset.univ_nonempty y
  refine ⟨max A B, (rowmax _ _ j).trans ?_⟩
  rw [colmax, colmax', ofBits_neg_inf, funext hs, funext hc, hA, hB]
  exact (EReal.coe_strictMono.monotone.map_max).symm

theorem exp_apply (k : Fin 4096) (j : Fin 512) :
    k0_pay17 (F := Ideal) s c (ix2 k j) = Ideal.exp2 (s (ix2 k j) - k0_pay16 (F := Ideal) s c (ix2 0 j)) := by
  pointwise [k0_pay17]
  rfl

theorem exp_apply' (k : Fin 256) (j : Fin 512) :
    k0_pay18 (F := Ideal) s c (ix2 k j) = Ideal.exp2 (c (ix2 k j) - k0_pay16 (F := Ideal) s c (ix2 0 j)) := by
  pointwise [k0_pay18]
  rfl

theorem den_apply (j : Fin 512) :
    k0_pay19 (F := Ideal) s c (ix2 0 j)
      = (∑ k : Fin 4096, k0_pay17 (F := Ideal) s c (ix2 k j)) + ∑ k : Fin 256, k0_pay18 (F := Ideal) s c (ix2 k j) := by
  pointwise [k0_pay19]

theorem num_apply (e : FVec Ideal S4096x512 .bf16) (e' : FVec Ideal S256x512 .bf16) (v0 : FVec Ideal S128x4096 .bf16)
    (v1 : FVec Ideal S128x256 .bf16) (d : Fin 128) (j : Fin 512) :
    k0_pay27 (F := Ideal) e e' v0 v1 (ix2 d j)
      = (∑ k : Fin 4096, v0 (ix2 d k) * e (ix2 k j)) + ∑ k : Fin 256, v1 (ix2 d k) * e' (ix2 k j) := by
  pointwise [k0_pay27]

theorem quot_apply (n : FVec Ideal S1x512 .f32) (a : FVec Ideal S128x512 .f32) (d : Fin 128) (j : Fin 512) :
    k0_pay28 (F := Ideal) n a (ix2 d j) = Ideal.div (a (ix2 d j)) (n (ix2 0 j)) := by
  pointwise [k0_pay28]

/-- One map's output at row `d` and query `j`, its scores `x`, `y` (each times the scale) and its values real: the
    softmax-weighted sum of the values. -/
theorem map_apply (v0 : FVec Ideal S128x4096 .bf16) (v1 : FVec Ideal S128x256 .bf16) (d : Fin 128) (j : Fin 512)
    (x : Fin 4096 → ℝ) (y : Fin 256 → ℝ) (w : Fin 4096 → ℝ) (u : Fin 256 → ℝ)
    (hs : ∀ k, s (ix2 k j) = ((x k * cst : ℝ) : EReal)) (hc : ∀ k, c (ix2 k j) = ((y k * cst : ℝ) : EReal))
    (hv : ∀ k, v0 (ix2 d k) = (w k : EReal)) (hu : ∀ k, v1 (ix2 d k) = (u k : EReal)) :
    k0_pay28 (F := Ideal) (k0_pay19 s c) (k0_pay27 (k0_pay20 s c) (k0_pay21 s c) v0 v1) (ix2 d j) = (soft x y w u : EReal) := by
  obtain ⟨M, hM⟩ := max_real s c j _ _ hs hc
  have he : ∀ k, k0_pay17 (F := Ideal) s c (ix2 k j) = ((Real.exp (x k / 8) * Real.exp (-(M * Real.log 2)) : ℝ) : EReal) := fun k => by
    rw [exp_apply, hs, hM]; exact exp2_scaled _ _
  have he' : ∀ k, k0_pay18 (F := Ideal) s c (ix2 k j) = ((Real.exp (y k / 8) * Real.exp (-(M * Real.log 2)) : ℝ) : EReal) := fun k => by
    rw [exp_apply', hc, hM]; exact exp2_scaled _ _
  have h20 : ∀ k, k0_pay20 (F := Ideal) s c (ix2 k j) = k0_pay17 (F := Ideal) s c (ix2 k j) := fun _ => rfl
  have h21 : ∀ k, k0_pay21 (F := Ideal) s c (ix2 k j) = k0_pay18 (F := Ideal) s c (ix2 k j) := fun _ => rfl
  rw [quot_apply, num_apply, den_apply]
  simp only [h20, h21, he, he', hv, hu]
  exact soft_eq x y w u _ (Real.exp_pos _)

/-- The number the second map is weighted by, from the four rows of its parameters. -/
def lam (x : FVec Ideal S4x64 .f32) : EReal :=
  Ideal.exp (∑ i : Fin 64, x (ix2 0 i) * x (ix2 1 i)) - Ideal.exp (∑ i : Fin 64, x (ix2 2 i) * x (ix2 3 i))
    + Ideal.ofBits .f32 0x3E4CCCCD#32

theorem lam_apply (x : Vec Ideal S4x64 .f32) : k0_pay1 (F := Ideal) x (ix2 0 0) = lam x := by
  pointwise [k0_pay1]
  rfl

/-- A head's output row `o` divided by its root mean square, times the weight and the constant 0.8. -/
def rms (o : Fin 128 → EReal) (w : EReal) (d : Fin 128) : EReal :=
  o d * Ideal.rsqrt (Ideal.div (∑ x, o x * o x) (Ideal.ofBits .f32 0x43000000#32) + Ideal.ofBits .f32 0x358637BD#32)
    * w * Ideal.ofBits .f32 0x3F4CCCCD#32

/-- The block's entry for query `j` and lane `d`, from the two maps' outputs. -/
theorem finish_apply (l : FVec Ideal S1x1 .f32) (a b : FVec Ideal S128x512 .f32) (w : FVec Ideal S128x1 .f32) (d : Fin 128) (j : Fin 512) :
    k0_pay52 (F := Ideal) l a b w (ix2 j d)
      = rms (fun x => a (ix2 x j) - l (ix2 0 0) * b (ix2 x j)) (w (ix2 d 0)) d := by
  pointwise [k0_pay52]
  rfl

end Cert.KernelIdeal.Soft

end
-- ==== Proof.Body.lean ====
/- What one grid point leaves in its output block. -/
module

public import proofs.«01_k».proof.Proof.Gen.KernelIdeal.Value
public import proofs.«01_k».proof.Proof.Soft
public import Idealize.ShloMosaic.Lib.Tactic
public import Idealize.ShloMosaic.Lib.Pipeline.ValueKit.Tiles

@[expose] public section

set_option maxRecDepth 16384

noncomputable section

namespace Cert.KernelIdeal.Body

open Cert.KernelIdeal Cert.KernelIdeal.Gen Cert.KernelIdeal.Scores Cert.KernelIdeal.Soft Cert.Attention
open Idealize.ShloMosaic Idealize.ShloMosaic.Tactic Idealize.SL.Sem

theorem hz : (![0, 0] : Fin 2 → Nat) = fun _ => 0 := funext fun a => by fin_cases a <;> rfl

/-- One map's output from its scores and its values. -/
def mapOut (s : FVec Ideal S4096x512 .f32) (c : FVec Ideal S256x512 .f32) (v0 : FVec Ideal S128x4096 .bf16)
    (v1 : FVec Ideal S128x256 .bf16) : FVec Ideal S128x512 .f32 :=
  k0_pay28 (F := Ideal) (k0_pay19 s c) (k0_pay27 (k0_pay20 s c) (k0_pay21 s c) v0 v1)

/-- Both maps' outputs for 512 queries, as the body computes them for the first half of its rows … -/
def out00 (q : FVec Ideal S512x128 .bf16) (x3 : Vec Ideal S4096x128 .bf16) (x4 : Vec Ideal S256x128 .bf16)
    (x5 : Vec Ideal S128x4096 .bf16) (x6 : Vec Ideal S128x256 .bf16) : FVec Ideal S128x512 .f32 :=
  mapOut (k0_pay7 (k0_pay2 q) k0_pay3 k0_pay4 k0_pay5 x3) (k0_pay8 (k0_pay2 q) k0_pay3 k0_pay4 k0_pay5 x4) x5 x6
def out01 (q : FVec Ideal S512x128 .bf16) (x3 : Vec Ideal S4096x128 .bf16) (x4 : Vec Ideal S256x128 .bf16)
    (x5 : Vec Ideal S128x4096 .bf16) (x6 : Vec Ideal S128x256 .bf16) : FVec Ideal S128x512 .f32 :=
  mapOut (k0_pay14 (k0_pay2 q) (k0_pay10 lanes) (k0_pay11 lanes) (k0_pay12 lanes) x3)
    (k0_pay15 (k0_pay2 q) (k0_pay10 lanes) (k0_pay11 lanes) (k0_pay12 lanes) x4) x5 x6
/-- … and for the second half. -/
def out10 (q : FVec Ideal S512x128 .bf16) (x3 : Vec Ideal S4096x128 .bf16) (x4 : Vec Ideal S256x128 .bf16)
    (x5 : Vec Ideal S128x4096 .bf16) (x6 : Vec Ideal S128x256 .bf16) : FVec Ideal S128x512 .f32 :=
  mapOut (k0_pay25 lanes (k0_pay2 q) 64#32 (k0_pay23 lanes) 0#32 x3) (k0_pay26 lanes (k0_pay2 q) 64#32 (k0_pay23 lanes) 0#32 x4) x5 x6
def out11 (q : FVec Ideal S512x128 .bf16) (x3 : Vec Ideal S4096x128 .bf16) (x4 : Vec Ideal S256x128 .bf16)
    (x5 : Vec Ideal S128x4096 .bf16) (x6 : Vec Ideal S128x256 .bf16) : FVec Ideal S128x512 .f32 :=
  mapOut (k0_pay39 (k0_pay2 q) (k0_pay36 lanes) (k0_pay37 lanes) x3) (k0_pay40 (k0_pay2 q) (k0_pay36 lanes) (k0_pay37 lanes) x4) x5 x6

/-- The output row of one query in real numbers: map 0's softmax-weighted values less `lam` times map 1's. -/
def mix (q : Fin 128 → ℝ) (k : Fin 4096 → Fin 128 → ℝ) (k' : Fin 256 → Fin 128 → ℝ) (v : Fin 128 → Fin 4096 → ℝ)
    (v' : Fin 128 → Fin 256 → ℝ) (l : EReal) (x : Fin 128) : EReal :=
  (soft (fun n => score 0 q (k n)) (fun n => score 0 q (k' n)) (v x) (v' x) : EReal)
    - l * (soft (fun n => score 1 q (k n)) (fun n => score 1 q (k' n)) (v x) (v' x) : EReal)

section
variable (q : FVec Ideal S512x128 .bf16) (x3 : Vec Ideal S4096x128 .bf16) (x4 : Vec Ideal S256x128 .bf16)
  (x5 : Vec Ideal S128x4096 .bf16) (x6 : Vec Ideal S128x256 .bf16) (j : Fin 512)
  (qr : Fin 128 → ℝ) (kr : Fin 4096 → Fin 128 → ℝ) (kr' : Fin 256 → Fin 128 → ℝ) (vr : Fin 128 → Fin 4096 → ℝ) (vr' : Fin 128 → Fin 256 → ℝ)
  (hq : ∀ e, q (ix2 j e) = (qr e : EReal)) (hk : ∀ n e, x3 (ix2 n e) = (kr n e : EReal)) (hk' : ∀ n e, x4 (ix2 n e) = (kr' n e : EReal))
  (hv : ∀ e n, x5 (ix2 e n) = (vr e n : EReal)) (hv' : ∀ e n, x6 (ix2 e n) = (vr' e n : EReal))
include hq hk hk' hv hv'

theorem out00_apply (x : Fin 128) : out00 q x3 x4 x5 x6 (ix2 x j)
    = (soft (fun n => score 0 qr (kr n)) (fun n => score 0 qr (kr' n)) (vr x) (vr' x) : EReal) :=
  map_apply _ _ x5 x6 x j _ _ _ _ (fun n => score7 q x3 n j qr (kr n) hq (hk n)) (fun n => score8 q x4 n j qr (kr' n) hq (hk' n))
    (hv x) (hv' x)

theorem out01_apply (x : Fin 128) : out01 q x3 x4 x5 x6 (ix2 x j)
    = (soft (fun n => score 1 qr (kr n)) (fun n => score 1 qr (kr' n)) (vr x) (vr' x) : EReal) :=
  map_apply _ _ x5 x6 x j _ _ _ _ (fun n => score14 q x3 n j qr (kr n) hq (hk n)) (fun n => score15 q x4 n j qr (kr' n) hq (hk' n))
    (hv x) (hv' x)

theorem out10_apply (x : Fin 128) : out10 q x3 x4 x5 x6 (ix2 x j)
    = (soft (fun n => score 0 qr (kr n)) (fun n => score 0 qr (kr' n)) (vr x) (vr' x) : EReal) :=
  map_apply _ _ x5 x6 x j _ _ _ _ (fun n => score25 q x3 n j qr (kr n) hq (hk n)) (fun n => score26 q x4 n j qr (kr' n) hq (hk' n))
    (hv x) (hv' x)

theorem out11_apply (x : Fin 128) : out11 q x3 x4 x5 x6 (ix2 x j)
    = (soft (fun n => score 1 qr (kr n)) (fun n => score 1 qr (kr' n)) (vr x) (vr' x) : EReal) :=
  map_apply _ _ x5 x6 x j _ _ _ _ (fun n => score39 q x3 n j qr (kr n) hq (hk n)) (fun n => score40 q x4 n j qr (kr' n) hq (hk' n))
    (hv x) (hv' x)

end

section
variable (c : Dev nD) (i : grid0.Coords) (a3 : Memref sig .tc .vmem S4x64 .f32) (h3 : a3.IsWhole)
  (a4 : Memref sig .tc .vmem S128x1 .f32) (h4 : a4.IsWhole) (a5 : Memref sig .tc .vmem S1024x128 .bf16) (h5 : a5.IsWhole)
  (a6 : Memref sig .tc .vmem S4096x128 .bf16) (h6 : a6.IsWhole) (a7 : Memref sig .tc .vmem S256x128 .bf16) (h7 : a7.IsWhole)
  (a8 : Memref sig .tc .vmem S128x4096 .bf16) (h8 : a8.IsWhole) (a9 : Memref sig .tc .vmem S128x256 .bf16) (h9 : a9.IsWhole)
  (a10 : Memref sig .tc .vmem S1024x128 .f32) (h10 : a10.IsWhole)
  (x0 : Vec Ideal S4x64 .f32) (x1 : Vec Ideal S128x1 .f32) (x2 : Vec Ideal S1024x128 .bf16) (x3 : Vec Ideal S4096x128 .bf16)
  (x4 : Vec Ideal S256x128 .bf16) (x5 : Vec Ideal S128x4096 .bf16) (x6 : Vec Ideal S128x256 .bf16)

set_option maxHeartbeats 1000000 in
/-- A block's entry for its row `r` and lane `d`, the query's row and all keys and values real. -/
theorem out_apply (r : Fin 1024) (d : Fin 128) (qr : Fin 128 → ℝ) (kr : Fin 4096 → Fin 128 → ℝ) (kr' : Fin 256 → Fin 128 → ℝ)
    (vr : Fin 128 → Fin 4096 → ℝ) (vr' : Fin 128 → Fin 256 → ℝ)
    (hq : ∀ e, x2 (ix2 r e) = (qr e : EReal)) (hk : ∀ n e, x3 (ix2 n e) = (kr n e : EReal)) (hk' : ∀ n e, x4 (ix2 n e) = (kr' n e : EReal))
    (hv : ∀ e n, x5 (ix2 e n) = (vr e n : EReal)) (hv' : ∀ e n, x6 (ix2 e n) = (vr' e n : EReal)) :
    out0_A_7 (F := Ideal) c i a3 h3 a4 h4 a5 h5 a6 h6 a7 h7 a8 h8 a9 h9 a10 h10 x0 x1 x2 x3 x4 x5 x6 (ix2 r d)
      = rms (mix qr kr kr' vr vr' (lam x0)) (x1 (ix2 d 0)) d := by
  unfold out0_A_7
  rw [View.read_writes_eq_canon _ _ _ (cover0_A_7 c i a3 h3 a4 h4 a5 h5 a6 h6 a7 h7 a8 h8 a9 h9 a10 h10 x0 x1 x2 x3 x4 x5 x6)]
  refine View.canon_eq_of_allAt _ _ _ (cover0_A_7 c i a3 h3 a4 h4 a5 h5 a6 h6 a7 h7 a8 h8 a9 h9 a10 h10 x0 x1 x2 x3 x4 x5 x6 _) ?_
  unfold kernelRun0_A
  dsimp only
  sl_unfold_words
  simp only [View.readAt_eq_ld, h3.read_unread, h4.read_unread, h5.read_unread, h6.read_unread, h7.read_unread, h8.read_unread,
    h9.read_unread, View.ld_unit_zero (S := S4x64) hz, View.ld_unit_zero (S := S128x1) hz, View.ld_unit_zero (S := S4096x128) hz,
    View.ld_unit_zero (S := S256x128) hz, View.ld_unit_zero (S := S128x4096) hz, View.ld_unit_zero (S := S128x256) hz]
  refine View.allAt_cons_unit _ _ _ _ _ ?_ (View.allAt_cons_unit _ _ _ _ _ ?_ (View.allAt_nil _ _))
  · intro y hy
    have e : y = ix2 (y 0) d := by
      refine funext fun a => ?_
      match a with
      | 0 => rfl
      | 1 => exact Fin.ext (by have := hy 1; simpa using this.symm)
    rw [e]
    refine (finish_apply (k0_pay1 x0) (out10 (View.ld x2 (Rect.unit ![512, 0] ![512, 128] inb_S1024x128_S512x128_512_0)) x3 x4 x5 x6)
      (out11 (View.ld x2 (Rect.unit ![512, 0] ![512, 128] inb_S1024x128_S512x128_512_0)) x3 x4 x5 x6) x1 d (y 0)).trans ?_
    have hq' : ∀ e, View.ld x2 (Rect.unit ![512, 0] ![512, 128] inb_S1024x128_S512x128_512_0) (ix2 (y 0) e) = (qr e : EReal) := fun e =>
      (View.ld_unit_apply_of (S := S1024x128) x2 _ _ _ (ix2 (y 0) e) (ix2 r e) (fun a => by
        match a with
        | 0 => exact hy 0
        | 1 => exact (Nat.zero_add _).symm)).trans (hq e)
    rw [lam_apply]
    congr 1
    funext x
    rw [out10_apply _ x3 x4 x5 x6 (y 0) qr kr kr' vr vr' hq' hk hk' hv hv', out11_apply _ x3 x4 x5 x6 (y 0) qr kr kr' vr vr' hq' hk hk' hv hv']
    rfl
  · intro y hy
    have e : y = ix2 (y 0) d := by
      refine funext fun a => ?_
      match a with
      | 0 => rfl
      | 1 => exact Fin.ext (by have := hy 1; simpa using this.symm)
    rw [e]
    refine (finish_apply (k0_pay1 x0) (out00 (View.ld x2 (Rect.unit ![0, 0] ![512, 128] inb_S1024x128_S512x128_0_0)) x3 x4 x5 x6)
      (out01 (View.ld x2 (Rect.unit ![0, 0] ![512, 128] inb_S1024x128_S512x128_0_0)) x3 x4 x5 x6) x1 d (y 0)).trans ?_
    have hq' : ∀ e, View.ld x2 (Rect.unit ![0, 0] ![512, 128] inb_S1024x128_S512x128_0_0) (ix2 (y 0) e) = (qr e : EReal) := fun e =>
      (View.ld_unit_apply_of (S := S1024x128) x2 _ _ _ (ix2 (y 0) e) (ix2 r e) (fun a => by
        match a with
        | 0 => exact hy 0
        | 1 => exact (Nat.zero_add _).symm)).trans (hq e)
    rw [lam_apply]
    congr 1
    funext x
    rw [out00_apply _ x3 x4 x5 x6 (y 0) qr kr kr' vr vr' hq' hk hk' hv hv', out01_apply _ x3 x4 x5 x6 (y 0) qr kr kr' vr vr' hq' hk hk' hv hv']
    rfl
end

end Cert.KernelIdeal.Body

end
-- ==== Proof.Windows.lean ====
/- What the grid points' input blocks hold, in terms of the arguments: the latent and context rows lie in one array each
   of queries, keys and (transposed) values, and a block is some of its rows and the 128 columns of one head. -/
module

public import proofs.«01_k».proof.Proof.Gen.KernelIdeal.Value
public import proofs.«01_k».proof.Proof.Soft
public import Idealize.ShloMosaic.Lib.Pointwise
public import Idealize.ShloMosaic.Lib.Pipeline.ValueKit

@[expose] public section

set_option maxRecDepth 16384

noncomputable section

namespace Cert.KernelIdeal.Windows

open Cert.KernelIdeal Cert.KernelIdeal.Gen Cert.Attention
open Idealize.ShloMosaic Idealize.ShloMosaic.TcCoe Idealize.SL.Sem
open Idealize.ShloMosaic.Pipeline (Dat)

/-- The latent rows of all prompts, then the context rows of all prompts. -/
def cat (A : FVec Ideal S8x4096x512 .f32) (B : FVec Ideal S8x256x512 .f32) : FVec Ideal S34816x512 .f32 :=
  concatenate S34816x512 0 [⟨S32768x512, shapeCast S32768x512 A shapeCasts_S8x4096x512_S32768x512⟩,
    ⟨S2048x512, shapeCast S2048x512 B shapeCasts_S8x256x512_S2048x512⟩] concatenates_S32768x512_S2048x512_S34816x512_d0

theorem cat_lat (A : FVec Ideal S8x4096x512 .f32) (B : FVec Ideal S8x256x512 .f32) (b : Fin 8) (n : Fin 4096) (C : Fin 512) :
    cat A B (ix2 ⟨b.val * 4096 + n.val, by omega⟩ C) = A (ix3 b n C) := by
  pointwise [cat]
  exact dif_pos (by omega)

theorem cat_ctx_row (A : FVec Ideal S8x4096x512 .f32) (B : FVec Ideal S8x256x512 .f32) (R : Fin 34816) (C : Fin 512) (h : ¬ R.val < 32768) :
    cat A B (ix2 R C) = B (ix3 ⟨(R.val - 32768) / 256, by omega⟩ ⟨(R.val - 32768) % 256, by omega⟩ C) := by
  pointwise [cat]
  exact dif_neg h

theorem cat_ctx (A : FVec Ideal S8x4096x512 .f32) (B : FVec Ideal S8x256x512 .f32) (b : Fin 8) (n : Fin 256) (C : Fin 512) (R : Fin 34816)
    (hR : R.val = 32768 + (b.val * 256 + n.val)) : cat A B (ix2 R C) = B (ix3 b n C) := by
  refine (cat_ctx_row A B R C (by omega)).trans (congrArg B ?_)
  have e1 : (⟨(R.val - 32768) / 256, by omega⟩ : Fin 8) = b := Fin.ext (by show (R.val - 32768) / 256 = b.val; omega)
  have e2 : (⟨(R.val - 32768) % 256, by omega⟩ : Fin 256) = n := Fin.ext (by show (R.val - 32768) % 256 = n.val; omega)
  rw [e1, e2]

theorem tr_apply (X : FVec Ideal S34816x512 .f32) (C : Fin 512) (R : Fin 34816) :
    transpose S512x34816 [1, 0] X transposes_S34816x512_S512x34816_1_0 (ix2 C R) = X (ix2 R C) := by
  pointwise

variable (m : (ℓ : Loc nD τ sig) → Buf (Elt Ideal) ℓ) (c : Dev nD)

theorem V_q : V m c main_v3 = truncf (F := Ideal) .bf16 (cat (m ((c : Thread nD τ).loc main_arg0)) (m ((c : Thread nD τ).loc main_arg3))) bitsLt_bf16_f32 := by
  show StableHlo.after hostOps0 (fun b => m (c, b)) _ = _
  after_results
  rfl

theorem V_k : V m c main_v7 = truncf (F := Ideal) .bf16 (cat (m ((c : Thread nD τ).loc main_arg1)) (m ((c : Thread nD τ).loc main_arg4))) bitsLt_bf16_f32 := by
  show StableHlo.after hostOps0 (fun b => m (c, b)) _ = _
  after_results
  rfl

theorem V_v : V m c main_v12 = truncf (F := Ideal) .bf16 (transpose S512x34816 [1, 0] (cat (m ((c : Thread nD τ).loc main_arg2)) (m ((c : Thread nD τ).loc main_arg5))) transposes_S34816x512_S512x34816_1_0) bitsLt_bf16_f32 := by
  show StableHlo.after hostOps0 (fun b => m (c, b)) _ = _
  after_results
  rfl

theorem V_w : V m c main_v13 = broadcastInDim S128x1 ![0] bcast_S128_S128x1_0 (m ((c : Thread nD τ).loc main_arg7)) := by
  show StableHlo.after hostOps0 (fun b => m (c, b)) _ = _
  after_results

variable (t : Fin cfg0.N)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 16 * 4 + t.val % 4, t.val / 4 % 4] :=
  (by decide +kernel : ∀ t : Fin grid0.N, win0_2.index t = ![t.val / 16 * 4 + t.val % 4, t.val / 4 % 4])
theorem idx3 : ∀ t : Fin cfg0.N, win0_3.index t = ![t.val / 16, t.val / 4 % 4] :=
  (by decide +kernel : ∀ t : Fin grid0.N, win0_3.index t = ![t.val / 16, t.val / 4 % 4])
theorem idx4 : ∀ t : Fin cfg0.N, win0_4.index t = ![128 + t.val / 16, t.val / 4 % 4] :=
  (by decide +kernel : ∀ t : Fin grid0.N, win0_4.index t = ![128 + t.val / 16, t.val / 4 % 4])
theorem idx5 : ∀ t : Fin cfg0.N, win0_5.index t = ![t.val / 4 % 4, t.val / 16] :=
  (by decide +kernel : ∀ t : Fin grid0.N, win0_5.index t = ![t.val / 4 % 4, t.val / 16])
theorem idx6 : ∀ t : Fin cfg0.N, win0_6.index t = ![t.val / 4 % 4, 128 + t.val / 16] :=
  (by decide +kernel : ∀ t : Fin grid0.N, win0_6.index t = ![t.val / 4 % 4, 128 + t.val / 16])
theorem idx7 : ∀ t : Fin cfg0.N, win0_7.index t = ![t.val / 16 * 4 + t.val % 4, t.val / 4 % 4] :=
  (by decide +kernel : ∀ t : Fin grid0.N, win0_7.index t = ![t.val / 16 * 4 + t.val % 4, t.val / 4 % 4])

theorem lt128 : t.val < 128 := t.isLt

/-- The prompt, the head and the query tile of a grid point. -/
def pb : Fin 8 := ⟨t.val / 16, by have := lt128 t; omega⟩
def ph : Fin 4 := ⟨t.val / 4 % 4, by omega⟩
def pi : Fin 4 := ⟨t.val % 4, by omega⟩

/-- Row `r` of a query tile and column `e` of a head, in the argument arrays. -/
def qrow (i : Fin 4) (r : Fin 1024) : Fin 4096 := ⟨i.val * 1024 + r.val, by omega⟩
def col (h : Fin 4) (e : Fin 128) : Fin 512 := ⟨h.val * 128 + e.val, by omega⟩

/-- The four parameter rows, whole; -/
theorem blk0 : iblk m c 0 t = m ((c : Thread nD τ).loc main_arg6) := by
  refine Eq.trans ?_ (V_main_arg6 m c)
  unfold iblk
  funext y
  refine congrArg (V m c main_arg6) ?_
  blk_ext [idx0]

/-- the weight, as a column; -/
theorem blk1 (e : Fin 128) : iblk m c 1 t (ix2 e 0) = m ((c : Thread nD τ).loc main_arg7) (ix1 e) := by
  have hw : V m c main_v13 (ix2 e 0) = m ((c : Thread nD τ).loc main_arg7) (ix1 e) := by
    rw [V_w]
    pointwise
  refine Eq.trans ?_ hw
  unfold iblk
  refine congrArg (V m c main_v13) ?_
  blk_ext [idx1]

/-- the query tile of the prompt and head; -/
theorem blk2 (r : Fin 1024) (e : Fin 128) :
    iblk m c 2 t (ix2 r e) = m ((c : Thread nD τ).loc main_arg0) (ix3 (pb t) (qrow (pi t) r) (col (ph t) e)) := by
  have ht := lt128 t
  refine Eq.trans ?_ (cat_lat _ (m ((c : Thread nD τ).loc main_arg3)) (pb t) (qrow (pi t) r) (col (ph t) e))
  refine Eq.trans ?_ (congrFun (V_q m c) _)
  unfold iblk
  refine congrArg (V m c main_v3) ?_
  blk_ext [idx2, pb, qrow, pi, ph, col]

/-- the prompt's latent keys of the head; -/
theorem blk3 (n : Fin 4096) (e : Fin 128) :
    X0_3 m c t (ix2 n e) = m ((c : Thread nD τ).loc main_arg1) (ix3 (pb t) n (col (ph t) e)) := by
  have ht := lt128 t
  refine Eq.trans ?_ (cat_lat _ (m ((c : Thread nD τ).loc main_arg4)) (pb t) n (col (ph t) e))
  refine Eq.trans ?_ (congrFun (V_k m c) _)
  unfold X0_3 Pipeline.Window.fill
  rw [dif_pos (moved0_3 t _)]
  unfold iblk
  refine congrArg (V m c main_v7) ?_
  blk_ext [idx3, pb, ph, col]

/-- its context keys; -/
theorem blk4 (n : Fin 256) (e : Fin 128) :
    iblk m c 4 t (ix2 n e) = m ((c : Thread nD τ).loc main_arg4) (ix3 (pb t) n (col (ph t) e)) := by
  have ht := lt128 t
  refine Eq.trans ?_ (cat_ctx (m ((c : Thread nD τ).loc main_arg1)) _ (pb t) n (col (ph t) e) ⟨32768 + ((pb t).val * 256 + n.val), by have := (pb t).isLt; omega⟩ rfl)
  refine Eq.trans ?_ (congrFun (V_k m c) _)
  unfold iblk
  refine congrArg (V m c main_v7) ?_
  blk_ext [idx4, pb, ph, col]

/-- its latent values, transposed; -/
theorem blk5 (e : Fin 128) (n : Fin 4096) :
    X0_5 m c t (ix2 e n) = m ((c : Thread nD τ).loc main_arg2) (ix3 (pb t) n (col (ph t) e)) := by
  have ht := lt128 t
  refine Eq.trans ?_ (cat_lat _ (m ((c : Thread nD τ).loc main_arg5)) (pb t) n (col (ph t) e))
  refine Eq.trans ?_ (tr_apply _ _ _)
  refine Eq.trans ?_ (congrFun (V_v m c) _)
  unfold X0_5 Pipeline.Window.fill
  rw [dif_pos (moved0_5 t _)]
  unfold iblk
  refine congrArg (V m c main_v12) ?_
  blk_ext [idx5, pb, ph, col]

/-- its context values, transposed. -/
theorem blk6 (e : Fin 128) (n : Fin 256) :
    iblk m c 6 t (ix2 e n) = m ((c : Thread nD τ).loc main_arg5) (ix3 (pb t) n (col (ph t) e)) := by
  have ht := lt128 t
  refine Eq.trans ?_ (cat_ctx (m ((c : Thread nD τ).loc main_arg2)) _ (pb t) n (col (ph t) e) ⟨32768 + ((pb t).val * 256 + n.val), by have := (pb t).isLt; omega⟩ rfl)
  refine Eq.trans ?_ (tr_apply _ _ _)
  refine Eq.trans ?_ (congrFun (V_v m c) _)
  unfold iblk
  refine congrArg (V m c main_v12) ?_
  blk_ext [idx6, pb, ph, col]

end Cert.KernelIdeal.Windows

end
-- ==== Proof.Final.lean ====
/- The array the kernel leaves: every row of every head is the difference of two softmax-weighted sums of the values,
   normalised. -/
module

public import proofs.«01_k».proof.Proof.Body
public import proofs.«01_k».proof.Proof.Windows

@[expose] public section

set_option maxRecDepth 16384

noncomputable section

namespace Cert.KernelIdeal.Final

open Cert.KernelIdeal Cert.KernelIdeal.Gen Cert.KernelIdeal.Value Cert.KernelIdeal.Soft Cert.KernelIdeal.Body Cert.KernelIdeal.Windows
open Idealize.ShloMosaic Idealize.ShloMosaic.TcCoe Idealize.SL.Sem Cert.Attention

/-- The head's row before its normalisation, of real queries `q`, keys `k`, `k'` and values `v`, `v'`. -/
def head (q k v : Fin 8 → Fin 4096 → Fin 512 → ℝ) (k' v' : Fin 8 → Fin 256 → Fin 512 → ℝ) (l : EReal)
    (b : Fin 8) (n : Fin 4096) (h : Fin 4) : Fin 128 → EReal :=
  mix (fun e => q b n (col h e)) (fun j e => k b j (col h e)) (fun j e => k' b j (col h e))
    (fun e j => v b j (col h e)) (fun e j => v' b j (col h e)) l

/-- The whole result: row `b * 4096 + n`, column `h * 128 + d`. -/
def result (q k v : Fin 8 → Fin 4096 → Fin 512 → ℝ) (k' v' : Fin 8 → Fin 256 → Fin 512 → ℝ) (x : FVec Ideal S4x64 .f32)
    (w : FVec Ideal S128 .f32) : FVec Ideal S32768x512 .f32 := fun y =>
  have h0 : (y 0).val < 32768 := (y 0).isLt
  have h1 : (y 1).val < 512 := (y 1).isLt
  rms (head q k v k' v' (lam x) ⟨(y 0).val / 4096, by omega⟩ ⟨(y 0).val % 4096, by omega⟩ ⟨(y 1).val / 128, by omega⟩)
    (w (ix1 ⟨(y 1).val % 128, by omega⟩)) ⟨(y 1).val % 128, by omega⟩

/-- The result at such a row and column. -/
theorem result_at (q k v : Fin 8 → Fin 4096 → Fin 512 → ℝ) (k' v' : Fin 8 → Fin 256 → Fin 512 → ℝ) (x : FVec Ideal S4x64 .f32)
    (w : FVec Ideal S128 .f32) (b : Fin 8) (n : Fin 4096) (h : Fin 4) (d : Fin 128) (y : S32768x512.Idx)
    (h0 : (y 0).val = b.val * 4096 + n.val) (h1 : (y 1).val = h.val * 128 + d.val) :
    result q k v k' v' x w y = rms (head q k v k' v' (lam x) b n h) (w (ix1 d)) d := by
  have eb : ∀ H, (⟨(y 0).val / 4096, H⟩ : Fin 8) = b := fun _ => Fin.ext (by show (y 0).val / 4096 = b.val; omega)
  have en : ∀ H, (⟨(y 0).val % 4096, H⟩ : Fin 4096) = n := fun _ => Fin.ext (by show (y 0).val % 4096 = n.val; omega)
  have eh : ∀ H, (⟨(y 1).val / 128, H⟩ : Fin 4) = h := fun _ => Fin.ext (by show (y 1).val / 128 = h.val; omega)
  have ed : ∀ H, (⟨(y 1).val % 128, H⟩ : Fin 128) = d := fun _ => Fin.ext (by show (y 1).val % 128 = d.val; omega)
  dsimp only [result]
  rw [eb, en, eh, ed]

variable (m : (ℓ : Loc nD τ sig) → Buf (Elt Ideal) ℓ) (c : Dev nD)

section
variable (q k v : Fin 8 → Fin 4096 → Fin 512 → ℝ) (k' v' : Fin 8 → Fin 256 → Fin 512 → ℝ)
  (hq : ∀ b n C, m ((c : Thread nD τ).loc main_arg0) (ix3 b n C) = (q b n C : EReal))
    (hk : ∀ b n C, m ((c : Thread nD τ).loc main_arg1) (ix3 b n C) = (k b n C : EReal))
    (hv : ∀ b n C, m ((c : Thread nD τ).loc main_arg2) (ix3 b n C) = (v b n C : EReal))
    (hk' : ∀ b n C, m ((c : Thread nD τ).loc main_arg4) (ix3 b n C) = (k' b n C : EReal))
    (hv' : ∀ b n C, m ((c : Thread nD τ).loc main_arg5) (ix3 b n C) = (v' b n C : EReal))

include hq hk hv hk' hv' in
/-- One entry of the block of grid point `t`. -/
theorem block_eq (t : Fin cfg0.N) (r : Fin 1024) (d : Fin 128) :
    outsAt0 m c t (ix2 r d)
      = rms (head q k v k' v' (lam (m ((c : Thread nD τ).loc main_arg6))) (pb t) (qrow (pi t) r) (ph t)) (m ((c : Thread nD τ).loc main_arg7) (ix1 d)) d := by
  unfold outsAt0
  refine (out_apply c (grid0.coords t) _ _ _ _ _ _ _ _ _ _ _ _ _ _ _ _ (iblk m c 0 t) (iblk m c 1 t) (iblk m c 2 t) (X0_3 m c t) (iblk m c 4 t) (X0_5 m c t) (iblk m c 6 t)
    r d _ _ _ _ _
    (fun e => (blk2 m c t _ e).trans (hq _ _ _)) (fun j e => (blk3 m c t j e).trans (hk _ _ _)) (fun j e => (blk4 m c t j e).trans (hk' _ _ _))
    (fun e j => (blk5 m c t e j).trans (hv _ _ _)) (fun e j => (blk6 m c t e j).trans (hv' _ _ _))).trans ?_
  rw [blk1, blk0]
  rfl

include hq hk hv hk' hv' in
/-- The array after the run. -/
theorem arr_eq :
    (dats m 0 c).arrAt 7 cfg0.N
      = result q k v k' v' (m ((c : Thread nD τ).loc main_arg6)) (m ((c : Thread nD τ).loc main_arg7)) := by
  refine (dats m 0 c).arrAt_eq_of_covers 7 _ (by decide +kernel) fun t hf y => ?_
  have ht := lt128 t
  blk_simp
  rw [after0_7]
  have hy : y = ix2 (y 0 : Fin 1024) (y 1 : Fin 128) := by
    refine funext fun a => ?_
    match a with
    | 0 => rfl
    | 1 => rfl
  have e0 : (((win0_7.blk t).view.emb y) 0).val = (pb t).val * 4096 + (qrow (pi t) (y 0 : Fin 1024)).val := by
    blk_simp [idx7, pb, qrow, pi]
    show (t.val / 16 * 4 + t.val % 4) * 1024 + (y 0).val = t.val / 16 * 4096 + (t.val % 4 * 1024 + (y 0).val)
    omega
  have e1 : (((win0_7.blk t).view.emb y) 1).val = (ph t).val * 128 + (y 1 : Fin 128).val := by
    blk_simp [idx7, ph]
  exact (congrArg (outsAt0 m c t) hy).trans ((block_eq m c q k v k' v' hq hk hv hk' hv' t (y 0 : Fin 1024) (y 1 : Fin 128)).trans
    (result_at q k v k' v' _ _ (pb t) (qrow (pi t) (y 0 : Fin 1024)) (ph t) (y 1 : Fin 128) _ e0 e1).symm)
end

end Cert.KernelIdeal.Final

end
-- ==== Proof.RefStages.lean ====
/- The reference's operations in stages, and what each stage holds at an index. -/
module

public import proofs.«01_k».proof.Proof.Gen.ReferenceIdeal.Run
public import proofs.«01_k».proof.Proof.Attention
public import Idealize.ShloMosaic.Lib.Pointwise
public import Idealize.ShloMosaic.Lib.KernelVsHost

@[expose] public section

set_option maxRecDepth 16384

noncomputable section

namespace Cert.ReferenceIdeal.Stages

open Cert.ReferenceIdeal Cert.ReferenceIdeal.Gen Cert.ReferenceIdeal.Value Idealize.ShloMosaic Cert.Attention

/-- The queries by head, map and lane. -/
def qh (A : FVec Ideal S8x4096x512 .f32) : FVec Ideal S8x4096x4x2x64 .f32 :=
  shapeCast _ A shapeCasts_S8x4096x512_S8x4096x4x2x64

/-- The latent keys followed by the context keys, by head, map and lane. -/
def kh (A : FVec Ideal S8x4096x512 .f32) (B : FVec Ideal S8x256x512 .f32) : FVec Ideal S8x4352x4x2x64 .f32 :=
  concatenate S8x4352x4x2x64 1 [⟨S8x4096x4x2x64, (shapeCast _ A shapeCasts_S8x4096x512_S8x4096x4x2x64)⟩, ⟨S8x256x4x2x64, (shapeCast _ B shapeCasts_S8x256x512_S8x256x4x2x64)⟩] concatenates_S8x4096x4x2x64_S8x256x4x2x64_S8x4352x4x2x64_d1

/-- The latent values followed by the context values, by head. -/
def vh (A : FVec Ideal S8x4096x512 .f32) (B : FVec Ideal S8x256x512 .f32) : FVec Ideal S8x4352x4x128 .f32 :=
  concatenate S8x4352x4x128 1 [⟨S8x4096x4x128, (shapeCast _ A shapeCasts_S8x4096x512_S8x4096x4x128)⟩, ⟨S8x256x4x128, (shapeCast _ B shapeCasts_S8x256x512_S8x256x4x128)⟩] concatenates_S8x4096x4x128_S8x256x4x128_S8x4352x4x128_d1

/-- The scores of every query against every key, times one eighth. -/
def scores (q : FVec Ideal S8x4096x4x2x64 .f32) (k : FVec Ideal S8x4352x4x2x64 .f32) : FVec Ideal S8x4x2x4096x4352 .f32 :=
  mulf (Host.dotGeneral dot_S8x4096x4x2x64_S8x4352x4x2x64_S8x4x2x4096x4352_4_4_1_1_023_023 none q k)
    (broadcastInDim S8x4x2x4096x4352 ![] bcast_S_S8x4x2x4096x4352 (constant S_ .f32 0x3E000000#32))

/-- A number per query, along the keys. -/
def along (x : FVec Ideal S8x4x2x4096 .f32) : FVec Ideal S8x4x2x4096x4352 .f32 :=
  broadcastInDim S8x4x2x4096x4352 ![0, 1, 2, 3, 4] bcast_S8x4x2x4096x1_S8x4x2x4096x4352_0_1_2_3_4
    (broadcastInDim S8x4x2x4096x1 ![0, 1, 2, 3] bcast_S8x4x2x4096_S8x4x2x4096x1_0_1_2_3 x)

/-- The greatest score of every query. -/
def peak (s : FVec Ideal S8x4x2x4096x4352 .f32) : FVec Ideal S8x4x2x4096 .f32 :=
  maximumf (broadcastInDim S8x4x2x4096 ![] bcast_S_S8x4x2x4096 (constant S_ .f32 0xFF800000#32))
    (Host.reduce FloatOps.maximumf s (constant S_ .f32 0xFF800000#32) reducesTo_S8x4x2x4096x4352_S8x4x2x4096_d4 h_S_)

/-- The exponentials of the scores less their greatest. -/
def expo (s : FVec Ideal S8x4x2x4096x4352 .f32) : FVec Ideal S8x4x2x4096x4352 .f32 := Host.exp (subf s (along (peak s)))

/-- Their sums. -/
def total (e : FVec Ideal S8x4x2x4096x4352 .f32) : FVec Ideal S8x4x2x4096 .f32 :=
  Host.reduceAdd e (constant S_ .f32 0x00000000#32) reducesTo_S8x4x2x4096x4352_S8x4x2x4096_d4 h_S_

/-- The softmax over the keys. -/
def probs (e : FVec Ideal S8x4x2x4096x4352 .f32) : FVec Ideal S8x4x2x4096x4352 .f32 := Host.divf e (along (total e))

/-- The factor of the second map. -/
def factor (x : FVec Ideal S4x64 .f32) : FVec Ideal S_ .f32 :=
  addf (subf (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_))
    (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_)))
    (constant S_ .f32 0x3E4CCCCD#32)

/-- The first map's weights less the factor times the second's. -/
def weights (p : FVec Ideal S8x4x2x4096x4352 .f32) (l : FVec Ideal S_ .f32) : FVec Ideal S8x4x4096x4352 .f32 :=
  subf (shapeCast _ (extractStridedSlice S8x4x1x4096x4352 ![0, 0, 0, 0, 0] p slices_S8x4x2x4096x4352_S8x4x1x4096x4352_0_0_0_0_0) shapeCasts_S8x4x1x4096x4352_S8x4x4096x4352)
    (mulf (broadcastInDim S8x4x4096x4352 ![] bcast_S_S8x4x4096x4352 l)
      (shapeCast _ (extractStridedSlice S8x4x1x4096x4352 ![0, 0, 1, 0, 0] p slices_S8x4x2x4096x4352_S8x4x1x4096x4352_0_0_1_0_0) shapeCasts_S8x4x1x4096x4352_S8x4x4096x4352))

/-- The values summed by these weights. -/
def mixed (v : FVec Ideal S8x4352x4x128 .f32) (w : FVec Ideal S8x4x4096x4352 .f32) : FVec Ideal S8x4096x4x128 .f32 :=
  transpose S8x4096x4x128 [0, 3, 1, 2] (Host.dotGeneral dot_S8x4352x4x128_S8x4x4096x4352_S8x4x128x4096_1_3_3_2_02_01 none v w) transposes_S8x4x128x4096_S8x4096x4x128_0_3_1_2

/-- Each head's row over its root mean square, times the weight and 0.8. -/
def normed (o : FVec Ideal S8x4096x4x128 .f32) (w : FVec Ideal S128 .f32) : FVec Ideal S8x4096x4x128 .f32 :=
  mulf (mulf (mulf o (broadcastInDim S8x4096x4x128 ![0, 1, 2, 3] bcast_S8x4096x4x1_S8x4096x4x128_0_1_2_3
      (Host.rsqrt (addf (Host.divf (broadcastInDim S8x4096x4x1 ![0, 1, 2] bcast_S8x4096x4_S8x4096x4x1_0_1_2
          (Host.reduceAdd (mulf o o) (constant S_ .f32 0x00000000#32) reducesTo_S8x4096x4x128_S8x4096x4_d3 h_S_))
        (broadcastInDim S8x4096x4x1 ![] bcast_S_S8x4096x4x1 (constant S_ .f32 0x43000000#32)))
        (broadcastInDim S8x4096x4x1 ![] bcast_S_S8x4096x4x1 (constant S_ .f32 0x358637BD#32))))))
      (broadcastInDim S8x4096x4x128 ![0, 1, 2, 3] bcast_S1x1x1x128_S8x4096x4x128_0_1_2_3 (broadcastInDim S1x1x1x128 ![3] bcast_S128_S1x1x1x128_3 w)))
    (broadcastInDim S8x4096x4x128 ![] bcast_S_S8x4096x4x128 (constant S_ .f32 0x3F4CCCCD#32))

/-- All stages together. -/
def whole (q k v : FVec Ideal S8x4096x512 .f32) (kc vc : FVec Ideal S8x256x512 .f32) (x : FVec Ideal S4x64 .f32) (w : FVec Ideal S128 .f32) : FVec Ideal S32768x512 .f32 :=
  shapeCast _ (normed (mixed (vh v vc) (weights (probs (expo (scores (qh q) (kh k kc)))) (factor x))) w) shapeCasts_S8x4096x4x128_S32768x512

theorem res_eq (m : (ℓ : Loc nD τ sig) → Buf (Elt Ideal) ℓ) (c : Dev nD) :
    res_main_v61 (F := Ideal) m c = whole (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) (m ((c.tc : Thread nD τ).loc main_arg7)) := by
  unfold res_main_v61
  rfl

/-- Column `m * 64 + i` of head `h`. -/
def lcol (h : Fin 4) (m : Fin 2) (i : Fin 64) : Fin 512 := ⟨h.val * 128 + m.val * 64 + i.val, by omega⟩
/-- Column `e` of head `h`. -/
def col (h : Fin 4) (e : Fin 128) : Fin 512 := ⟨h.val * 128 + e.val, by omega⟩

theorem qh_apply (A : FVec Ideal S8x4096x512 .f32) (b : Fin 8) (n : Fin 4096) (h : Fin 4) (m : Fin 2) (i : Fin 64) :
    qh A (ix5 b n h m i) = A (ix3 b n (lcol h m i)) := by
  pointwise [qh, lcol]

theorem kh_apply (A : FVec Ideal S8x4096x512 .f32) (B : FVec Ideal S8x256x512 .f32) (b : Fin 8) (k : Fin 4352) (h : Fin 4) (m : Fin 2) (i : Fin 64) :
    kh A B (ix5 b k h m i) = if c : k.val < 4096 then A (ix3 b ⟨k.val, c⟩ (lcol h m i)) else B (ix3 b ⟨k.val - 4096, by omega⟩ (lcol h m i)) := by
  pointwise [kh, lcol]

theorem vh_apply (A : FVec Ideal S8x4096x512 .f32) (B : FVec Ideal S8x256x512 .f32) (b : Fin 8) (k : Fin 4352) (h : Fin 4) (e : Fin 128) :
    vh A B (ix4 b k h e) = if c : k.val < 4096 then A (ix3 b ⟨k.val, c⟩ (col h e)) else B (ix3 b ⟨k.val - 4096, by omega⟩ (col h e)) := by
  pointwise [vh, col]

theorem scores_apply (q : FVec Ideal S8x4096x4x2x64 .f32) (k : FVec Ideal S8x4352x4x2x64 .f32) (b : Fin 8) (h : Fin 4) (m : Fin 2) (n : Fin 4096) (j : Fin 4352) :
    scores q k (ix5 b h m n j) = (∑ i : Fin 64, q (ix5 b n h m i) * k (ix5 b j h m i)) * Ideal.ofBits .f32 0x3E000000#32 := by
  pointwise [scores]

theorem along_apply (x : FVec Ideal S8x4x2x4096 .f32) (b : Fin 8) (h : Fin 4) (m : Fin 2) (n : Fin 4096) (j : Fin 4352) :
    along x (ix5 b h m n j) = x (ix4 b h m n) := by
  pointwise [along]

theorem redMax (s : FVec Ideal S8x4x2x4096x4352 .f32) (h' : S8x4x2x4096x4352.Reduces [4] S8x4x2x4096) (b : Fin 8) (h : Fin 4) (m : Fin 2) (n : Fin 4096) :
    multiReduction .maximumf [4] S8x4x2x4096 s 0xFF800000#32 h' (.inl rfl) rfl (ix4 b h m n)
      = Finset.univ.fold max (Ideal.ofBits .f32 0xFF800000#32) fun j : Fin 4352 => s (ix5 b h m n j) := by
  refine (Ideal.multiReduction_maximumf_single _ _ _ _ _ _).trans ?_
  refine congrArg (fun f => Finset.fold max (Ideal.ofBits .f32 0xFF800000#32) f (Finset.univ : Finset (Fin 4352))) (funext fun k => congrArg s ?_)
  refine funext fun x => ?_
  match x with
  | 0 => exact Fin.ext rfl
  | 1 => exact Fin.ext rfl
  | 2 => exact Fin.ext rfl
  | 3 => exact Fin.ext rfl
  | 4 => exact Fin.ext rfl

theorem maxBot (x : FVec Ideal S8x4x2x4096 .f32) (j : S8x4x2x4096.Idx) :
    maximumf (broadcastInDim S8x4x2x4096 ![] bcast_S_S8x4x2x4096 (constant S_ .f32 0xFF800000#32)) x j = max (Ideal.ofBits .f32 0xFF800000#32) (x j) := rfl

theorem peak_apply (s : FVec Ideal S8x4x2x4096x4352 .f32) (b : Fin 8) (h : Fin 4) (m : Fin 2) (n : Fin 4096) :
    peak s (ix4 b h m n) = max (Ideal.ofBits .f32 0xFF800000#32) (Finset.univ.fold max (Ideal.ofBits .f32 0xFF800000#32) fun j : Fin 4352 => s (ix5 b h m n j)) := by
  unfold peak
  rw [maxBot, hostReduce_maximumf_eq_multiReduction s 0xFF800000#32 reducesTo_S8x4x2x4096x4352_S8x4x2x4096_d4 h_S_ (by decide) (.inl rfl) rfl, redMax]

theorem expo_apply (s : FVec Ideal S8x4x2x4096x4352 .f32) (b : Fin 8) (h : Fin 4) (m : Fin 2) (n : Fin 4096) (j : Fin 4352) :
    expo s (ix5 b h m n j) = Ideal.exp (s (ix5 b h m n j) - peak s (ix4 b h m n)) :=
  congrArg (fun z => Ideal.exp (s (ix5 b h m n j) - z)) (along_apply _ b h m n j)

theorem total_apply (e : FVec Ideal S8x4x2x4096x4352 .f32) (b : Fin 8) (h : Fin 4) (m : Fin 2) (n : Fin 4096) :
    total e (ix4 b h m n) = ∑ j : Fin 4352, e (ix5 b h m n j) := by
  pointwise [total]

theorem probs_apply (e : FVec Ideal S8x4x2x4096x4352 .f32) (b : Fin 8) (h : Fin 4) (m : Fin 2) (n : Fin 4096) (j : Fin 4352) :
    probs e (ix5 b h m n j) = Ideal.div (e (ix5 b h m n j)) (∑ j : Fin 4352, e (ix5 b h m n j)) :=
  congrArg (Ideal.div (e (ix5 b h m n j))) ((along_apply _ b h m n j).trans (total_apply e b h m n))

theorem factor_apply (x : FVec Ideal S4x64 .f32) (z : S_.Idx) :
    factor x z = Ideal.exp (∑ i : Fin 64, x (ix2 0 i) * x (ix2 1 i)) - Ideal.exp (∑ i : Fin 64, x (ix2 2 i) * x (ix2 3 i))
      + Ideal.ofBits .f32 0x3E4CCCCD#32 := by
  pointwise [factor]

theorem weights_apply (p : FVec Ideal S8x4x2x4096x4352 .f32) (l : FVec Ideal S_ .f32) (L : EReal) (hl : ∀ z, l z = L) (b : Fin 8) (h : Fin 4) (n : Fin 4096) (j : Fin 4352) :
    weights p l (ix4 b h n j) = p (ix5 b h 0 n j) - L * p (ix5 b h 1 n j) := by
  pointwise [weights, hl]

theorem mixed_apply (v : FVec Ideal S8x4352x4x128 .f32) (w : FVec Ideal S8x4x4096x4352 .f32) (b : Fin 8) (n : Fin 4096) (h : Fin 4) (d : Fin 128) :
    mixed v w (ix4 b n h d) = ∑ j : Fin 4352, v (ix4 b j h d) * w (ix4 b h n j) := by
  pointwise [mixed]

theorem normed_apply (o : FVec Ideal S8x4096x4x128 .f32) (w : FVec Ideal S128 .f32) (b : Fin 8) (n : Fin 4096) (h : Fin 4) (d : Fin 128) :
    normed o w (ix4 b n h d) = o (ix4 b n h d) * Ideal.rsqrt (Ideal.div (∑ x : Fin 128, o (ix4 b n h x) * o (ix4 b n h x)) (Ideal.ofBits .f32 0x43000000#32) + Ideal.ofBits .f32 0x358637BD#32)
      * w (ix1 d) * Ideal.ofBits .f32 0x3F4CCCCD#32 := by
  pointwise [normed]

theorem flat_apply (x : FVec Ideal S8x4096x4x128 .f32) (R : Fin 32768) (C : Fin 512) :
    shapeCast S32768x512 x shapeCasts_S8x4096x4x128_S32768x512 (ix2 R C)
      = x (ix4 ⟨R.val / 4096, by omega⟩ ⟨R.val % 4096, by omega⟩ ⟨C.val / 128, by omega⟩ ⟨C.val % 128, by omega⟩) := by
  pointwise

end Cert.ReferenceIdeal.Stages

end
-- ==== Proof.RefValue.lean ====
/- What the reference computes, its queries, keys, values and parameters real: the same array as the kernel's. -/
module

public import proofs.«01_k».proof.Proof.RefStages
public import proofs.«01_k».proof.Proof.Final

@[expose] public section

set_option maxRecDepth 16384

noncomputable section

namespace Cert.ReferenceIdeal.RefValue

open Cert.ReferenceIdeal Cert.ReferenceIdeal.Gen Cert.ReferenceIdeal.Value Cert.ReferenceIdeal.Stages Idealize.ShloMosaic Cert.Attention
open Cert.KernelIdeal.Soft (lam rms)
open Cert.KernelIdeal.Body (mix)
open Cert.KernelIdeal.Final (head result result_at)

/-- Two lists of vectors, one after the other. -/
def joined {α : Type} (x : Fin 4096 → α) (y : Fin 256 → α) (j : Fin 4352) : α :=
  if h : j.val < 4096 then x ⟨j.val, h⟩ else y ⟨j.val - 4096, by omega⟩

theorem joined_left {α : Type} (x : Fin 4096 → α) (y : Fin 256 → α) (i : Fin 4096) : joined x y (Fin.castAdd 256 i) = x i :=
  dif_pos i.isLt

theorem joined_right {α : Type} (x : Fin 4096 → α) (y : Fin 256 → α) (i : Fin 256) : joined x y (Fin.natAdd 4096 i) = y i :=
  (dif_neg (by show ¬ 4096 + i.val < 4096; omega)).trans (congrArg y (Fin.ext (by show 4096 + i.val - 4096 = i.val; omega)))

/-- The factor of the second map is a real, its parameters real. -/
theorem lam_real (x : FVec Ideal S4x64 .f32) (p : Fin 4 → Fin 64 → ℝ) (hp : ∀ a i, x (ix2 a i) = (p a i : EReal)) :
    ∃ l : ℝ, lam x = (l : EReal) := by
  have hc : ∃ z : ℝ, Ideal.ofBits .f32 0x3E4CCCCD#32 = (z : EReal) := by
    simp [Ideal.ofBits, Ideal.ieee]
    exact ⟨_, (EReal.coe_mul _ _).symm⟩
  obtain ⟨z, hz⟩ := hc
  refine ⟨Real.exp (∑ i : Fin 64, p 0 i * p 1 i) - Real.exp (∑ i : Fin 64, p 2 i * p 3 i) + z, ?_⟩
  unfold lam
  simp only [hp, hz, ← EReal.coe_mul, ← coe_sum, Ideal.exp_coe, ← EReal.coe_sub, ← EReal.coe_add]

section
variable (s : FVec Ideal S8x4x2x4096x4352 .f32) (b : Fin 8) (h : Fin 4) (m : Fin 2) (n : Fin 4096)

/-- The greatest score of a query is a real. -/
theorem peak_real (x : Fin 4352 → ℝ) (hs : ∀ j, s (ix5 b h m n j) = (x j : EReal)) : ∃ M : ℝ, peak s (ix4 b h m n) = (M : EReal) := by
  obtain ⟨A, hA⟩ := fold_max_real Finset.univ Finset.univ_nonempty x
  refine ⟨A, (peak_apply s b h m n).trans ?_⟩
  rw [ofBits_neg_inf, funext hs, hA]
  exact max_eq_right bot_le

/-- The softmax weight of a key. -/
theorem probs_real (x : Fin 4352 → ℝ) (hs : ∀ j, s (ix5 b h m n j) = ((x j * (1 / 8) : ℝ) : EReal)) (j : Fin 4352) :
    probs (expo s) (ix5 b h m n j) = ((Real.exp (x j / 8) / ∑ j, Real.exp (x j / 8) : ℝ) : EReal) := by
  obtain ⟨M, hM⟩ := peak_real s b h m n _ hs
  have he : ∀ j, expo s (ix5 b h m n j) = ((Real.exp (x j / 8) * Real.exp (-M) : ℝ) : EReal) := fun j => by
    rw [expo_apply, hs, hM, exp_scaled]
  rw [probs_apply, he, Finset.sum_congr rfl fun j _ => he j]
  exact weight_eq x _ (Real.exp_pos _) j
end

section
variable (q k v : FVec Ideal S8x4096x512 .f32) (kc vc : FVec Ideal S8x256x512 .f32) (x : FVec Ideal S4x64 .f32) (w : FVec Ideal S128 .f32)
variable (qr kr vr : Fin 8 → Fin 4096 → Fin 512 → ℝ) (kr' vr' : Fin 8 → Fin 256 → Fin 512 → ℝ) (p : Fin 4 → Fin 64 → ℝ)
variable (hq : ∀ b n C, q (ix3 b n C) = (qr b n C : EReal)) (hk : ∀ b n C, k (ix3 b n C) = (kr b n C : EReal))
  (hv : ∀ b n C, v (ix3 b n C) = (vr b n C : EReal)) (hk' : ∀ b n C, kc (ix3 b n C) = (kr' b n C : EReal))
  (hv' : ∀ b n C, vc (ix3 b n C) = (vr' b n C : EReal)) (hp : ∀ a i, x (ix2 a i) = (p a i : EReal))

include hq hk hk' in
/-- A score, scaled. -/
theorem scores_real (b : Fin 8) (h : Fin 4) (m : Fin 2) (n : Fin 4096) (j : Fin 4352) :
    scores (qh q) (kh k kc) (ix5 b h m n j)
      = ((score m (fun e => qr b n (col h e)) (joined (fun j e => kr b j (col h e)) (fun j e => kr' b j (col h e)) j) * (1 / 8) : ℝ) : EReal) := by
  have hl : ∀ i, lcol h m i = col h (lane m i) := fun i => Fin.ext (by show h.val * 128 + m.val * 64 + i.val = h.val * 128 + (m.val * 64 + i.val); omega)
  have hK : ∀ i, kh k kc (ix5 b j h m i) = ((joined (fun j e => kr b j (col h e)) (fun j e => kr' b j (col h e)) j (lane m i) : ℝ) : EReal) := fun i => by
    rw [kh_apply, hl]
    unfold joined
    split
    · exact hk _ _ _
    · exact hk' _ _ _
  rw [scores_apply, ofBits_eighth, EReal.coe_mul, score, coe_sum]
  congr 1
  refine Finset.sum_congr rfl fun i _ => ?_
  rw [qh_apply, hK, hl, hq, EReal.coe_mul]

include hv hv' in
/-- A value. -/
theorem value_real (b : Fin 8) (h : Fin 4) (j : Fin 4352) (d : Fin 128) :
    vh v vc (ix4 b j h d) = ((joined (fun j => vr b j (col h d)) (fun j => vr' b j (col h d)) j : ℝ) : EReal) := by
  rw [vh_apply]
  unfold joined
  split
  · exact hv _ _ _
  · exact hv' _ _ _

include hq hk hv hk' hv' hp in
/-- A head's row before its normalisation. -/
theorem mixed_real (b : Fin 8) (n : Fin 4096) (h : Fin 4) (d : Fin 128) :
    mixed (vh v vc) (weights (probs (expo (scores (qh q) (kh k kc)))) (factor x)) (ix4 b n h d)
      = head qr kr vr kr' vr' (lam x) b n h d := by
  obtain ⟨l, hl⟩ := lam_real x p hp
  have hs := fun m => probs_real (scores (qh q) (kh k kc)) b h m n _ (fun j => scores_real q k kc qr kr kr' hq hk hk' b h m n j)
  rw [mixed_apply]
  have e : ∀ j : Fin 4352, vh v vc (ix4 b j h d) * weights (probs (expo (scores (qh q) (kh k kc)))) (factor x) (ix4 b h n j) = _ := fun j => by
    rw [value_real v vc vr vr' hv hv', weights_apply _ _ (l : EReal) (fun z => (factor_apply x z).trans hl), hs 0 j, hs 1 j]
  rw [Finset.sum_congr rfl fun j _ => e j, hl]
  refine (diff_eq (a := 4096) (b := 256) _ _ _ l).trans ?_
  simp only [joined_left, joined_right]
  rfl

include hq hk hv hk' hv' hp in
/-- The whole reference. -/
theorem whole_eq : whole q k v kc vc x w = result qr kr vr kr' vr' x w := by
  funext y
  have hy : y = ix2 (y 0 : Fin 32768) (y 1 : Fin 512) := by
    refine funext fun a => ?_
    match a with
    | 0 => rfl
    | 1 => rfl
  have h0 : (y 0).val < 32768 := (y 0).isLt
  have h1 : (y 1).val < 512 := (y 1).isLt
  rw [result_at qr kr vr kr' vr' x w ⟨(y 0).val / 4096, by omega⟩ ⟨(y 0).val % 4096, by omega⟩ ⟨(y 1).val / 128, by omega⟩ ⟨(y 1).val % 128, by omega⟩ y
    (by show (y 0).val = (y 0).val / 4096 * 4096 + (y 0).val % 4096; omega) (by show (y 1).val = (y 1).val / 128 * 128 + (y 1).val % 128; omega)]
  refine (congrArg (whole q k v kc vc x w) hy).trans ?_
  refine (flat_apply _ _ _).trans ?_
  rw [normed_apply, mixed_real q k v kc vc x qr kr vr kr' vr' p hq hk hv hk' hv' hp]
  simp only [mixed_real q k v kc vc x qr kr vr kr' vr' p hq hk hv hk' hv' hp]
  rfl
end

end Cert.ReferenceIdeal.RefValue

end
-- ==== Proof.Equal.lean ====
/- The claims: the frames, the one named constant, and the equality of the kernel's result and the reference's over the
   extended reals, the arguments of the scores, the values and the factor finite. -/
module

public import proofs.«01_k».proof.Defs
public import proofs.«01_k».proof.Proof.Gen.Kernel.Frame
public import proofs.«01_k».proof.Proof.Gen.Pre_finite
public import proofs.«01_k».proof.Proof.Final
public import proofs.«01_k».proof.Proof.RefValue
public import Idealize.ShloMosaic.Lib.Quiescent

@[expose] public section

set_option maxRecDepth 16384

noncomputable section

namespace Cert.Proof.Attn

open Idealize.ShloMosaic Idealize.ShloMosaic.TcCoe Idealize.SL.Sem

/-- An extended real whose absolute value is below `+∞` is a real. -/
theorem real_of_finite (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- An array all of whose entries compare so is an array of reals. -/
theorem reals_of_finite {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    ∃ r : s.Idx → ℝ, ∀ i, x i = (r i : EReal) :=
  ⟨fun i => (real_of_finite (x i) (congrFun h i)).choose, fun i => (real_of_finite (x i) (congrFun h i)).choose_spec⟩

theorem frame_p : Cert.quiescent_Kernel := fun m ρ _ => Cert.Kernel.Gen.frame m ρ
theorem frame_pi : Cert.quiescent_KernelIdeal := fun m ρ _ => Cert.KernelIdeal.Gen.frame m ρ
theorem frame_pi' : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri' : Cert.quiescent_ReferenceIdeal_pre_finite := fun m ρ _ => frame_ri m ρ trivial

/-- The constant that scales the queries is `1 / (8 ln 2)`. -/
theorem preserves : Cert.preserves_Kernel_KernelIdeal :=
  IdealRules.named_const.statement Cert.KernelIdeal.κ "scale_log2e" .f32 0x3E38AA3B#32 (((1 / 8) * (Real.log 2)⁻¹ : ℝ) : EReal) rfl

/-- The two programs end with one array. -/
theorem algebraic : Cert.algebraic_KernelIdeal_ReferenceIdeal_pre_finite := by
  intro m ρ m' ρ' hpre hag
  have key : ∀ c : Dev Cert.KernelIdeal.nD, Cert.ReferenceIdeal.Value.res_main_v61 (F := Ideal) m' c = (Cert.KernelIdeal.Gen.dats m 0 c).arrAt 7 Cert.KernelIdeal.cfg0.N := by
    intro c
    obtain ⟨h0, h1, h2, h4, h5, h6⟩ := hpre c
    obtain ⟨q, hq⟩ := reals_of_finite _ _ h0
    obtain ⟨k, hk⟩ := reals_of_finite _ _ h1
    obtain ⟨v, hv⟩ := reals_of_finite _ _ h2
    obtain ⟨k', hk'⟩ := reals_of_finite _ _ h4
    obtain ⟨v', hv'⟩ := reals_of_finite _ _ h5
    obtain ⟨p, hp⟩ := reals_of_finite _ _ h6
    obtain ⟨g0, g1, g2, g3, g4, g5, g6, g7⟩ := hag c
    rw [Cert.ReferenceIdeal.Stages.res_eq, g0, g1, g2, g4, g5, g6, g7]
    rw [Cert.KernelIdeal.Final.arr_eq m c (fun b n C => q (ix3 b n C)) (fun b n C => k (ix3 b n C)) (fun b n C => v (ix3 b n C))
      (fun b n C => k' (ix3 b n C)) (fun b n C => v' (ix3 b n C)) (fun _ _ _ => hq _) (fun _ _ _ => hk _) (fun _ _ _ => hv _) (fun _ _ _ => hk' _) (fun _ _ _ => hv' _)]
    exact Cert.ReferenceIdeal.RefValue.whole_eq _ _ _ _ _ _ _ _ _ _ _ _ (fun a i => p (ix2 a i))
      (fun _ _ _ => hq _) (fun _ _ _ => hk _) (fun _ _ _ => hv _) (fun _ _ _ => hk' _) (fun _ _ _ => hv' _) (fun _ _ => hp _)
  exact ⟨_, Cert.KernelIdeal.Value.run_blocks (F := Ideal) m ρ,
    (θ_run Cert.ReferenceIdeal.defs _ _).mono (fun _ h c => ⟨(h c).1.trans (key c), (h c).2⟩) (Cert.ReferenceIdeal.Value.run (F := Ideal) m' ρ')⟩

end Cert.Proof.Attn

end
-- ==== Proof.InSpec.lean ====
/- What the input projection computes, row by row. -/
module

public import Idealize.ShloMosaic.Lib.Tactic
public import Idealize.ShloMosaic.Lib.Pointwise

@[expose] public section

set_option maxRecDepth 16384

noncomputable section

namespace Cert.Proj

open Idealize.ShloMosaic

/-- A row normed by its mean square, weighted, scaled and shifted. -/
def normed (x w sh sc : Fin 1024 → EReal) (k : Fin 1024) : EReal :=
  x k * Ideal.rsqrt (Ideal.div (∑ j, x j * x j) (Ideal.ofBits FTy.f32 1149239296#32) + Ideal.ofBits FTy.f32 897988541#32) * w k * (1 + sc k) + sh k

/-- In each group of 32 entries, the second half negated before the first half. -/
def turned (f : Fin 512 → EReal) (c : Fin 512) : EReal :=
  if c.val % 32 < 16 then -f ⟨c.val / 32 * 32 + 16 + c.val % 16, by omega⟩ else f ⟨c.val / 32 * 32 + c.val % 16, by omega⟩

/-- The arrays the projection is given. -/
structure Ins where
  x : Fin 8 → Fin 4096 → Fin 1024 → EReal
  xc : Fin 8 → Fin 256 → Fin 1024 → EReal
  mod : Fin 8 → Fin 6144 → EReal
  modc : Fin 6144 → EReal
  nw : Fin 1024 → EReal
  w : Fin 1024 → Fin 3344 → EReal
  b : Fin 3344 → EReal
  cos : Fin 4096 → Fin 64 → EReal
  sin : Fin 4096 → Fin 64 → EReal

namespace Ins
variable (I : Ins) (R : Fin 34816)

/-- A row of the input: the latent rows come first, the context rows after. -/
def row (k : Fin 1024) : EReal :=
  if h : R.val < 32768 then I.x ⟨R.val / 4096, by omega⟩ ⟨R.val % 4096, by omega⟩ k
  else I.xc ⟨(R.val - 32768) / 256, by omega⟩ ⟨(R.val - 32768) % 256, by omega⟩ k

/-- The row's modulation. -/
def md (j : Fin 6144) : EReal :=
  if h : R.val < 32768 then I.mod ⟨R.val / 4096, by omega⟩ j else I.modc j

/-- The row normed and modulated. -/
def h : Fin 1024 → EReal :=
  normed (I.row R) I.nw (fun k => I.md R ⟨k.val, by omega⟩) (fun k => I.md R ⟨1024 + k.val, by omega⟩)

/-- The row projected. -/
def u (c : Fin 3344) : EReal := ∑ k, I.h R k * I.w k c + I.b c

/-- A latent row of queries or keys turned by its place; a context row as it is. -/
def roped (f : Fin 512 → EReal) (c : Fin 512) : EReal :=
  if h : R.val < 32768 then
    f c * I.cos ⟨R.val % 4096, by omega⟩ ⟨c.val % 64, by omega⟩ + turned f c * I.sin ⟨R.val % 4096, by omega⟩ ⟨c.val % 64, by omega⟩
  else f c

/-- The row's columns: the hyena branch's, … -/
def hy (c : Fin 768) : EReal := I.u R ⟨c.val, by omega⟩
/-- … the mLSTM branch's, … -/
def ml (c : Fin 1024) : EReal := I.u R ⟨768 + c.val, by omega⟩
/-- … the queries, … -/
def q (c : Fin 512) : EReal := I.roped R (fun c => I.u R ⟨1808 + c.val, by omega⟩) c
/-- … the keys, … -/
def k (c : Fin 512) : EReal := I.roped R (fun c => I.u R ⟨2320 + c.val, by omega⟩) c
/-- … the values … -/
def v (c : Fin 512) : EReal := I.u R ⟨2832 + c.val, by omega⟩
/-- … and the gates. -/
def g (c : Fin 16) : EReal := I.u R ⟨1792 + c.val, by omega⟩

end Ins

/-- The latent rows' modulation, the norm's weight and the columns of the queries and keys are real. -/
structure Ins.Real (I : Ins) : Prop where
  mod : ∀ b (j : Fin 2048), ∃ r : ℝ, I.mod b ⟨j.val, by omega⟩ = r
  nw : ∀ k, ∃ r : ℝ, I.nw k = r
  w : ∀ k (c : Fin 1024), ∃ r : ℝ, I.w k ⟨1808 + c.val, by omega⟩ = r
  b : ∀ (c : Fin 1024), ∃ r : ℝ, I.b ⟨1808 + c.val, by omega⟩ = r

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {n : Nat} (f : Fin n → EReal) (hf : ∀ i, ∃ r : ℝ, f i = r) : ∃ r : ℝ, ∑ i, f i = r := by
  choose g hg using hf
  refine ⟨∑ i, g i, ?_⟩
  rw [Finset.sum_congr rfl fun i _ => hg i]
  exact (map_sum (⟨⟨Real.toEReal, EReal.coe_zero⟩, EReal.coe_add⟩ : ℝ →+ EReal) g Finset.univ).symm

/-- The epsilon of the norm is a positive real. -/
theorem eps_real : ∃ e : ℝ, 0 < e ∧ Ideal.ofBits FTy.f32 897988541#32 = (e : EReal) := by
  simp [Ideal.ofBits, Ideal.ieee]
  refine ⟨_, ?_, (EReal.coe_mul _ _).symm⟩
  norm_num

/-- The width of a row as a number. -/
theorem width_real : Ideal.ofBits FTy.f32 1149239296#32 = ((1024 : ℝ) : EReal) := by
  simp [Ideal.ofBits, Ideal.ieee]
  rw [← EReal.coe_mul]
  norm_num

/-- The inverse root of a mean square of reals, with the epsilon added, is real. -/
theorem real_rsqrt {n : Nat} (x : Fin n → EReal) (hx : ∀ i, ∃ r : ℝ, x i = r) (d : ℝ) (hd : 0 < d) :
    ∃ r : ℝ, Ideal.rsqrt (Ideal.div (∑ j, x j * x j) (d : EReal) + Ideal.ofBits FTy.f32 897988541#32) = r := by
  choose g hg using hx
  obtain ⟨e, he, hee⟩ := eps_real
  have hs : ∑ j, x j * x j = ((∑ j, g j * g j : ℝ) : EReal) := by
    rw [Finset.sum_congr rfl fun j _ => by rw [hg j, ← EReal.coe_mul]]
    exact (map_sum (⟨⟨Real.toEReal, EReal.coe_zero⟩, EReal.coe_add⟩ : ℝ →+ EReal) _ Finset.univ).symm
  have hp : 0 ≤ ∑ j, g j * g j := Finset.sum_nonneg fun j _ => mul_self_nonneg _
  have hpos : 0 < (∑ j, g j * g j) * (1 / d) + e := by positivity
  rw [hs, hee, Ideal.div_coe hd.ne', ← EReal.coe_mul, ← EReal.coe_add, Ideal.rsqrt_coe, if_neg hpos.not_gt, if_neg hpos.ne']
  exact ⟨_, rfl⟩

/-- A row divided by the root of its mean square is real, whatever the row: were an entry infinite, all would be zero. -/
theorem real_unit (x : Fin 1024 → EReal) (k : Fin 1024) :
    ∃ r : ℝ, x k * Ideal.rsqrt (Ideal.div (∑ j, x j * x j) ((1024 : ℝ) : EReal) + Ideal.ofBits FTy.f32 897988541#32) = r := by
  by_cases h : ∀ i, ∃ r : ℝ, x i = r
  · exact real_mul (h k) (real_rsqrt x h _ (by norm_num))
  · obtain ⟨i, hi⟩ := not_forall.mp h
    have hnn : ∀ j, 0 ≤ x j * x j := fun j => by
      induction x j using EReal.rec with
      | bot => simp
      | top => simp
      | coe r => rw [← EReal.coe_mul]; exact_mod_cast mul_self_nonneg r
    have ht : x i * x i = ⊤ := by
      generalize x i = y at hi
      induction y using EReal.rec with
      | bot => rfl
      | top => rfl
      | coe r => exact absurd ⟨r, rfl⟩ hi
    have hs : ∑ j, x j * x j = ⊤ := top_le_iff.mp (ht ▸ Finset.single_le_sum (f := fun j => x j * x j) (fun j _ => hnn j) (Finset.mem_univ i))
    obtain ⟨e, he, hee⟩ := eps_real
    rw [hs, hee, Ideal.div_coe (by norm_num), EReal.top_mul_coe_of_pos (by norm_num), EReal.top_add_coe, Ideal.rsqrt_top, mul_zero]
    exact ⟨0, EReal.coe_zero.symm⟩

theorem normed_real (x w sh sc : Fin 1024 → EReal) (hw : ∀ i, ∃ r : ℝ, w i = r)
    (hh : ∀ i, ∃ r : ℝ, sh i = r) (hc : ∀ i, ∃ r : ℝ, sc i = r) (k : Fin 1024) : ∃ r : ℝ, normed x w sh sc k = r := by
  unfold normed
  rw [width_real]
  exact real_add (real_mul (real_mul (real_unit x k) (hw k)) (real_add ⟨1, EReal.coe_one.symm⟩ (hc k))) (hh k)

/-- A projected latent row's queries and keys are real. -/
theorem Ins.Real.u {I : Ins} (hI : I.Real) (R : Fin 34816) (h : R.val < 32768) (c : Fin 1024) :
    ∃ r : ℝ, I.u R ⟨1808 + c.val, by omega⟩ = r := by
  have hm : ∀ j : Fin 2048, ∃ r : ℝ, I.md R ⟨j.val, by omega⟩ = r := fun j => by
    unfold Ins.md
    rw [dif_pos h]
    exact hI.mod _ j
  exact real_add (real_sum _ fun k => real_mul
    (normed_real _ _ _ _ hI.nw (fun i => hm ⟨i.val, by omega⟩) (fun i => hm ⟨1024 + i.val, by omega⟩) k) (hI.w k c)) (hI.b c)

/-- A product with the signed permutation and a product of what rounding left over: the row turned. -/
theorem turn (f : Fin 512 → EReal) (hf : ∀ c, ∃ r : ℝ, f c = r) (P : Fin 128 → Fin 128 → EReal)
    (hP : ∀ a b, P a b = if b.val % 32 < 16 then (if a.val = b.val + 16 then -1 else 0) else (if a.val + 16 = b.val then 1 else 0))
    (o : Nat) (ho : o + 128 ≤ 512) (hm : o % 32 = 0) (c : Fin 512) (d : Fin 128) (hd : c.val = o + d.val) :
    ∑ x : Fin 128, f ⟨o + x.val, by omega⟩ * P x d + ∑ x : Fin 128, (f ⟨o + x.val, by omega⟩ - f ⟨o + x.val, by omega⟩) * P x d = turned f c := by
  have h2 : ∑ x : Fin 128, (f ⟨o + x.val, by omega⟩ - f ⟨o + x.val, by omega⟩) * P x d = 0 := by
    refine Finset.sum_eq_zero fun x _ => ?_
    obtain ⟨r, hr⟩ := hf ⟨o + x.val, by omega⟩
    rw [hr, ← EReal.coe_sub, sub_self, EReal.coe_zero, zero_mul]
  rw [h2, add_zero]
  unfold turned
  by_cases h : d.val % 32 < 16
  · rw [if_pos (by omega)]
    rw [Finset.sum_eq_single (⟨d.val + 16, by omega⟩ : Fin 128)]
    · rw [hP, if_pos h, if_pos rfl, mul_neg, mul_one]
      exact congrArg (fun i => -f i) (Fin.ext (by show o + (d.val + 16) = c.val / 32 * 32 + 16 + c.val % 16; omega))
    · intro b _ hb
      rw [hP, if_pos h, if_neg (fun e => hb (Fin.ext e)), mul_zero]
    · intro h; exact absurd (Finset.mem_univ _) h
  · rw [if_neg (by omega)]
    rw [Finset.sum_eq_single (⟨d.val - 16, by omega⟩ : Fin 128)]
    · rw [hP, if_neg h, if_pos (by show d.val - 16 + 16 = d.val; omega), mul_one]
      exact congrArg f (Fin.ext (by show o + (d.val - 16) = c.val / 32 * 32 + c.val % 16; omega))
    · intro b _ hb
      rw [hP, if_neg h, if_neg (fun e => hb (Fin.ext (by show b.val = d.val - 16; omega))), mul_zero]
    · intro h; exact absurd (Finset.mem_univ _) h

end Cert.Proj

end

end
-- ==== Proof.InWindows.lean ====
/- What the input projection's blocks hold, in terms of the arguments. -/
module

public import proofs.«01_k».proof.Proof.Gen.ProjInIdeal.Value
public import proofs.«01_k».proof.Proof.InSpec
public import Idealize.ShloMosaic.Lib.Pointwise
public import Idealize.ShloMosaic.Lib.Pipeline.ValueKit

@[expose] public section

set_option maxRecDepth 16384

noncomputable section

namespace Cert.ProjInIdeal.Windows

open Cert.ProjInIdeal Cert.ProjInIdeal.Gen Cert.Proj
open Idealize.ShloMosaic Idealize.ShloMosaic.TcCoe Idealize.SL.Sem
open Idealize.ShloMosaic.Pipeline (Dat)

/-- The latent rows, then the context rows. -/
def cat (A : FVec Ideal S8x4096x1024 .f32) (B : FVec Ideal S8x256x1024 .f32) : FVec Ideal S34816x1024 .f32 :=
  concatenate S34816x1024 0 [⟨S32768x1024, shapeCast S32768x1024 A shapeCasts_S8x4096x1024_S32768x1024⟩,
    ⟨S2048x1024, shapeCast S2048x1024 B shapeCasts_S8x256x1024_S2048x1024⟩] concatenates_S32768x1024_S2048x1024_S34816x1024_d0

/-- The modulations of the prompts, then the context's, by part. -/
def mods (A : FVec Ideal S8x6144 .f32) (B : FVec Ideal S6144 .f32) : FVec Ideal S16x6x1024 .f32 :=
  shapeCast S16x6x1024 (concatenate S16x6144 0 [⟨S8x6144, A⟩, ⟨S1x6144, broadcastInDim S1x6144 ![1] bcast_S6144_S1x6144_1 B⟩,
    ⟨S7x6144, broadcastInDim S7x6144 ![] bcast_S_S7x6144 (constant S_ .f32 0x00000000#32)⟩] concatenates_S8x6144_S1x6144_S7x6144_S16x6144_d0)
    shapeCasts_S16x6144_S16x6x1024

/-- A table with its columns twice. -/
def twice (A : FVec Ideal S4096x64 .f32) : FVec Ideal S4096x128 .f32 :=
  concatenate S4096x128 1 [⟨S4096x64, A⟩, ⟨S4096x64, A⟩] concatenates_S4096x64_S4096x64_S4096x128_d1

theorem cat_apply (A : FVec Ideal S8x4096x1024 .f32) (B : FVec Ideal S8x256x1024 .f32) (R : Fin 34816) (k : Fin 1024) :
    cat A B (ix2 R k) = if h : R.val < 32768 then A (ix3 ⟨R.val / 4096, by omega⟩ ⟨R.val % 4096, by omega⟩ k)
      else B (ix3 ⟨(R.val - 32768) / 256, by omega⟩ ⟨(R.val - 32768) % 256, by omega⟩ k) := by
  pointwise [cat]

theorem twice_apply (A : FVec Ideal S4096x64 .f32) (n : Fin 4096) (d : Fin 128) :
    twice A (ix2 n d) = A (ix2 n ⟨d.val % 64, by omega⟩) := by
  pointwise [twice]
  split
  · exact congrArg (fun i => A (ix2 n i)) (Fin.ext (by show d.val = d.val % 64; omega))
  · exact congrArg (fun i => A (ix2 n i)) (Fin.ext (by show d.val - 64 = d.val % 64; omega))

theorem mods_apply (A : FVec Ideal S8x6144 .f32) (B : FVec Ideal S6144 .f32) (b : Fin 16) (hb : b.val < 9) (j : Fin 6) (k : Fin 1024) :
    mods A B (ix3 b j k) = if h : b.val < 8 then A (ix2 ⟨b.val, h⟩ ⟨j.val * 1024 + k.val, by omega⟩) else B (ix1 ⟨j.val * 1024 + k.val, by omega⟩) := by
  pointwise [mods]
  split
  · rfl
  · rw [dif_pos (by omega)]

variable (m : (ℓ : Loc nD τ sig) → Buf (Elt Ideal) ℓ) (c : Dev nD)

/-- The arguments. -/
def ins : Ins where
  x b n k := m ((c : Thread nD τ).loc main_arg0) (ix3 b n k)
  xc b n k := m ((c : Thread nD τ).loc main_arg1) (ix3 b n k)
  mod b j := m ((c : Thread nD τ).loc main_arg2) (ix2 b j)
  modc j := m ((c : Thread nD τ).loc main_arg3) (ix1 j)
  nw k := m ((c : Thread nD τ).loc main_arg4) (ix1 k)
  w k d := m ((c : Thread nD τ).loc main_arg5) (ix2 k d)
  b d := m ((c : Thread nD τ).loc main_arg6) (ix1 d)
  cos n d := m ((c : Thread nD τ).loc main_arg7) (ix2 n d)
  sin n d := m ((c : Thread nD τ).loc main_arg8) (ix2 n d)

theorem V_x : V m c main_v2 = cat (m ((c : Thread nD τ).loc main_arg0)) (m ((c : Thread nD τ).loc main_arg1)) := by
  show StableHlo.after hostOps0 (fun b => m (c, b)) _ = _
  after_results
  rfl

theorem V_mods : V m c main_v6 = mods (m ((c : Thread nD τ).loc main_arg2)) (m ((c : Thread nD τ).loc main_arg3)) := by
  show StableHlo.after hostOps0 (fun b => m (c, b)) _ = _
  after_results
  rfl

theorem V_cos : V m c main_v7 = twice (m ((c : Thread nD τ).loc main_arg7)) := by
  show StableHlo.after hostOps0 (fun b => m (c, b)) _ = _
  after_results
  rfl

theorem V_sin : V m c main_v8 = twice (m ((c : Thread nD τ).loc main_arg8)) := by
  show StableHlo.after hostOps0 (fun b => m (c, b)) _ = _
  after_results
  rfl

theorem V_nw : V m c main_v20 = broadcastInDim S1x1024 ![1] bcast_S1024_S1x1024_1 (m ((c : Thread nD τ).loc main_arg4)) := by
  show StableHlo.after hostOps0 (fun b => m (c, b)) _ = _
  after_results

theorem V_why : V m c main_v10 = extractStridedSlice S1024x768 ![0, 0] (truncf (F := Ideal) .bf16 (m ((c : Thread nD τ).loc main_arg5)) bitsLt_bf16_f32) slices_S1024x3344_S1024x768_0_0 := by
  show StableHlo.after hostOps0 (fun b => m (c, b)) _ = _
  after_results

theorem V_wml : V m c main_v11 = extractStridedSlice S1024x1024 ![0, 768] (truncf (F := Ideal) .bf16 (m ((c : Thread nD τ).loc main_arg5)) bitsLt_bf16_f32) slices_S1024x3344_S1024x1024_0_768 := by
  show StableHlo.after hostOps0 (fun b => m (c, b)) _ = _
  after_results

theorem V_wqk : V m c main_v13 = extractStridedSlice S1024x1024 ![0, 1808] (truncf (F := Ideal) .bf16 (m ((c : Thread nD τ).loc main_arg5)) bitsLt_bf16_f32) slices_S1024x3344_S1024x1024_0_1808 := by
  show StableHlo.after hostOps0 (fun b => m (c, b)) _ = _
  after_results

theorem V_wv : V m c main_v21 = transpose S512x1024 [1, 0] (extractStridedSlice S1024x512 ![0, 2832] (truncf (F := Ideal) .bf16 (m ((c : Thread nD τ).loc main_arg5)) bitsLt_bf16_f32) slices_S1024x3344_S1024x512_0_2832) transposes_S1024x512_S512x1024_1_0 := by
  show StableHlo.after hostOps0 (fun b => m (c, b)) _ = _
  after_results

theorem V_wg : V m c main_v22 = transpose S16x1024 [1, 0] (extractStridedSlice S1024x16 ![0, 1792] (truncf (F := Ideal) .bf16 (m ((c : Thread nD τ).loc main_arg5)) bitsLt_bf16_f32) slices_S1024x3344_S1024x16_0_1792) transposes_S1024x16_S16x1024_1_0 := by
  show StableHlo.after hostOps0 (fun b => m (c, b)) _ = _
  after_results

theorem V_bhy : V m c main_v23 = broadcastInDim S1x768 ![1] bcast_S768_S1x768_1 (extractStridedSlice S768 ![0] (m ((c : Thread nD τ).loc main_arg6)) slices_S3344_S768_0) := by
  show StableHlo.after hostOps0 (fun b => m (c, b)) _ = _
  after_results

theorem V_bml : V m c main_v24 = broadcastInDim S1x1024 ![1] bcast_S1024_S1x1024_1 (extractStridedSlice S1024 ![768] (m ((c : Thread nD τ).loc main_arg6)) slices_S3344_S1024_768) := by
  show StableHlo.after hostOps0 (fun b => m (c, b)) _ = _
  after_results

theorem V_bqk : V m c main_v25 = broadcastInDim S1x1024 ![1] bcast_S1024_S1x1024_1 (extractStridedSlice S1024 ![1808] (m ((c : Thread nD τ).loc main_arg6)) slices_S3344_S1024_1808) := by
  show StableHlo.after hostOps0 (fun b => m (c, b)) _ = _
  after_results

theorem V_bv : V m c main_v26 = broadcastInDim S512x1 ![0] bcast_S512_S512x1_0 (extractStridedSlice S512 ![2832] (m ((c : Thread nD τ).loc main_arg6)) slices_S3344_S512_2832) := by
  show StableHlo.after hostOps0 (fun b => m (c, b)) _ = _
  after_results

theorem V_bg : V m c main_v27 = broadcastInDim S16x1 ![0] bcast_S16_S16x1_0 (extractStridedSlice S16 ![1792] (m ((c : Thread nD τ).loc main_arg6)) slices_S3344_S16_1792) := by
  show StableHlo.after hostOps0 (fun b => m (c, b)) _ = _
  after_results

variable (t : Fin cfg0.N)

theorem idx0 : ∀ t : Fin cfg0.N, win0_0.index t = ![t.val, 0] :=
  (by decide +kernel : ∀ t : Fin grid0.N, win0_0.index t = ![t.val, 0])
theorem idx1 : ∀ t : Fin cfg0.N, win0_1.index t = ![if t.val < 128 then t.val / 16 else 8, 0, 0] :=
  (by decide +kernel : ∀ t : Fin grid0.N, win0_1.index t = ![if t.val < 128 then t.val / 16 else 8, 0, 0])
theorem idx2 : ∀ t : Fin cfg0.N, win0_2.index t = ![if t.val < 128 then t.val % 16 else 0, 0] :=
  (by decide +kernel : ∀ t : Fin grid0.N, win0_2.index t = ![if t.val < 128 then t.val % 16 else 0, 0])
theorem idx3 : ∀ t : Fin cfg0.N, win0_3.index t = ![if t.val < 128 then t.val % 16 else 0, 0] :=
  (by decide +kernel : ∀ t : Fin grid0.N, win0_3.index t = ![if t.val < 128 then t.val % 16 else 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])
theorem idx18 : ∀ t : Fin cfg0.N, win0_18.index t = ![t.val, 0] :=
  (by decide +kernel : ∀ t : Fin grid0.N, win0_18.index t = ![t.val, 0])
theorem idx19 : ∀ t : Fin cfg0.N, win0_19.index t = ![0, t.val] :=
  (by decide +kernel : ∀ t : Fin grid0.N, win0_19.index t = ![0, t.val])
theorem idx20 : ∀ t : Fin cfg0.N, win0_20.index t = ![0, t.val] :=
  (by decide +kernel : ∀ t : Fin grid0.N, win0_20.index t = ![0, t.val])

theorem lt136 : t.val < 136 := t.isLt

/-- Row `r` of a block, in the whole array. -/
def R (r : Fin 256) : Fin 34816 := ⟨t.val * 256 + r.val, by have := lt136 t; omega⟩

/-- A block's rows; -/
theorem blk0 (r : Fin 256) (k : Fin 1024) : iblk m c 0 t (ix2 r k) = (ins m c).row (R t r) k := by
  refine Eq.trans ?_ ((congrFun (V_x m c) (ix2 (R t r) k)).trans (cat_apply _ _ (R t r) k))
  unfold iblk
  refine congrArg (V m c main_v2) ?_
  blk_ext [idx0, R]

/-- their modulation; -/
theorem blk1 (r : Fin 256) (j : Fin 6) (k : Fin 1024) : iblk m c 1 t (ix3 0 j k) = (ins m c).md (R t r) ⟨j.val * 1024 + k.val, by omega⟩ := by
  have ht := lt136 t
  have hb : (if t.val < 128 then t.val / 16 else 8) < 9 := by split <;> omega
  have e : V m c main_v6 (ix3 ⟨if t.val < 128 then t.val / 16 else 8, by omega⟩ j k) = (ins m c).md (R t r) ⟨j.val * 1024 + k.val, by omega⟩ := by
    rw [V_mods, mods_apply _ _ _ hb]
    unfold Ins.md
    have hR : (R t r).val = t.val * 256 + r.val := rfl
    by_cases h : t.val < 128
    · rw [dif_pos (by show (if t.val < 128 then t.val / 16 else 8) < 8; rw [if_pos h]; omega), dif_pos (by show (R t r).val < 32768; omega)]
      refine congrArg (fun i => m ((c : Thread nD τ).loc main_arg2) (ix2 i _)) (Fin.ext ?_)
      show (if t.val < 128 then t.val / 16 else 8) = (R t r).val / 4096
      rw [if_pos h]
      omega
    · rw [dif_neg (by show ¬ (if t.val < 128 then t.val / 16 else 8) < 8; rw [if_neg h]; omega), dif_neg (by show ¬ (R t r).val < 32768; omega)]
      rfl
  refine Eq.trans ?_ e
  unfold iblk
  refine congrArg (V m c main_v6) ?_
  blk_ext [idx1]

theorem place (h : t.val < 128) (r : Fin 256) : t.val % 16 * 256 + r.val = (R t r).val % 4096 := by
  show _ = (t.val * 256 + r.val) % 4096
  omega

/-- the cosines … -/
theorem blk2 (h : t.val < 128) (r : Fin 256) (d : Fin 128) :
    iblk m c 2 t (ix2 r d) = (ins m c).cos ⟨(R t r).val % 4096, by omega⟩ ⟨d.val % 64, by omega⟩ := by
  refine Eq.trans ?_ ((congrFun (V_cos m c) (ix2 ⟨(R t r).val % 4096, by omega⟩ d)).trans (twice_apply _ _ d))
  unfold iblk
  refine congrArg (V m c main_v7) ?_
  blk_ext [idx2, ← place t h r, if_pos h]

/-- and sines of a latent block's places; -/
theorem blk3 (h : t.val < 128) (r : Fin 256) (d : Fin 128) :
    iblk m c 3 t (ix2 r d) = (ins m c).sin ⟨(R t r).val % 4096, by omega⟩ ⟨d.val % 64, by omega⟩ := by
  refine Eq.trans ?_ ((congrFun (V_sin m c) (ix2 ⟨(R t r).val % 4096, by omega⟩ d)).trans (twice_apply _ _ d))
  unfold iblk
  refine congrArg (V m c main_v8) ?_
  blk_ext [idx3, ← place t h r, if_pos h]

/-! the norm's weight, the projection's weights and biases, whole, the values' and the gates' transposed. -/

theorem blk4 (k : Fin 1024) : iblk m c 4 t (ix2 0 k) = (ins m c).nw k := by
  have hw : V m c main_v20 (ix2 0 k) = (ins m c).nw k := by
    rw [V_nw]
    pointwise
    rfl
  refine Eq.trans ?_ hw
  unfold iblk
  refine congrArg (V m c main_v20) ?_
  blk_ext [idx4]

theorem blk5 (k : Fin 1024) (d : Fin 768) : iblk m c 5 t (ix2 k d) = (ins m c).w k ⟨d.val, by omega⟩ := by
  have hw : V m c main_v10 (ix2 k d) = (ins m c).w k ⟨d.val, by omega⟩ := by
    rw [V_why]
    pointwise
    rfl
  refine Eq.trans ?_ hw
  unfold iblk
  refine congrArg (V m c main_v10) ?_
  blk_ext [idx5]

theorem blk6 (k : Fin 1024) (d : Fin 1024) : iblk m c 6 t (ix2 k d) = (ins m c).w k ⟨768 + d.val, by omega⟩ := by
  have hw : V m c main_v11 (ix2 k d) = (ins m c).w k ⟨768 + d.val, by omega⟩ := by
    rw [V_wml]
    pointwise
    rfl
  refine Eq.trans ?_ hw
  unfold iblk
  refine congrArg (V m c main_v11) ?_
  blk_ext [idx6]

theorem blk7 (k : Fin 1024) (d : Fin 1024) : iblk m c 7 t (ix2 k d) = (ins m c).w k ⟨1808 + d.val, by omega⟩ := by
  have hw : V m c main_v13 (ix2 k d) = (ins m c).w k ⟨1808 + d.val, by omega⟩ := by
    rw [V_wqk]
    pointwise
    rfl
  refine Eq.trans ?_ hw
  unfold iblk
  refine congrArg (V m c main_v13) ?_
  blk_ext [idx7]

theorem blk8 (k : Fin 1024) (d : Fin 512) : iblk m c 8 t (ix2 d k) = (ins m c).w k ⟨2832 + d.val, by omega⟩ := by
  have hw : V m c main_v21 (ix2 d k) = (ins m c).w k ⟨2832 + d.val, by omega⟩ := by
    rw [V_wv]
    pointwise
    rfl
  refine Eq.trans ?_ hw
  unfold iblk
  refine congrArg (V m c main_v21) ?_
  blk_ext [idx8]

theorem blk9 (k : Fin 1024) (d : Fin 16) : iblk m c 9 t (ix2 d k) = (ins m c).w k ⟨1792 + d.val, by omega⟩ := by
  have hw : V m c main_v22 (ix2 d k) = (ins m c).w k ⟨1792 + d.val, by omega⟩ := by
    rw [V_wg]
    pointwise
    rfl
  refine Eq.trans ?_ hw
  unfold iblk
  refine congrArg (V m c main_v22) ?_
  blk_ext [idx9]

theorem blk10 (d : Fin 768) : iblk m c 10 t (ix2 0 d) = (ins m c).b ⟨d.val, by omega⟩ := by
  have hw : V m c main_v23 (ix2 0 d) = (ins m c).b ⟨d.val, by omega⟩ := by
    rw [V_bhy]
    pointwise
    rfl
  refine Eq.trans ?_ hw
  unfold iblk
  refine congrArg (V m c main_v23) ?_
  blk_ext [idx10]

theorem blk11 (d : Fin 1024) : iblk m c 11 t (ix2 0 d) = (ins m c).b ⟨768 + d.val, by omega⟩ := by
  have hw : V m c main_v24 (ix2 0 d) = (ins m c).b ⟨768 + d.val, by omega⟩ := by
    rw [V_bml]
    pointwise
    rfl
  refine Eq.trans ?_ hw
  unfold iblk
  refine congrArg (V m c main_v24) ?_
  blk_ext [idx11]

theorem blk12 (d : Fin 1024) : iblk m c 12 t (ix2 0 d) = (ins m c).b ⟨1808 + d.val, by omega⟩ := by
  have hw : V m c main_v25 (ix2 0 d) = (ins m c).b ⟨1808 + d.val, by omega⟩ := by
    rw [V_bqk]
    pointwise
    rfl
  refine Eq.trans ?_ hw
  unfold iblk
  refine congrArg (V m c main_v25) ?_
  blk_ext [idx12]

theorem blk13 (d : Fin 512) : iblk m c 13 t (ix2 d 0) = (ins m c).b ⟨2832 + d.val, by omega⟩ := by
  have hw : V m c main_v26 (ix2 d 0) = (ins m c).b ⟨2832 + d.val, by omega⟩ := by
    rw [V_bv]
    pointwise
    rfl
  refine Eq.trans ?_ hw
  unfold iblk
  refine congrArg (V m c main_v26) ?_
  blk_ext [idx13]

theorem blk14 (d : Fin 16) : iblk m c 14 t (ix2 d 0) = (ins m c).b ⟨1792 + d.val, by omega⟩ := by
  have hw : V m c main_v27 (ix2 d 0) = (ins m c).b ⟨1792 + d.val, by omega⟩ := by
    rw [V_bg]
    pointwise
    rfl
  refine Eq.trans ?_ hw
  unfold iblk
  refine congrArg (V m c main_v27) ?_
  blk_ext [idx14]

end Cert.ProjInIdeal.Windows

end

end
-- ==== Proof.InBody.lean ====
/- A block of the input projection: what one step stores, entry by entry. -/
module

public import proofs.«01_k».proof.Proof.Gen.ProjInIdeal.Frame
public import proofs.«01_k».proof.Proof.InSpec
public import Idealize.ShloMosaic.Lib.Tactic
public import Idealize.ShloMosaic.Lib.Pointwise
public import Idealize.ShloMosaic.Lib.Pipeline.ValueKit.Tiles
public import Idealize.ShloMosaic.Lib.Pipeline.ValueKit.Basic

@[expose] public section

set_option maxRecDepth 16384

noncomputable section

namespace Cert.ProjInIdeal.Body

open Cert.ProjInIdeal Cert.ProjInIdeal.Gen Idealize.ShloMosaic Idealize.ShloMosaic.Tactic Idealize.SL.Sem Cert.Proj

/-- The bit that tells a lane in the first half of its group of 32. -/
theorem low : ∀ b : Fin 128, IntOp.cmpi CmpIPredicate.slt (Scalar.select
            (IntOp.andi
              (IntOp.xori
                (IntOp.cmpi CmpIPredicate.slt
                  (IntOp.remsi ArithUnit.vector (BitVec.ofNat 32 b.val)
                    (Scalar.select (Scalar.cmpi CmpIPredicate.eq 32#32 0#32) 1#32 32#32))
                  0#32)
                (Scalar.cmpi CmpIPredicate.slt (Scalar.select (Scalar.cmpi CmpIPredicate.eq 32#32 0#32) 1#32 32#32)
                  0#32))
              (IntOp.cmpi CmpIPredicate.ne
                (IntOp.remsi ArithUnit.vector (BitVec.ofNat 32 b.val)
                  (Scalar.select (Scalar.cmpi CmpIPredicate.eq 32#32 0#32) 1#32 32#32))
                0#32))
            (IntOp.addi
              (IntOp.remsi ArithUnit.vector (BitVec.ofNat 32 b.val)
                (Scalar.select (Scalar.cmpi CmpIPredicate.eq 32#32 0#32) 1#32 32#32))
              (Scalar.select (Scalar.cmpi CmpIPredicate.eq 32#32 0#32) 1#32 32#32))
            (IntOp.remsi ArithUnit.vector (BitVec.ofNat 32 b.val)
              (Scalar.select (Scalar.cmpi CmpIPredicate.eq 32#32 0#32) 1#32 32#32))) 16#32 = if b.val % 32 < 16 then 1#1 else 0#1 := by
  decide +kernel

/-- The bit that tells the row 16 after a lane … -/
theorem after : ∀ a b : Fin 128, IntOp.cmpi CmpIPredicate.eq (BitVec.ofNat 32 a.val) (IntOp.addi (BitVec.ofNat 32 b.val) 16#32)
    = if a.val = b.val + 16 then 1#1 else 0#1 := by
  decide +kernel

/-- … and the row 16 before it. -/
theorem before : ∀ a b : Fin 128, IntOp.cmpi CmpIPredicate.eq (BitVec.ofNat 32 a.val) (IntOp.subi (BitVec.ofNat 32 b.val) 16#32)
    = if a.val + 16 = b.val then 1#1 else 0#1 := by
  decide +kernel

theorem minus_one : Ideal.ofBits FTy.f32 3212836864#32 = -1 := by
  simp [Ideal.ofBits, Ideal.ieee]
  rw [← EReal.coe_mul]
  norm_num

/-- The signed permutation of the lanes. -/
abbrev perm : FVec Ideal S128x128 .bf16 :=
  k0_pay12 (F := Ideal) (iota .tc S128x128 32 [0] iota_S128x128_d0_w32) (iota .tc S128x128 32 [1] iota_S128x128_d1_w32) k0_pay9 k0_pay10 k0_pay11

theorem perm_apply (a b : Fin 128) :
    perm (ix2 a b) = if b.val % 32 < 16 then (if a.val = b.val + 16 then -1 else 0) else (if a.val + 16 = b.val then 1 else 0) := by
  unfold perm
  pointwise [k0_pay12, k0_pay9, k0_pay10, k0_pay11]
  have h1 := low b
  have h2 := after a b
  have h3 := before a b
  rw [h1, h2, h3, minus_one]
  by_cases l : b.val % 32 < 16
  · simp only [if_pos l]
    by_cases e : a.val = b.val + 16
    · simp only [if_pos e]; rfl
    · simp only [if_neg e]
      split <;> rfl
  · simp only [if_neg l]
    by_cases e : a.val + 16 = b.val
    · simp only [if_pos e]
      split <;> rfl
    · simp only [if_neg e]
      split <;> rfl

/-- The rows of a block, normed and modulated. -/
theorem h_apply (x : Vec Ideal S256x1024 .f32) (w : Vec Ideal S1x1024 .f32) (sh sc : Vec Ideal S1x1x1024 .f32) (r : Fin 256) (k : Fin 1024) :
    k0_pay3 (F := Ideal) x w sh sc (ix2 r k)
      = normed (fun k => x (ix2 r k)) (fun k => w (ix2 0 k)) (fun k => sh (ix3 0 0 k)) (fun k => sc (ix3 0 0 k)) k := by
  pointwise [k0_pay3]
  rfl

theorem v_apply (h : FVec Ideal S256x1024 .bf16) (w : Vec Ideal S512x1024 .bf16) (b : Vec Ideal S512x1 .f32) (r : Fin 256) (c : Fin 512) :
    k0_pay1 (F := Ideal) h w b (ix2 c r) = ∑ k, h (ix2 r k) * w (ix2 c k) + b (ix2 c 0) := by
  pointwise [k0_pay1]
  simp only [mul_comm (w _)]

theorem g_apply (h : FVec Ideal S256x1024 .bf16) (w : Vec Ideal S16x1024 .bf16) (b : Vec Ideal S16x1 .f32) (r : Fin 256) (c : Fin 16) :
    k0_pay2 (F := Ideal) h w b (ix2 c r) = ∑ k, h (ix2 r k) * w (ix2 c k) + b (ix2 c 0) := by
  pointwise [k0_pay2]
  simp only [mul_comm (w _)]

theorem hy_apply (x : Vec Ideal S256x1024 .f32) (w : Vec Ideal S1x1024 .f32) (sh sc : Vec Ideal S1x1x1024 .f32)
    (W : Vec Ideal S1024x768 .bf16) (b : Vec Ideal S1x768 .f32) (r : Fin 256) (c : Fin 768) :
    k0_pay4 (F := Ideal) x w sh sc W b (ix2 r c) = ∑ k, k0_pay3 (F := Ideal) x w sh sc (ix2 r k) * W (ix2 k c) + b (ix2 0 c) := by
  pointwise [k0_pay4]

theorem ml_apply (h : FVec Ideal S256x1024 .bf16) (W : Vec Ideal S1024x1024 .bf16) (b : Vec Ideal S1x1024 .f32) (r : Fin 256) (c : Fin 1024) :
    k0_pay5 (F := Ideal) h W b (ix2 r c) = ∑ k, h (ix2 r k) * W (ix2 k c) + b (ix2 0 c) := by
  pointwise [k0_pay5]

theorem qk_apply (h : FVec Ideal S256x1024 .bf16) (W : Vec Ideal S1024x1024 .bf16) (b : Vec Ideal S1x1024 .f32) (r : Fin 256) (c : Fin 1024) :
    k0_pay6 (F := Ideal) h W b (ix2 r c) = ∑ k, h (ix2 r k) * W (ix2 k c) + b (ix2 0 c) := by
  pointwise [k0_pay6]

theorem cos_apply (x : Vec Ideal S256x128 .f32) (r : Fin 256) (c : Fin 512) :
    k0_pay7 (F := Ideal) x (ix2 r c) = x (ix2 r ⟨c.val % 128, by omega⟩) := by
  pointwise [k0_pay7]
  split
  · exact congrArg (fun i => x (ix2 r i)) (Fin.ext (by show c.val = c.val % 128; omega))
  · split
    · exact congrArg (fun i => x (ix2 r i)) (Fin.ext (by show c.val - 128 = c.val % 128; omega))
    · split
      · exact congrArg (fun i => x (ix2 r i)) (Fin.ext (by show c.val - 128 - 128 = c.val % 128; omega))
      · exact congrArg (fun i => x (ix2 r i)) (Fin.ext (by show c.val - 128 - 128 - 128 = c.val % 128; omega))

theorem sin_apply (x : Vec Ideal S256x128 .f32) (r : Fin 256) (c : Fin 512) :
    k0_pay8 (F := Ideal) x (ix2 r c) = x (ix2 r ⟨c.val % 128, by omega⟩) :=
  cos_apply x r c

/-- Keys, turned or not as the bit tells. -/
theorem k_apply (u : FVec Ideal S256x1024 .f32) (p : BitVec 1) (co si : FVec Ideal S256x512 .f32) (r : Fin 256) (c : Fin 512)
    (hu : ∀ c, ∃ z : ℝ, u (ix2 r c) = z) :
    k0_pay21 (F := Ideal) u p co si perm (ix2 r c)
      = Scalar.select p (u (ix2 r ⟨512 + c.val, by omega⟩) * co (ix2 r c)
          + turned (fun c => u (ix2 r ⟨512 + c.val, by omega⟩)) c * si (ix2 r c)) (u (ix2 r ⟨512 + c.val, by omega⟩)) := by
  have key := turn (fun c => u (ix2 r ⟨512 + c.val, by omega⟩)) (fun _ => hu _) (fun a b => perm (ix2 a b)) perm_apply
  generalize perm = P at key ⊢
  pointwise [k0_pay21]
  refine congrArg (fun z : EReal => Scalar.select p ((u (ix2 r ⟨512 + c.val, by omega⟩) * co (ix2 r c) : EReal) + z * (si (ix2 r c) : EReal)) (u (ix2 r ⟨512 + c.val, by omega⟩) : EReal)) ?_
  split
  · refine Eq.trans ?_ (key 0 (by omega) (by omega) c ⟨c.val, by omega⟩ (Nat.zero_add _).symm)
    simp only [Nat.zero_add]
  · split
    · exact key 128 (by omega) (by omega) c ⟨c.val - 128, by omega⟩ (by show c.val = 128 + (c.val - 128); omega)
    · split
      · exact key 256 (by omega) (by omega) c ⟨c.val - 128 - 128, by omega⟩ (by show c.val = 256 + (c.val - 128 - 128); omega)
      · exact key 384 (by omega) (by omega) c ⟨c.val - 128 - 128 - 128, by omega⟩ (by show c.val = 384 + (c.val - 128 - 128 - 128); omega)

/-- Queries, turned or not as the bit tells. -/
theorem q_apply (u : FVec Ideal S256x1024 .f32) (p : BitVec 1) (co si : FVec Ideal S256x512 .f32) (r : Fin 256) (c : Fin 512)
    (i0 i1 i2 : IVec S128x128 32) (i3 : IVec S128x128 1) (i4 : IVec S128x128 32) (hP : k0_pay12 (F := Ideal) i0 i1 i2 i3 i4 = perm)
    (hu : ∀ c, ∃ z : ℝ, u (ix2 r c) = z) :
    k0_pay20 (F := Ideal) p co si perm (k0_pay13 u) (k0_pay14 u i0 i1 i2 i3 i4) (k0_pay15 u i0 i1 i2 i3 i4) (k0_pay16 u i0 i1 i2 i3 i4)
        (k0_pay17 u) (k0_pay18 u) (k0_pay19 u) (ix2 r c)
      = Scalar.select p (u (ix2 r ⟨c.val, by omega⟩) * co (ix2 r c)
          + turned (fun c => u (ix2 r ⟨c.val, by omega⟩)) c * si (ix2 r c)) (u (ix2 r ⟨c.val, by omega⟩)) := by
  have key := turn (fun c => u (ix2 r ⟨c.val, by omega⟩)) (fun _ => hu _) (fun a b => perm (ix2 a b)) perm_apply
  unfold k0_pay14 k0_pay15 k0_pay16
  rw [hP]
  clear hP
  generalize perm = P at key ⊢
  pointwise [k0_pay20, k0_pay13, k0_pay17, k0_pay18, k0_pay19]
  refine congrArg (fun z : EReal => Scalar.select p ((u (ix2 r ⟨c.val, by omega⟩) * co (ix2 r c) : EReal) + z * (si (ix2 r c) : EReal)) (u (ix2 r ⟨c.val, by omega⟩) : EReal)) ?_
  split
  · refine Eq.trans ?_ (key 0 (by omega) (by omega) c ⟨c.val, by omega⟩ (Nat.zero_add _).symm)
    simp only [Nat.zero_add]
  · split
    · exact key 128 (by omega) (by omega) c ⟨c.val - 128, by omega⟩ (by show c.val = 128 + (c.val - 128); omega)
    · split
      · exact key 256 (by omega) (by omega) c ⟨c.val - 128 - 128, by omega⟩ (by show c.val = 256 + (c.val - 128 - 128); omega)
      · exact key 384 (by omega) (by omega) c ⟨c.val - 128 - 128 - 128, by omega⟩ (by show c.val = 384 + (c.val - 128 - 128 - 128); omega)

/-- Where the bit is zero, nothing is turned. -/
theorem k_plain (u : FVec Ideal S256x1024 .f32) (co si : FVec Ideal S256x512 .f32) (P : FVec Ideal S128x128 .bf16) (r : Fin 256) (c : Fin 512) :
    k0_pay21 (F := Ideal) u 0#1 co si P (ix2 r c) = u (ix2 r ⟨512 + c.val, by omega⟩) := by
  pointwise [k0_pay21]

theorem q_plain (u : FVec Ideal S256x1024 .f32) (co si : FVec Ideal S256x512 .f32) (P : FVec Ideal S128x128 .bf16)
    (a b d e : FVec Ideal S256x128 .f32) (f : FVec Ideal S256x128 .bf16) (g : FVec Ideal S256x128 .f32) (r : Fin 256) (c : Fin 512) :
    k0_pay20 (F := Ideal) 0#1 co si P (k0_pay13 u) a b d e f g (ix2 r c) = u (ix2 r ⟨c.val, by omega⟩) := by
  pointwise [k0_pay20, k0_pay13]

section
variable (i : grid0.Coords) (x0 : Vec Ideal S256x1024 .f32) (x1 : Vec Ideal S1x6x1024 .f32) (x2 : Vec Ideal S256x128 .f32) (x3 : Vec Ideal S256x128 .f32) (x4 : Vec Ideal S1x1024 .f32) (x5 : Vec Ideal S1024x768 .bf16) (x6 : Vec Ideal S1024x1024 .bf16) (x7 : Vec Ideal S1024x1024 .bf16) (x8 : Vec Ideal S512x1024 .bf16) (x9 : Vec Ideal S16x1024 .bf16) (x10 : Vec Ideal S1x768 .f32) (x11 : Vec Ideal S1x1024 .f32) (x12 : Vec Ideal S1x1024 .f32) (x13 : Vec Ideal S512x1 .f32) (x14 : Vec Ideal S16x1 .f32)

/-- A block's row normed and modulated, from the blocks of the windows. -/
def hrow (r : Fin 256) : Fin 1024 → EReal :=
  normed (fun k => x0 (ix2 r k)) (fun k => x4 (ix2 0 k)) (fun k => x1 (ix3 0 0 k)) (fun k => x1 (ix3 0 1 k))

theorem ld_shift (k : Fin 1024) : View.ld x1 r0_2 (ix3 0 0 k) = x1 (ix3 0 0 k) :=
  View.ld_unit_apply_of (S := S1x6x1024) x1 _ _ _ (ix3 0 0 k) (ix3 0 0 k) (fun a => by
    match a with
    | 0 => rfl
    | 1 => rfl
    | 2 => exact (Nat.zero_add _).symm)

theorem ld_scale (k : Fin 1024) : View.ld x1 r0_3 (ix3 0 0 k) = x1 (ix3 0 1 k) :=
  View.ld_unit_apply_of (S := S1x6x1024) x1 _ _ _ (ix3 0 0 k) (ix3 0 1 k) (fun a => by
    match a with
    | 0 => rfl
    | 1 => rfl
    | 2 => exact (Nat.zero_add _).symm)

theorem ld0 : View.ld x0 r0_0 = x0 := View.ld_unit_lit _ x0 (by decide)
theorem ld2 : View.ld x2 r0_8 = x2 := View.ld_unit_lit _ x2 (by decide)
theorem ld4 : View.ld x4 r0_1 = x4 := View.ld_unit_lit _ x4 (by decide)
theorem ld5 : View.ld x5 r0_4 = x5 := View.ld_unit_lit _ x5 (by decide)
theorem ld6 : View.ld x6 r0_7 = x6 := View.ld_unit_lit _ x6 (by decide)
theorem ld8 : View.ld x8 r0_10 = x8 := View.ld_unit_lit _ x8 (by decide)
theorem ld9 : View.ld x9 r0_13 = x9 := View.ld_unit_lit _ x9 (by decide)
theorem ld10 : View.ld x10 r0_5 = x10 := View.ld_unit_lit _ x10 (by decide)
theorem ld13 : View.ld x13 r0_11 = x13 := View.ld_unit_lit _ x13 (by decide)
theorem ld14 : View.ld x14 r0_14 = x14 := View.ld_unit_lit _ x14 (by decide)

theorem hld_apply (r : Fin 256) (k : Fin 1024) :
    k0_pay3 (F := Ideal) (View.ld x0 r0_0) (View.ld x4 r0_1) (View.ld x1 r0_2) (View.ld x1 r0_3) (ix2 r k) = hrow x0 x1 x4 r k := by
  rw [h_apply, ld0, ld4]
  exact congrArg₂ (fun s t => normed (fun k => x0 (ix2 r k)) (fun k => x4 (ix2 0 k)) s t k) (funext fun k => ld_shift x1 k) (funext fun k => ld_scale x1 k)

/-- The hyena columns of a block, … -/
theorem out15_apply (r : Fin 256) (c : Fin 768) :
    out0_15 (F := Ideal) i x0 x1 x2 x3 x4 x5 x6 x7 x8 x9 x10 x11 x12 x13 x14 (ix2 r c) = ∑ k, hrow x0 x1 x4 r k * x5 (ix2 k c) + x10 (ix2 0 c) := by
  unfold_out out0_15
  refine (congrFun (View.canon_cons_unit_lit _ _ [] (by decide)) _).trans ?_
  rw [hy_apply, ld5, ld10]
  simp only [hld_apply]

/-- … the mLSTM's, … -/
theorem out16_apply (r : Fin 256) (c : Fin 1024) :
    out0_16 (F := Ideal) i x0 x1 x2 x3 x4 x5 x6 x7 x8 x9 x10 x11 x12 x13 x14 (ix2 r c) = ∑ k, hrow x0 x1 x4 r k * x6 (ix2 k c) + x11 (ix2 0 c) := by
  unfold_out out0_16
  refine (congrFun (View.canon_cons_unit_lit _ _ [] (by decide)) _).trans ?_
  rw [ml_apply, ld6, ld4 x11]
  simp only [hld_apply]

/-- … the values' … -/
theorem out19_apply (r : Fin 256) (c : Fin 512) :
    out0_19 (F := Ideal) i x0 x1 x2 x3 x4 x5 x6 x7 x8 x9 x10 x11 x12 x13 x14 (ix2 c r) = ∑ k, hrow x0 x1 x4 r k * x8 (ix2 c k) + x13 (ix2 c 0) := by
  unfold_out out0_19
  refine (congrFun (View.canon_cons_unit_lit _ _ [] (by decide)) _).trans ?_
  rw [v_apply, ld8, ld13]
  simp only [hld_apply]

/-- … and the gates'. -/
theorem out20_apply (r : Fin 256) (c : Fin 16) :
    out0_20 (F := Ideal) i x0 x1 x2 x3 x4 x5 x6 x7 x8 x9 x10 x11 x12 x13 x14 (ix2 c r) = ∑ k, hrow x0 x1 x4 r k * x9 (ix2 c k) + x14 (ix2 c 0) := by
  unfold_out out0_20
  refine (congrFun (View.canon_cons_unit_lit _ _ [] (by decide)) _).trans ?_
  rw [g_apply, ld9, ld14]
  simp only [hld_apply]

/-- The columns of the queries and the keys before they are turned. -/
def qkrow (r : Fin 256) (c : Fin 1024) : EReal := ∑ k, hrow x0 x1 x4 r k * x7 (ix2 k c) + x12 (ix2 0 c)

theorem qkld_apply (r : Fin 256) (c : Fin 1024) :
    k0_pay6 (F := Ideal) (k0_pay3 (View.ld x0 r0_0) (View.ld x4 r0_1) (View.ld x1 r0_2) (View.ld x1 r0_3)) (View.ld x7 r0_7) (View.ld x12 r0_1) (ix2 r c)
      = qkrow x0 x1 x4 x7 x12 r c := by
  rw [qk_apply, ld6, ld4 x12]
  unfold qkrow
  simp only [hld_apply]

/-- A block's queries where its rows are not turned. -/
theorem out17_plain (r : Fin 256) (c : Fin 512) (h : Scalar.cmpi .slt (BitVec.ofNat 32 (i 0).val) 128#32 = 0#1) :
    out0_17 (F := Ideal) i x0 x1 x2 x3 x4 x5 x6 x7 x8 x9 x10 x11 x12 x13 x14 (ix2 r c) = qkrow x0 x1 x4 x7 x12 r ⟨c.val, by omega⟩ := by
  unfold_out out0_17
  refine (congrFun (View.canon_cons_unit_lit _ _ [] (by decide)) _).trans ?_
  rw [h, q_plain, qkld_apply]

/-- A block's queries, its projected rows real. -/
theorem out17_apply (r : Fin 256) (c : Fin 512) (hu : ∀ c, ∃ z : ℝ, qkrow x0 x1 x4 x7 x12 r c = z) :
    out0_17 (F := Ideal) i x0 x1 x2 x3 x4 x5 x6 x7 x8 x9 x10 x11 x12 x13 x14 (ix2 r c)
      = Scalar.select (Scalar.cmpi .slt (BitVec.ofNat 32 (i 0).val) 128#32)
          (qkrow x0 x1 x4 x7 x12 r ⟨c.val, by omega⟩ * x2 (ix2 r ⟨c.val % 128, by omega⟩)
            + turned (fun c => qkrow x0 x1 x4 x7 x12 r ⟨c.val, by omega⟩) c * x3 (ix2 r ⟨c.val % 128, by omega⟩))
          (qkrow x0 x1 x4 x7 x12 r ⟨c.val, by omega⟩) := by
  unfold_out out0_17
  refine (congrFun (View.canon_cons_unit_lit _ _ [] (by decide)) _).trans ?_
  refine (q_apply _ _ _ _ r c _ _ _ _ _ rfl (fun c => ?_)).trans ?_
  · rw [qkld_apply]
    exact hu c
  · simp only [qkld_apply, cos_apply, sin_apply, ld2]

/-- A block's keys where its rows are not turned. -/
theorem out18_plain (r : Fin 256) (c : Fin 512) (h : Scalar.cmpi .slt (BitVec.ofNat 32 (i 0).val) 128#32 = 0#1) :
    out0_18 (F := Ideal) i x0 x1 x2 x3 x4 x5 x6 x7 x8 x9 x10 x11 x12 x13 x14 (ix2 r c) = qkrow x0 x1 x4 x7 x12 r ⟨512 + c.val, by omega⟩ := by
  unfold_out out0_18
  refine (congrFun (View.canon_cons_unit_lit _ _ [] (by decide)) _).trans ?_
  rw [h, k_plain, qkld_apply]

/-- A block's keys, its projected rows real. -/
theorem out18_apply (r : Fin 256) (c : Fin 512) (hu : ∀ c, ∃ z : ℝ, qkrow x0 x1 x4 x7 x12 r c = z) :
    out0_18 (F := Ideal) i x0 x1 x2 x3 x4 x5 x6 x7 x8 x9 x10 x11 x12 x13 x14 (ix2 r c)
      = Scalar.select (Scalar.cmpi .slt (BitVec.ofNat 32 (i 0).val) 128#32)
          (qkrow x0 x1 x4 x7 x12 r ⟨512 + c.val, by omega⟩ * x2 (ix2 r ⟨c.val % 128, by omega⟩)
            + turned (fun c => qkrow x0 x1 x4 x7 x12 r ⟨512 + c.val, by omega⟩) c * x3 (ix2 r ⟨c.val % 128, by omega⟩))
          (qkrow x0 x1 x4 x7 x12 r ⟨512 + c.val, by omega⟩) := by
  unfold_out out0_18
  refine (congrFun (View.canon_cons_unit_lit _ _ [] (by decide)) _).trans ?_
  refine (k_apply _ _ _ _ r c (fun c => ?_)).trans ?_
  · rw [qkld_apply]
    exact hu c
  · simp only [qkld_apply, cos_apply, sin_apply, ld2]

end

end Cert.ProjInIdeal.Body

end

end
-- ==== Proof.InFinal.lean ====
/- The input projection's whole results. -/
module

public import proofs.«01_k».proof.Proof.InWindows
public import proofs.«01_k».proof.Proof.InBody

@[expose] public section

set_option maxRecDepth 16384

noncomputable section

namespace Cert.ProjInIdeal.Final

open Cert.ProjInIdeal Cert.ProjInIdeal.Gen Cert.ProjInIdeal.Value Cert.ProjInIdeal.Body Cert.ProjInIdeal.Windows Cert.Proj
open Idealize.ShloMosaic Idealize.ShloMosaic.TcCoe Idealize.SL.Sem

/-! The whole results, from the arguments. -/

/-- The hyena columns of all rows. -/
def hyAll (I : Ins) : FVec Ideal S34816x768 .f32 := fun y =>
  I.hy (y 0) (y 1)

/-- The mLSTM columns. -/
def mlAll (I : Ins) : FVec Ideal S34816x1024 .f32 := fun y =>
  I.ml (y 0) (y 1)

/-- The queries. -/
def qAll (I : Ins) : FVec Ideal S34816x512 .bf16 := fun y =>
  I.q (y 0) (y 1)

/-- The keys. -/
def kAll (I : Ins) : FVec Ideal S34816x512 .bf16 := fun y =>
  I.k (y 0) (y 1)

/-- The values, transposed. -/
def vAll (I : Ins) : FVec Ideal S512x34816 .bf16 := fun y =>
  I.v (y 1) (y 0)

/-- The gates, transposed. -/
def gAll (I : Ins) : FVec Ideal S16x34816 .f32 := fun y =>
  I.g (y 1) (y 0)

variable (m : (ℓ : Loc nD τ sig) → Buf (Elt Ideal) ℓ) (c : Dev nD) (t : Fin cfg0.N)

/-- A block's row normed and modulated is the array's. -/
theorem hrow_eq (r : Fin 256) : hrow (iblk m c 0 t) (iblk m c 1 t) (iblk m c 4 t) r = (ins m c).h (R t r) := by
  unfold hrow Ins.h
  have e1 : ∀ k : Fin 1024, iblk m c 1 t (ix3 0 0 k) = (ins m c).md (R t r) ⟨k.val, by omega⟩ := fun k =>
    (blk1 m c t r 0 k).trans (congrArg ((ins m c).md (R t r)) (Fin.ext (by show 0 * 1024 + k.val = k.val; omega)))
  have e2 : ∀ k : Fin 1024, iblk m c 1 t (ix3 0 1 k) = (ins m c).md (R t r) ⟨1024 + k.val, by omega⟩ := fun k =>
    (blk1 m c t r 1 k).trans (congrArg ((ins m c).md (R t r)) (Fin.ext (by show 1 * 1024 + k.val = 1024 + k.val; omega)))
  simp only [blk0, blk4, e1, e2]

theorem qkrow_eq (r : Fin 256) (d : Fin 1024) :
    qkrow (iblk m c 0 t) (iblk m c 1 t) (iblk m c 4 t) (iblk m c 7 t) (iblk m c 12 t) r d = (ins m c).u (R t r) ⟨1808 + d.val, by omega⟩ := by
  unfold qkrow
  rw [hrow_eq, blk12]
  simp only [blk7]
  rfl

/-- The bit by which a step knows that its rows are latent. -/
theorem bit : ∀ t : Fin grid0.N, Scalar.cmpi .slt (BitVec.ofNat 32 (grid0.coords t 0).val) 128#32 = if t.val < 128 then 1#1 else 0#1 := by
  decide +kernel

theorem coord (x y : EReal) :
    Scalar.select (Scalar.cmpi .slt (BitVec.ofNat 32 (grid0.coords t 0).val) 128#32) x y = if t.val < 128 then x else y := by
  refine (congrArg (fun b => Scalar.select b x y) (bit t)).trans ?_
  by_cases h : t.val < 128
  · rw [if_pos h, if_pos h]; rfl
  · rw [if_neg h, if_neg h]; rfl

/-! One entry of each block a step writes. -/

theorem block15 (r : Fin 256) (d : Fin 768) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = (ins m c).hy (R t r) d := by
  refine (out15_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  rw [hrow_eq, blk10]
  simp only [blk5]
  rfl

theorem block16 (r : Fin 256) (d : Fin 1024) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = (ins m c).ml (R t r) d := by
  refine (out16_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  rw [hrow_eq, blk11]
  simp only [blk6]
  rfl

theorem block19 (r : Fin 256) (d : Fin 512) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 d r) = (ins m c).v (R t r) d := by
  refine (out19_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  rw [hrow_eq, blk13]
  simp only [blk8]
  rfl

theorem block20 (r : Fin 256) (d : Fin 16) :
    out0_20 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 d r) = (ins m c).g (R t r) d := by
  refine (out20_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  rw [hrow_eq, blk14]
  simp only [blk9]
  rfl

theorem block17 (hI : (ins m c).Real) (r : Fin 256) (d : Fin 512) :
    out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = (ins m c).q (R t r) d := by
  have ht := lt136 t
  have e : ∀ d : Fin 512, qkrow (iblk m c 0 t) (iblk m c 1 t) (iblk m c 4 t) (iblk m c 7 t) (iblk m c 12 t) r ⟨d.val, by omega⟩
      = (ins m c).u (R t r) ⟨1808 + d.val, by omega⟩ := fun d => (qkrow_eq m c t r _).trans
    (congrArg ((ins m c).u (R t r)) (Fin.ext (by first | rfl | (show 1808 + (0 + d.val) = 1808 + d.val; omega))))
  unfold Ins.q Ins.roped
  by_cases h : t.val < 128
  · have hR : (R t r).val < 32768 := by show t.val * 256 + r.val < 32768; omega
    refine (out17_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d (fun d => ⟨_, (qkrow_eq m c t r d).trans (hI.u (R t r) hR d).choose_spec⟩)).trans ?_
    simp only [e]
    rw [coord, dif_pos hR, if_pos h, blk2 m c t h, blk3 m c t h]
    have e2 : ∀ H, (⟨d.val % 128 % 64, H⟩ : Fin 64) = ⟨d.val % 64, by omega⟩ := fun _ => Fin.ext (by show d.val % 128 % 64 = d.val % 64; omega)
    simp only [e2]
  · refine (out17_plain (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d ((bit t).trans (if_neg h))).trans ?_
    rw [dif_neg (by show ¬ t.val * 256 + r.val < 32768; omega), e]

theorem block18 (hI : (ins m c).Real) (r : Fin 256) (d : Fin 512) :
    out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = (ins m c).k (R t r) d := by
  have ht := lt136 t
  have e : ∀ d : Fin 512, qkrow (iblk m c 0 t) (iblk m c 1 t) (iblk m c 4 t) (iblk m c 7 t) (iblk m c 12 t) r ⟨512 + d.val, by omega⟩
      = (ins m c).u (R t r) ⟨2320 + d.val, by omega⟩ := fun d => (qkrow_eq m c t r _).trans
    (congrArg ((ins m c).u (R t r)) (Fin.ext (by first | rfl | (show 1808 + (512 + d.val) = 2320 + d.val; omega))))
  unfold Ins.k Ins.roped
  by_cases h : t.val < 128
  · have hR : (R t r).val < 32768 := by show t.val * 256 + r.val < 32768; omega
    refine (out18_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d (fun d => ⟨_, (qkrow_eq m c t r d).trans (hI.u (R t r) hR d).choose_spec⟩)).trans ?_
    simp only [e]
    rw [coord, dif_pos hR, if_pos h, blk2 m c t h, blk3 m c t h]
    have e2 : ∀ H, (⟨d.val % 128 % 64, H⟩ : Fin 64) = ⟨d.val % 64, by omega⟩ := fun _ => Fin.ext (by show d.val % 128 % 64 = d.val % 64; omega)
    simp only [e2]
  · refine (out18_plain (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d ((bit t).trans (if_neg h))).trans ?_
    rw [dif_neg (by show ¬ t.val * 256 + r.val < 32768; omega), e]

/-! The arrays after the run. -/

theorem arr15 : (dats m 0 c).arrAt 15 cfg0.N = hyAll (ins m c) := by
  refine (dats m 0 c).arrAt_eq_of_covers 15 _ (by decide +kernel) fun t hf y => ?_
  have ht := lt136 t
  blk_simp
  rw [after0_15]
  have hy : y = ix2 (y 0 : Fin 256) (y 1 : Fin 768) := by
    refine funext fun a => ?_
    match a with
    | 0 => rfl
    | 1 => rfl
  have e0 : ((win0_15.blk t).view.emb y) 0 = R t (y 0 : Fin 256) := by
    refine Fin.ext ?_
    blk_simp [idx15, R]
  have e1 : ((win0_15.blk t).view.emb y) 1 = (y 1 : Fin 768) := by
    refine Fin.ext ?_
    blk_simp [idx15]
  refine (congrArg _ hy).trans ((block15 m c t (y 0 : Fin 256) (y 1 : Fin 768)).trans ?_)
  exact (congrArg₂ (ins m c).hy e0 e1).symm

theorem arr16 : (dats m 0 c).arrAt 16 cfg0.N = mlAll (ins m c) := by
  refine (dats m 0 c).arrAt_eq_of_covers 16 _ (by decide +kernel) fun t hf y => ?_
  have ht := lt136 t
  blk_simp
  rw [after0_16]
  have hy : y = ix2 (y 0 : Fin 256) (y 1 : Fin 1024) := by
    refine funext fun a => ?_
    match a with
    | 0 => rfl
    | 1 => rfl
  have e0 : ((win0_16.blk t).view.emb y) 0 = R t (y 0 : Fin 256) := by
    refine Fin.ext ?_
    blk_simp [idx16, R]
  have e1 : ((win0_16.blk t).view.emb y) 1 = (y 1 : Fin 1024) := by
    refine Fin.ext ?_
    blk_simp [idx16]
  refine (congrArg _ hy).trans ((block16 m c t (y 0 : Fin 256) (y 1 : Fin 1024)).trans ?_)
  exact (congrArg₂ (ins m c).ml e0 e1).symm

theorem arr17 (hI : (ins m c).Real) : (dats m 0 c).arrAt 17 cfg0.N = qAll (ins m c) := by
  refine (dats m 0 c).arrAt_eq_of_covers 17 _ (by decide +kernel) fun t hf y => ?_
  have ht := lt136 t
  blk_simp
  rw [after0_17]
  have hy : y = ix2 (y 0 : Fin 256) (y 1 : Fin 512) := by
    refine funext fun a => ?_
    match a with
    | 0 => rfl
    | 1 => rfl
  have e0 : ((win0_17.blk t).view.emb y) 0 = R t (y 0 : Fin 256) := by
    refine Fin.ext ?_
    blk_simp [idx17, R]
  have e1 : ((win0_17.blk t).view.emb y) 1 = (y 1 : Fin 512) := by
    refine Fin.ext ?_
    blk_simp [idx17]
  refine (congrArg _ hy).trans ((block17 m c t hI (y 0 : Fin 256) (y 1 : Fin 512)).trans ?_)
  exact (congrArg₂ (ins m c).q e0 e1).symm

theorem arr18 (hI : (ins m c).Real) : (dats m 0 c).arrAt 18 cfg0.N = kAll (ins m c) := by
  refine (dats m 0 c).arrAt_eq_of_covers 18 _ (by decide +kernel) fun t hf y => ?_
  have ht := lt136 t
  blk_simp
  rw [after0_18]
  have hy : y = ix2 (y 0 : Fin 256) (y 1 : Fin 512) := by
    refine funext fun a => ?_
    match a with
    | 0 => rfl
    | 1 => rfl
  have e0 : ((win0_18.blk t).view.emb y) 0 = R t (y 0 : Fin 256) := by
    refine Fin.ext ?_
    blk_simp [idx18, R]
  have e1 : ((win0_18.blk t).view.emb y) 1 = (y 1 : Fin 512) := by
    refine Fin.ext ?_
    blk_simp [idx18]
  refine (congrArg _ hy).trans ((block18 m c t hI (y 0 : Fin 256) (y 1 : Fin 512)).trans ?_)
  exact (congrArg₂ (ins m c).k e0 e1).symm

theorem arr19 : (dats m 0 c).arrAt 19 cfg0.N = vAll (ins m c) := by
  refine (dats m 0 c).arrAt_eq_of_covers 19 _ (by decide +kernel) fun t hf y => ?_
  have ht := lt136 t
  blk_simp
  rw [after0_19]
  have hy : y = ix2 (y 0 : Fin 512) (y 1 : Fin 256) := by
    refine funext fun a => ?_
    match a with
    | 0 => rfl
    | 1 => rfl
  have e0 : ((win0_19.blk t).view.emb y) 1 = R t (y 1 : Fin 256) := by
    refine Fin.ext ?_
    blk_simp [idx19, R]
  have e1 : ((win0_19.blk t).view.emb y) 0 = (y 0 : Fin 512) := by
    refine Fin.ext ?_
    blk_simp [idx19]
  refine (congrArg _ hy).trans ((block19 m c t (y 1 : Fin 256) (y 0 : Fin 512)).trans ?_)
  exact (congrArg₂ (ins m c).v e0 e1).symm

theorem arr20 : (dats m 0 c).arrAt 20 cfg0.N = gAll (ins m c) := by
  refine (dats m 0 c).arrAt_eq_of_covers 20 _ (by decide +kernel) fun t hf y => ?_
  have ht := lt136 t
  blk_simp
  rw [after0_20]
  have hy : y = ix2 (y 0 : Fin 16) (y 1 : Fin 256) := by
    refine funext fun a => ?_
    match a with
    | 0 => rfl
    | 1 => rfl
  have e0 : ((win0_20.blk t).view.emb y) 1 = R t (y 1 : Fin 256) := by
    refine Fin.ext ?_
    blk_simp [idx20, R]
  have e1 : ((win0_20.blk t).view.emb y) 0 = (y 0 : Fin 16) := by
    refine Fin.ext ?_
    blk_simp [idx20]
  refine (congrArg _ hy).trans ((block20 m c t (y 1 : Fin 256) (y 0 : Fin 16)).trans ?_)
  exact (congrArg₂ (ins m c).g e0 e1).symm

end Cert.ProjInIdeal.Final

end

end
-- ==== Proof.InRef.lean ====
/- The reference of the input projection in stages. -/
module

public import proofs.«01_k».proof.Proof.Gen.RefInIdeal.Run
public import proofs.«01_k».proof.Proof.InSpec
public import Idealize.ShloMosaic.Lib.Pointwise
public import Idealize.ShloMosaic.Lib.KernelVsHost

@[expose] public section

set_option maxRecDepth 16384

noncomputable section

namespace Cert.RefInIdeal.Stages

open Idealize.ShloMosaic.TcCoe Idealize.SL.Sem
open Cert.RefInIdeal Cert.RefInIdeal.Gen Cert.RefInIdeal.Value Idealize.ShloMosaic Cert.Proj

/-- The latent rows normed and modulated. -/
def hl (a0 : FVec Ideal S8x4096x1024 .f32) (a2 : FVec Ideal S8x6144 .f32) (a4 : FVec Ideal S1024 .f32) : FVec Ideal S8x4096x1024 .f32 :=
  addf (mulf (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a4))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] a2 slices_S8x6144_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] a2 slices_S8x6144_S8x1024_0_0)))

/-- The context rows normed and modulated. -/
def hc (a1 : FVec Ideal S8x256x1024 .f32) (a3 : FVec Ideal S6144 .f32) (a4 : FVec Ideal S1024 .f32) : FVec Ideal S8x256x1024 .f32 :=
  addf (mulf (mulf (mulf a1 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf a1 a1) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a4))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (extractStridedSlice S1024 ![1024] a3 slices_S6144_S1024_1024))))) (broadcastInDim S8x256x1024 ![0, 1, 2] bcast_S1x1x1024_S8x256x1024_0_1_2 (broadcastInDim S1x1x1024 ![2] bcast_S1024_S1x1x1024_2 (extractStridedSlice S1024 ![0] a3 slices_S6144_S1024_0)))

/-- The latent rows projected. -/
def ul (a5 : FVec Ideal S1024x3344 .f32) (a6 : FVec Ideal S3344 .f32) (h : FVec Ideal S8x4096x1024 .f32) : FVec Ideal S8x4096x3344 .f32 :=
  addf (Host.dotGeneral dot_S8x4096x1024_S1024x3344_S8x4096x3344_2_0_01_1_n_n none h a5) (broadcastInDim S8x4096x3344 ![0, 1, 2] bcast_S1x1x3344_S8x4096x3344_0_1_2 (broadcastInDim S1x1x3344 ![2] bcast_S3344_S1x1x3344_2 a6))

/-- The context rows projected. -/
def uc (a5 : FVec Ideal S1024x3344 .f32) (a6 : FVec Ideal S3344 .f32) (h : FVec Ideal S8x256x1024 .f32) : FVec Ideal S8x256x3344 .f32 :=
  addf (Host.dotGeneral dot_S8x256x1024_S1024x3344_S8x256x3344_2_0_01_1_n_n none h a5) (broadcastInDim S8x256x3344 ![0, 1, 2] bcast_S1x1x3344_S8x256x3344_0_1_2 (broadcastInDim S1x1x3344 ![2] bcast_S3344_S1x1x3344_2 a6))

/-- The latent queries or keys turned by their place. -/
def rope (A : FVec Ideal S8x4096x512 .f32) (a7 : FVec Ideal S4096x64 .f32) (a8 : FVec Ideal S4096x64 .f32) : FVec Ideal S8x4096x512 .f32 :=
  shapeCast S8x4096x512 (addf (mulf (shapeCast _ A shapeCasts_S8x4096x512_S8x4096x4x2x64) (broadcastInDim S8x4096x4x2x64 ![0, 1, 2, 3, 4] bcast_S1x4096x1x1x64_S8x4096x4x2x64_0_1_2_3_4 (broadcastInDim S1x4096x1x1x64 ![1, 4] bcast_S4096x64_S1x4096x1x1x64_1_4 a7))) (mulf (shapeCast _ (concatenate S8x4096x4x2x2x2x16 5 [⟨S8x4096x4x2x2x1x16, (broadcastInDim S8x4096x4x2x2x1x16 ![0, 1, 2, 3, 4, 6] bcast_S8x4096x4x2x2x16_S8x4096x4x2x2x1x16_0_1_2_3_4_6 (Host.negf (shapeCast _ (extractStridedSlice S8x4096x4x2x2x1x16 ![0, 0, 0, 0, 0, 1, 0] (shapeCast _ (shapeCast _ A shapeCasts_S8x4096x512_S8x4096x4x2x64) shapeCasts_S8x4096x4x2x64_S8x4096x4x2x2x2x16) slices_S8x4096x4x2x2x2x16_S8x4096x4x2x2x1x16_0_0_0_0_0_1_0) shapeCasts_S8x4096x4x2x2x1x16_S8x4096x4x2x2x16)))⟩, ⟨S8x4096x4x2x2x1x16, (broadcastInDim S8x4096x4x2x2x1x16 ![0, 1, 2, 3, 4, 6] bcast_S8x4096x4x2x2x16_S8x4096x4x2x2x1x16_0_1_2_3_4_6 (shapeCast _ (extractStridedSlice S8x4096x4x2x2x1x16 ![0, 0, 0, 0, 0, 0, 0] (shapeCast _ (shapeCast _ A shapeCasts_S8x4096x512_S8x4096x4x2x64) shapeCasts_S8x4096x4x2x64_S8x4096x4x2x2x2x16) slices_S8x4096x4x2x2x2x16_S8x4096x4x2x2x1x16_0_0_0_0_0_0_0) shapeCasts_S8x4096x4x2x2x1x16_S8x4096x4x2x2x16))⟩] concatenates_S8x4096x4x2x2x1x16_S8x4096x4x2x2x1x16_S8x4096x4x2x2x2x16_d5) shapeCasts_S8x4096x4x2x2x2x16_S8x4096x4x2x64) (broadcastInDim S8x4096x4x2x64 ![0, 1, 2, 3, 4] bcast_S1x4096x1x1x64_S8x4096x4x2x64_0_1_2_3_4 (broadcastInDim S1x4096x1x1x64 ![1, 4] bcast_S4096x64_S1x4096x1x1x64_1_4 a8)))) shapeCasts_S8x4096x4x2x64_S8x4096x512

/-- Latent rows before context rows, 768 columns. -/
def rows768 (A : FVec Ideal S8x4096x768 .f32) (B : FVec Ideal S8x256x768 .f32) : FVec Ideal S34816x768 .f32 :=
  concatenate S34816x768 0 [⟨S32768x768, (shapeCast _ A shapeCasts_S8x4096x768_S32768x768)⟩, ⟨S2048x768, (shapeCast _ B shapeCasts_S8x256x768_S2048x768)⟩] concatenates_S32768x768_S2048x768_S34816x768_d0

/-- Latent rows before context rows, 1024 columns. -/
def rows1024 (A : FVec Ideal S8x4096x1024 .f32) (B : FVec Ideal S8x256x1024 .f32) : FVec Ideal S34816x1024 .f32 :=
  concatenate S34816x1024 0 [⟨S32768x1024, (shapeCast _ A shapeCasts_S8x4096x1024_S32768x1024)⟩, ⟨S2048x1024, (shapeCast _ B shapeCasts_S8x256x1024_S2048x1024)⟩] concatenates_S32768x1024_S2048x1024_S34816x1024_d0

/-- Latent rows before context rows, 512 columns. -/
def rows512 (A : FVec Ideal S8x4096x512 .f32) (B : FVec Ideal S8x256x512 .f32) : FVec Ideal S34816x512 .f32 :=
  concatenate S34816x512 0 [⟨S32768x512, (shapeCast _ A shapeCasts_S8x4096x512_S32768x512)⟩, ⟨S2048x512, (shapeCast _ B shapeCasts_S8x256x512_S2048x512)⟩] concatenates_S32768x512_S2048x512_S34816x512_d0

/-- Latent rows before context rows, 16 columns. -/
def rows16 (A : FVec Ideal S8x4096x16 .f32) (B : FVec Ideal S8x256x16 .f32) : FVec Ideal S34816x16 .f32 :=
  concatenate S34816x16 0 [⟨S32768x16, (shapeCast _ A shapeCasts_S8x4096x16_S32768x16)⟩, ⟨S2048x16, (shapeCast _ B shapeCasts_S8x256x16_S2048x16)⟩] concatenates_S32768x16_S2048x16_S34816x16_d0

/-- The columns of the hyena branch, latent rows before context rows. -/
def hyAll (U : FVec Ideal S8x4096x3344 .f32) (C : FVec Ideal S8x256x3344 .f32) : FVec Ideal S34816x768 .f32 :=
  rows768 (extractStridedSlice S8x4096x768 ![0, 0, 0] U slices_S8x4096x3344_S8x4096x768_0_0_0) (extractStridedSlice S8x256x768 ![0, 0, 0] C slices_S8x256x3344_S8x256x768_0_0_0)

/-- The columns of the mLSTM branch. -/
def mlAll (U : FVec Ideal S8x4096x3344 .f32) (C : FVec Ideal S8x256x3344 .f32) : FVec Ideal S34816x1024 .f32 :=
  rows1024 (extractStridedSlice S8x4096x1024 ![0, 0, 768] U slices_S8x4096x3344_S8x4096x1024_0_0_768) (extractStridedSlice S8x256x1024 ![0, 0, 768] C slices_S8x256x3344_S8x256x1024_0_0_768)

/-- The queries. -/
def qAll (U : FVec Ideal S8x4096x3344 .f32) (C : FVec Ideal S8x256x3344 .f32) (a7 : FVec Ideal S4096x64 .f32) (a8 : FVec Ideal S4096x64 .f32) : FVec Ideal S34816x512 .bf16 :=
  truncf .bf16 (rows512 (rope (extractStridedSlice S8x4096x512 ![0, 0, 1808] U slices_S8x4096x3344_S8x4096x512_0_0_1808) a7 a8) (extractStridedSlice S8x256x512 ![0, 0, 1808] C slices_S8x256x3344_S8x256x512_0_0_1808)) bitsLt_bf16_f32

/-- The keys. -/
def kAll (U : FVec Ideal S8x4096x3344 .f32) (C : FVec Ideal S8x256x3344 .f32) (a7 : FVec Ideal S4096x64 .f32) (a8 : FVec Ideal S4096x64 .f32) : FVec Ideal S34816x512 .bf16 :=
  truncf .bf16 (rows512 (rope (extractStridedSlice S8x4096x512 ![0, 0, 2320] U slices_S8x4096x3344_S8x4096x512_0_0_2320) a7 a8) (extractStridedSlice S8x256x512 ![0, 0, 2320] C slices_S8x256x3344_S8x256x512_0_0_2320)) bitsLt_bf16_f32

/-- The values, transposed. -/
def vAll (U : FVec Ideal S8x4096x3344 .f32) (C : FVec Ideal S8x256x3344 .f32) : FVec Ideal S512x34816 .bf16 :=
  truncf .bf16 (transpose S512x34816 [1, 0] (rows512 (extractStridedSlice S8x4096x512 ![0, 0, 2832] U slices_S8x4096x3344_S8x4096x512_0_0_2832) (extractStridedSlice S8x256x512 ![0, 0, 2832] C slices_S8x256x3344_S8x256x512_0_0_2832)) transposes_S34816x512_S512x34816_1_0) bitsLt_bf16_f32

/-- The gates, transposed. -/
def gAll (U : FVec Ideal S8x4096x3344 .f32) (C : FVec Ideal S8x256x3344 .f32) : FVec Ideal S16x34816 .f32 :=
  transpose S16x34816 [1, 0] (rows16 (extractStridedSlice S8x4096x16 ![0, 0, 1792] U slices_S8x4096x3344_S8x4096x16_0_0_1792) (extractStridedSlice S8x256x16 ![0, 0, 1792] C slices_S8x256x3344_S8x256x16_0_0_1792)) transposes_S34816x16_S16x34816_1_0

section
variable (a0 : FVec Ideal S8x4096x1024 .f32) (a1 : FVec Ideal S8x256x1024 .f32) (a2 : FVec Ideal S8x6144 .f32) (a3 : FVec Ideal S6144 .f32) (a4 : FVec Ideal S1024 .f32) (a5 : FVec Ideal S1024x3344 .f32) (a6 : FVec Ideal S3344 .f32) (a7 : FVec Ideal S4096x64 .f32) (a8 : FVec Ideal S4096x64 .f32)

theorem hl_apply (b : Fin 8) (n : Fin 4096) (k : Fin 1024) : hl a0 a2 a4 (ix3 b n k)
    = normed (fun k => a0 (ix3 b n k)) (fun k => a4 (ix1 k)) (fun k => a2 (ix2 b ⟨k.val, by omega⟩)) (fun k => a2 (ix2 b ⟨1024 + k.val, by omega⟩)) k := by
  pointwise [hl]
  rfl

theorem hc_apply (b : Fin 8) (n : Fin 256) (k : Fin 1024) : hc a1 a3 a4 (ix3 b n k)
    = normed (fun k => a1 (ix3 b n k)) (fun k => a4 (ix1 k)) (fun k => a3 (ix1 ⟨k.val, by omega⟩)) (fun k => a3 (ix1 ⟨1024 + k.val, by omega⟩)) k := by
  pointwise [hc]
  rfl

theorem ul_apply (h : FVec Ideal S8x4096x1024 .f32) (b : Fin 8) (n : Fin 4096) (d : Fin 3344) :
    ul a5 a6 h (ix3 b n d) = ∑ k, h (ix3 b n k) * a5 (ix2 k d) + a6 (ix1 d) := by
  pointwise [ul]

theorem uc_apply (h : FVec Ideal S8x256x1024 .f32) (b : Fin 8) (n : Fin 256) (d : Fin 3344) :
    uc a5 a6 h (ix3 b n d) = ∑ k, h (ix3 b n k) * a5 (ix2 k d) + a6 (ix1 d) := by
  pointwise [uc]

theorem rope_apply (A : FVec Ideal S8x4096x512 .f32) (b : Fin 8) (n : Fin 4096) (d : Fin 512) : rope A a7 a8 (ix3 b n d)
    = A (ix3 b n d) * a7 (ix2 n ⟨d.val % 64, by omega⟩) + turned (fun d => A (ix3 b n d)) d * a8 (ix2 n ⟨d.val % 64, by omega⟩) := by
  pointwise [rope]
  refine congrArg (fun z : EReal => A (ix3 b n d) * a7 (ix2 n ⟨d.val % 64, by omega⟩) + z * a8 (ix2 n ⟨d.val % 64, by omega⟩)) ?_
  unfold turned
  by_cases h : d.val % 32 < 16
  · rw [dif_pos (by omega), if_pos h]
    exact congrArg (fun i => -A (ix3 b n i)) (Fin.ext (by
      show d.val / 128 * 128 + d.val / 64 % 2 * 64 + d.val % 64 / 32 * 32 + 16 + d.val % 64 % 16 = d.val / 32 * 32 + 16 + d.val % 16; omega))
  · rw [dif_neg (by omega), if_neg h]
    exact congrArg (fun i => A (ix3 b n i)) (Fin.ext (by
      show d.val / 128 * 128 + d.val / 64 % 2 * 64 + d.val % 64 / 32 * 32 + d.val % 64 % 16 = d.val / 32 * 32 + d.val % 16; omega))
end

theorem rows768_apply (A : FVec Ideal S8x4096x768 .f32) (B : FVec Ideal S8x256x768 .f32) (R : Fin 34816) (d : Fin 768) :
    rows768 A B (ix2 R d) = if h : R.val < 32768 then A (ix3 ⟨R.val / 4096, by omega⟩ ⟨R.val % 4096, by omega⟩ d)
      else B (ix3 ⟨(R.val - 32768) / 256, by omega⟩ ⟨(R.val - 32768) % 256, by omega⟩ d) := by
  pointwise [rows768]

theorem rows1024_apply (A : FVec Ideal S8x4096x1024 .f32) (B : FVec Ideal S8x256x1024 .f32) (R : Fin 34816) (d : Fin 1024) :
    rows1024 A B (ix2 R d) = if h : R.val < 32768 then A (ix3 ⟨R.val / 4096, by omega⟩ ⟨R.val % 4096, by omega⟩ d)
      else B (ix3 ⟨(R.val - 32768) / 256, by omega⟩ ⟨(R.val - 32768) % 256, by omega⟩ d) := by
  pointwise [rows1024]

theorem rows512_apply (A : FVec Ideal S8x4096x512 .f32) (B : FVec Ideal S8x256x512 .f32) (R : Fin 34816) (d : Fin 512) :
    rows512 A B (ix2 R d) = if h : R.val < 32768 then A (ix3 ⟨R.val / 4096, by omega⟩ ⟨R.val % 4096, by omega⟩ d)
      else B (ix3 ⟨(R.val - 32768) / 256, by omega⟩ ⟨(R.val - 32768) % 256, by omega⟩ d) := by
  pointwise [rows512]

theorem rows16_apply (A : FVec Ideal S8x4096x16 .f32) (B : FVec Ideal S8x256x16 .f32) (R : Fin 34816) (d : Fin 16) :
    rows16 A B (ix2 R d) = if h : R.val < 32768 then A (ix3 ⟨R.val / 4096, by omega⟩ ⟨R.val % 4096, by omega⟩ d)
      else B (ix3 ⟨(R.val - 32768) / 256, by omega⟩ ⟨(R.val - 32768) % 256, by omega⟩ d) := by
  pointwise [rows16]

theorem sl768_0 (U : FVec Ideal S8x4096x3344 .f32) (b : Fin 8) (n : Fin 4096) (d : Fin 768) :
    extractStridedSlice S8x4096x768 ![0, 0, 0] U slices_S8x4096x3344_S8x4096x768_0_0_0 (ix3 b n d) = U (ix3 b n ⟨d.val, by omega⟩) := by
  pointwise

theorem sc768_0 (C : FVec Ideal S8x256x3344 .f32) (b : Fin 8) (n : Fin 256) (d : Fin 768) :
    extractStridedSlice S8x256x768 ![0, 0, 0] C slices_S8x256x3344_S8x256x768_0_0_0 (ix3 b n d) = C (ix3 b n ⟨d.val, by omega⟩) := by
  pointwise

theorem sl1024_768 (U : FVec Ideal S8x4096x3344 .f32) (b : Fin 8) (n : Fin 4096) (d : Fin 1024) :
    extractStridedSlice S8x4096x1024 ![0, 0, 768] U slices_S8x4096x3344_S8x4096x1024_0_0_768 (ix3 b n d) = U (ix3 b n ⟨768 + d.val, by omega⟩) := by
  pointwise

theorem sc1024_768 (C : FVec Ideal S8x256x3344 .f32) (b : Fin 8) (n : Fin 256) (d : Fin 1024) :
    extractStridedSlice S8x256x1024 ![0, 0, 768] C slices_S8x256x3344_S8x256x1024_0_0_768 (ix3 b n d) = C (ix3 b n ⟨768 + d.val, by omega⟩) := by
  pointwise

theorem sl512_1808 (U : FVec Ideal S8x4096x3344 .f32) (b : Fin 8) (n : Fin 4096) (d : Fin 512) :
    extractStridedSlice S8x4096x512 ![0, 0, 1808] U slices_S8x4096x3344_S8x4096x512_0_0_1808 (ix3 b n d) = U (ix3 b n ⟨1808 + d.val, by omega⟩) := by
  pointwise

theorem sc512_1808 (C : FVec Ideal S8x256x3344 .f32) (b : Fin 8) (n : Fin 256) (d : Fin 512) :
    extractStridedSlice S8x256x512 ![0, 0, 1808] C slices_S8x256x3344_S8x256x512_0_0_1808 (ix3 b n d) = C (ix3 b n ⟨1808 + d.val, by omega⟩) := by
  pointwise

theorem sl512_2320 (U : FVec Ideal S8x4096x3344 .f32) (b : Fin 8) (n : Fin 4096) (d : Fin 512) :
    extractStridedSlice S8x4096x512 ![0, 0, 2320] U slices_S8x4096x3344_S8x4096x512_0_0_2320 (ix3 b n d) = U (ix3 b n ⟨2320 + d.val, by omega⟩) := by
  pointwise

theorem sc512_2320 (C : FVec Ideal S8x256x3344 .f32) (b : Fin 8) (n : Fin 256) (d : Fin 512) :
    extractStridedSlice S8x256x512 ![0, 0, 2320] C slices_S8x256x3344_S8x256x512_0_0_2320 (ix3 b n d) = C (ix3 b n ⟨2320 + d.val, by omega⟩) := by
  pointwise

theorem sl512_2832 (U : FVec Ideal S8x4096x3344 .f32) (b : Fin 8) (n : Fin 4096) (d : Fin 512) :
    extractStridedSlice S8x4096x512 ![0, 0, 2832] U slices_S8x4096x3344_S8x4096x512_0_0_2832 (ix3 b n d) = U (ix3 b n ⟨2832 + d.val, by omega⟩) := by
  pointwise

theorem sc512_2832 (C : FVec Ideal S8x256x3344 .f32) (b : Fin 8) (n : Fin 256) (d : Fin 512) :
    extractStridedSlice S8x256x512 ![0, 0, 2832] C slices_S8x256x3344_S8x256x512_0_0_2832 (ix3 b n d) = C (ix3 b n ⟨2832 + d.val, by omega⟩) := by
  pointwise

theorem sl16_1792 (U : FVec Ideal S8x4096x3344 .f32) (b : Fin 8) (n : Fin 4096) (d : Fin 16) :
    extractStridedSlice S8x4096x16 ![0, 0, 1792] U slices_S8x4096x3344_S8x4096x16_0_0_1792 (ix3 b n d) = U (ix3 b n ⟨1792 + d.val, by omega⟩) := by
  pointwise

theorem sc16_1792 (C : FVec Ideal S8x256x3344 .f32) (b : Fin 8) (n : Fin 256) (d : Fin 16) :
    extractStridedSlice S8x256x16 ![0, 0, 1792] C slices_S8x256x3344_S8x256x16_0_0_1792 (ix3 b n d) = C (ix3 b n ⟨1792 + d.val, by omega⟩) := by
  pointwise

theorem tr512 (X : FVec Ideal S34816x512 .f32) (d : Fin 512) (R : Fin 34816) :
    transpose S512x34816 [1, 0] X transposes_S34816x512_S512x34816_1_0 (ix2 d R) = X (ix2 R d) := by
  pointwise

theorem tr16 (X : FVec Ideal S34816x16 .f32) (d : Fin 16) (R : Fin 34816) :
    transpose S16x34816 [1, 0] X transposes_S34816x16_S16x34816_1_0 (ix2 d R) = X (ix2 R d) := by
  pointwise

variable (m : (ℓ : Loc nD τ sig) → Buf (Elt Ideal) ℓ) (c : Dev nD)

/-- The arguments. -/
def ins : Ins where
  x b n k := m ((c : Thread nD τ).loc main_arg0) (ix3 b n k)
  xc b n k := m ((c : Thread nD τ).loc main_arg1) (ix3 b n k)
  mod b j := m ((c : Thread nD τ).loc main_arg2) (ix2 b j)
  modc j := m ((c : Thread nD τ).loc main_arg3) (ix1 j)
  nw k := m ((c : Thread nD τ).loc main_arg4) (ix1 k)
  w k d := m ((c : Thread nD τ).loc main_arg5) (ix2 k d)
  b d := m ((c : Thread nD τ).loc main_arg6) (ix1 d)
  cos n d := m ((c : Thread nD τ).loc main_arg7) (ix2 n d)
  sin n d := m ((c : Thread nD τ).loc main_arg8) (ix2 n d)

/-- The projected latent rows and context rows of the arguments. -/
def UL : FVec Ideal S8x4096x3344 .f32 :=
  ul (m ((c : Thread nD τ).loc main_arg5)) (m ((c : Thread nD τ).loc main_arg6))
    (hl (m ((c : Thread nD τ).loc main_arg0)) (m ((c : Thread nD τ).loc main_arg2)) (m ((c : Thread nD τ).loc main_arg4)))
def UC : FVec Ideal S8x256x3344 .f32 :=
  uc (m ((c : Thread nD τ).loc main_arg5)) (m ((c : Thread nD τ).loc main_arg6))
    (hc (m ((c : Thread nD τ).loc main_arg1)) (m ((c : Thread nD τ).loc main_arg3)) (m ((c : Thread nD τ).loc main_arg4)))

theorem UL_apply (R : Fin 34816) (h : R.val < 32768) (d : Fin 3344) :
    UL m c (ix3 ⟨R.val / 4096, by omega⟩ ⟨R.val % 4096, by omega⟩ d) = (ins m c).u R d := by
  unfold UL
  rw [ul_apply]
  simp only [hl_apply]
  unfold Ins.u Ins.h Ins.row Ins.md
  simp only [dif_pos h]
  rfl

theorem UC_apply (R : Fin 34816) (h : ¬ R.val < 32768) (d : Fin 3344) :
    UC m c (ix3 ⟨(R.val - 32768) / 256, by omega⟩ ⟨(R.val - 32768) % 256, by omega⟩ d) = (ins m c).u R d := by
  unfold UC
  rw [uc_apply]
  simp only [hc_apply]
  unfold Ins.u Ins.h Ins.row Ins.md
  simp only [dif_neg h]
  rfl

/-! The results, entry by entry. -/

theorem hy_apply (R : Fin 34816) (d : Fin 768) : hyAll (UL m c) (UC m c) (ix2 R d) = (ins m c).hy R d := by
  unfold hyAll
  refine (rows768_apply _ _ R d).trans ?_
  by_cases h : R.val < 32768
  · rw [dif_pos h, sl768_0, UL_apply m c R h]
    rfl
  · rw [dif_neg h, sc768_0, UC_apply m c R h]
    rfl

theorem ml_apply (R : Fin 34816) (d : Fin 1024) : mlAll (UL m c) (UC m c) (ix2 R d) = (ins m c).ml R d := by
  unfold mlAll
  refine (rows1024_apply _ _ R d).trans ?_
  by_cases h : R.val < 32768
  · rw [dif_pos h, sl1024_768, UL_apply m c R h]
    rfl
  · rw [dif_neg h, sc1024_768, UC_apply m c R h]
    rfl

theorem q_apply (R : Fin 34816) (d : Fin 512) :
    qAll (UL m c) (UC m c) (m ((c : Thread nD τ).loc main_arg7)) (m ((c : Thread nD τ).loc main_arg8)) (ix2 R d) = (ins m c).q R d := by
  unfold qAll
  refine (rows512_apply _ _ R d).trans ?_
  unfold Ins.q Ins.roped
  by_cases h : R.val < 32768
  · rw [dif_pos h, dif_pos h, rope_apply]
    simp only [sl512_1808, UL_apply m c R h]
    rfl
  · rw [dif_neg h, dif_neg h, sc512_1808, UC_apply m c R h]

theorem k_apply (R : Fin 34816) (d : Fin 512) :
    kAll (UL m c) (UC m c) (m ((c : Thread nD τ).loc main_arg7)) (m ((c : Thread nD τ).loc main_arg8)) (ix2 R d) = (ins m c).k R d := by
  unfold kAll
  refine (rows512_apply _ _ R d).trans ?_
  unfold Ins.k Ins.roped
  by_cases h : R.val < 32768
  · rw [dif_pos h, dif_pos h, rope_apply]
    simp only [sl512_2320, UL_apply m c R h]
    rfl
  · rw [dif_neg h, dif_neg h, sc512_2320, UC_apply m c R h]

theorem v_apply (R : Fin 34816) (d : Fin 512) : vAll (UL m c) (UC m c) (ix2 d R) = (ins m c).v R d := by
  unfold vAll
  show transpose S512x34816 [1, 0] (rows512 _ _) transposes_S34816x512_S512x34816_1_0 (ix2 d R) = _
  refine (tr512 _ d R).trans ?_
  refine (rows512_apply _ _ R d).trans ?_
  by_cases h : R.val < 32768
  · rw [dif_pos h, sl512_2832, UL_apply m c R h]
    rfl
  · rw [dif_neg h, sc512_2832, UC_apply m c R h]
    rfl

theorem g_apply (R : Fin 34816) (d : Fin 16) : gAll (UL m c) (UC m c) (ix2 d R) = (ins m c).g R d := by
  unfold gAll
  show transpose S16x34816 [1, 0] (rows16 _ _) transposes_S34816x16_S16x34816_1_0 (ix2 d R) = _
  refine (tr16 _ d R).trans ?_
  refine (rows16_apply _ _ R d).trans ?_
  by_cases h : R.val < 32768
  · rw [dif_pos h, sl16_1792, UL_apply m c R h]
    rfl
  · rw [dif_neg h, sc16_1792, UC_apply m c R h]
    rfl

theorem q_eq : res_main_v108 m c
    = qAll (UL m c) (UC m c) (m ((c : Thread nD τ).loc main_arg7)) (m ((c : Thread nD τ).loc main_arg8)) := by
  unfold res_main_v108
  rfl

theorem k_eq : res_main_v113 m c
    = kAll (UL m c) (UC m c) (m ((c : Thread nD τ).loc main_arg7)) (m ((c : Thread nD τ).loc main_arg8)) := by
  unfold res_main_v113
  rfl

/-- The run, its results by stage. -/
theorem run (ρ : Dev nD → PrngReg) :
    θ_run defs (onTc (τ := τ) (main (F := Ideal))) ⟨m, fun _ => 0, ρ⟩ fun r => ∀ c : Dev nD,
      r.2.mem ((c : Thread nD τ).loc main_v98) = hyAll (UL m c) (UC m c)
      ∧ r.2.mem ((c : Thread nD τ).loc main_v103) = mlAll (UL m c) (UC m c)
      ∧ r.2.mem ((c : Thread nD τ).loc main_v108) = qAll (UL m c) (UC m c) (m ((c : Thread nD τ).loc main_arg7)) (m ((c : Thread nD τ).loc main_arg8))
      ∧ r.2.mem ((c : Thread nD τ).loc main_v113) = kAll (UL m c) (UC m c) (m ((c : Thread nD τ).loc main_arg7)) (m ((c : Thread nD τ).loc main_arg8))
      ∧ r.2.mem ((c : Thread nD τ).loc main_v120) = vAll (UL m c) (UC m c)
      ∧ r.2.mem ((c : Thread nD τ).loc main_v126) = gAll (UL m c) (UC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans rfl, (h c).2.1.trans rfl, (h c).2.2.1.trans (q_eq m c), (h c).2.2.2.1.trans (k_eq m c),
    (h c).2.2.2.2.1.trans rfl, (h c).2.2.2.2.2.1.trans rfl, (h c).2.2.2.2.2.2⟩) (Value.run (F := Ideal) m ρ)

end Cert.RefInIdeal.Stages

end

end
-- ==== Proof.InEqual.lean ====
/- The claims of the input projection: the frames, and the equality of the kernel's six results and the reference's over
   the extended reals, the latents' modulation, the norm's weight and the projection to queries and keys finite. -/
module

public import proofs.«01_k».proof.Defs
public import proofs.«01_k».proof.Proof.Gen.ProjIn.Frame
public import proofs.«01_k».proof.Proof.Gen.Pre_finite_in
public import proofs.«01_k».proof.Proof.InFinal
public import proofs.«01_k».proof.Proof.InRef
public import proofs.«01_k».proof.Proof.Equal
public import Idealize.ShloMosaic.Lib.Quiescent

@[expose] public section

set_option maxRecDepth 16384

noncomputable section

namespace Cert.Proof.In

open Idealize.ShloMosaic Idealize.ShloMosaic.TcCoe Idealize.SL.Sem Cert.Proof.Attn Cert.Proj

theorem frame_p : Cert.quiescent_ProjIn := fun m ρ _ => Cert.ProjIn.Gen.frame m ρ

theorem frame_pi : Cert.quiescent_ProjInIdeal := fun m ρ _ => Cert.ProjInIdeal.Gen.frame m ρ

theorem frame_pi' : Cert.quiescent_ProjInIdeal_pre_finite_in := fun m ρ _ => Cert.ProjInIdeal.Gen.frame m ρ

theorem frame_ri : Cert.quiescent_RefInIdeal := fun m ρ _ =>
  (θ_run Cert.RefInIdeal.defs _ _).mono (fun r h => ⟨fun c => (h c).2.2.2.2.2.2, sem_eq_zero_of_no_sems (by decide) r.2⟩)
    (Cert.RefInIdeal.Value.run (F := Ideal) m ρ)

theorem frame_ri' : Cert.quiescent_RefInIdeal_pre_finite_in := fun m ρ _ => frame_ri m ρ trivial

theorem preserves : Cert.preserves_ProjIn_ProjInIdeal := trivial

variable (m : (ℓ : Loc Cert.ProjInIdeal.nD Cert.ProjInIdeal.τ Cert.ProjInIdeal.sig) → Buf (Elt Ideal) ℓ)
  (m' : (ℓ : Loc Cert.RefInIdeal.nD Cert.RefInIdeal.τ Cert.RefInIdeal.sig) → Buf (Elt Ideal) ℓ)

theorem slice_mod (a : FVec Ideal ⟨2, ![8, 6144]⟩ .f32) (h) (b : Fin 8) (j : Fin 2048) :
    extractStridedSlice ⟨2, ![8, 2048]⟩ ![0, 0] a h (ix2 b j) = a (ix2 b ⟨j.val, by omega⟩) := by
  pointwise []

theorem slice_w (a : FVec Ideal ⟨2, ![1024, 3344]⟩ .f32) (h) (k : Fin 1024) (j : Fin 1024) :
    extractStridedSlice ⟨2, ![1024, 1024]⟩ ![0, 1808] a h (ix2 k j) = a (ix2 k ⟨1808 + j.val, by omega⟩) := by
  pointwise []

theorem slice_b (a : FVec Ideal ⟨1, ![3344]⟩ .f32) (h) (j : Fin 1024) :
    extractStridedSlice ⟨1, ![1024]⟩ ![1808] a h (ix1 j) = a (ix1 ⟨1808 + j.val, by omega⟩) := by
  pointwise []

/-- The precondition, entry by entry. -/
theorem reals (hpre : Cert.Pre_ProjInIdeal_finite_in m) (c : Dev Cert.ProjInIdeal.nD) : (Cert.ProjInIdeal.Windows.ins m c).Real := by
  obtain ⟨h2, h4, h5, h6⟩ := hpre c
  obtain ⟨r2, e2⟩ := reals_of_finite _ _ h2
  obtain ⟨r4, e4⟩ := reals_of_finite _ _ h4
  obtain ⟨r5, e5⟩ := reals_of_finite _ _ h5
  obtain ⟨r6, e6⟩ := reals_of_finite _ _ h6
  exact { mod := fun b j => ⟨_, (slice_mod _ _ b j).symm.trans (e2 _)⟩, nw := fun k => ⟨_, e4 (ix1 k)⟩, w := fun k j => ⟨_, (slice_w _ _ k j).symm.trans (e5 _)⟩, b := fun j => ⟨_, (slice_b _ _ j).symm.trans (e6 _)⟩ }

variable (c : Dev Cert.ProjInIdeal.nD)

theorem key_hy (e : Cert.RefInIdeal.Stages.ins m' c = Cert.ProjInIdeal.Windows.ins m c) :
    Cert.RefInIdeal.Stages.hyAll (Cert.RefInIdeal.Stages.UL m' c) (Cert.RefInIdeal.Stages.UC m' c) = (Cert.ProjInIdeal.Gen.dats m 0 c).arrAt 15 Cert.ProjInIdeal.cfg0.N := by
  refine Eq.trans (funext fun y => ?_) (Cert.ProjInIdeal.Final.arr15 m c).symm
  have hy : y = ix2 (y 0 : Fin 34816) (y 1 : Fin 768) := by
    funext a
    match a with
    | 0 => rfl
    | 1 => rfl
  refine (congrArg _ hy).trans ((Cert.RefInIdeal.Stages.hy_apply m' c (y 0 : Fin 34816) (y 1 : Fin 768)).trans ?_)
  rw [e]
  rfl

theorem key_ml (e : Cert.RefInIdeal.Stages.ins m' c = Cert.ProjInIdeal.Windows.ins m c) :
    Cert.RefInIdeal.Stages.mlAll (Cert.RefInIdeal.Stages.UL m' c) (Cert.RefInIdeal.Stages.UC m' c) = (Cert.ProjInIdeal.Gen.dats m 0 c).arrAt 16 Cert.ProjInIdeal.cfg0.N := by
  refine Eq.trans (funext fun y => ?_) (Cert.ProjInIdeal.Final.arr16 m c).symm
  have hy : y = ix2 (y 0 : Fin 34816) (y 1 : Fin 1024) := by
    funext a
    match a with
    | 0 => rfl
    | 1 => rfl
  refine (congrArg _ hy).trans ((Cert.RefInIdeal.Stages.ml_apply m' c (y 0 : Fin 34816) (y 1 : Fin 1024)).trans ?_)
  rw [e]
  rfl

theorem key_q (e : Cert.RefInIdeal.Stages.ins m' c = Cert.ProjInIdeal.Windows.ins m c) (hI : (Cert.ProjInIdeal.Windows.ins m c).Real) :
    Cert.RefInIdeal.Stages.qAll (Cert.RefInIdeal.Stages.UL m' c) (Cert.RefInIdeal.Stages.UC m' c) (m' ((c : Thread Cert.RefInIdeal.nD Cert.RefInIdeal.τ).loc Cert.RefInIdeal.main_arg7)) (m' ((c : Thread Cert.RefInIdeal.nD Cert.RefInIdeal.τ).loc Cert.RefInIdeal.main_arg8)) = (Cert.ProjInIdeal.Gen.dats m 0 c).arrAt 17 Cert.ProjInIdeal.cfg0.N := by
  refine Eq.trans (funext fun y => ?_) (Cert.ProjInIdeal.Final.arr17 m c hI).symm
  have hy : y = ix2 (y 0 : Fin 34816) (y 1 : Fin 512) := by
    funext a
    match a with
    | 0 => rfl
    | 1 => rfl
  refine (congrArg _ hy).trans ((Cert.RefInIdeal.Stages.q_apply m' c (y 0 : Fin 34816) (y 1 : Fin 512)).trans ?_)
  rw [e]
  rfl

theorem key_k (e : Cert.RefInIdeal.Stages.ins m' c = Cert.ProjInIdeal.Windows.ins m c) (hI : (Cert.ProjInIdeal.Windows.ins m c).Real) :
    Cert.RefInIdeal.Stages.kAll (Cert.RefInIdeal.Stages.UL m' c) (Cert.RefInIdeal.Stages.UC m' c) (m' ((c : Thread Cert.RefInIdeal.nD Cert.RefInIdeal.τ).loc Cert.RefInIdeal.main_arg7)) (m' ((c : Thread Cert.RefInIdeal.nD Cert.RefInIdeal.τ).loc Cert.RefInIdeal.main_arg8)) = (Cert.ProjInIdeal.Gen.dats m 0 c).arrAt 18 Cert.ProjInIdeal.cfg0.N := by
  refine Eq.trans (funext fun y => ?_) (Cert.ProjInIdeal.Final.arr18 m c hI).symm
  have hy : y = ix2 (y 0 : Fin 34816) (y 1 : Fin 512) := by
    funext a
    match a with
    | 0 => rfl
    | 1 => rfl
  refine (congrArg _ hy).trans ((Cert.RefInIdeal.Stages.k_apply m' c (y 0 : Fin 34816) (y 1 : Fin 512)).trans ?_)
  rw [e]
  rfl

theorem key_v (e : Cert.RefInIdeal.Stages.ins m' c = Cert.ProjInIdeal.Windows.ins m c) :
    Cert.RefInIdeal.Stages.vAll (Cert.RefInIdeal.Stages.UL m' c) (Cert.RefInIdeal.Stages.UC m' c) = (Cert.ProjInIdeal.Gen.dats m 0 c).arrAt 19 Cert.ProjInIdeal.cfg0.N := by
  refine Eq.trans (funext fun y => ?_) (Cert.ProjInIdeal.Final.arr19 m c).symm
  have hy : y = ix2 (y 0 : Fin 512) (y 1 : Fin 34816) := by
    funext a
    match a with
    | 0 => rfl
    | 1 => rfl
  refine (congrArg _ hy).trans ((Cert.RefInIdeal.Stages.v_apply m' c (y 1 : Fin 34816) (y 0 : Fin 512)).trans ?_)
  rw [e]
  rfl

theorem key_g (e : Cert.RefInIdeal.Stages.ins m' c = Cert.ProjInIdeal.Windows.ins m c) :
    Cert.RefInIdeal.Stages.gAll (Cert.RefInIdeal.Stages.UL m' c) (Cert.RefInIdeal.Stages.UC m' c) = (Cert.ProjInIdeal.Gen.dats m 0 c).arrAt 20 Cert.ProjInIdeal.cfg0.N := by
  refine Eq.trans (funext fun y => ?_) (Cert.ProjInIdeal.Final.arr20 m c).symm
  have hy : y = ix2 (y 0 : Fin 16) (y 1 : Fin 34816) := by
    funext a
    match a with
    | 0 => rfl
    | 1 => rfl
  refine (congrArg _ hy).trans ((Cert.RefInIdeal.Stages.g_apply m' c (y 1 : Fin 34816) (y 0 : Fin 16)).trans ?_)
  rw [e]
  rfl

theorem algebraic : Cert.algebraic_ProjInIdeal_RefInIdeal_pre_finite_in := by
  intro m ρ m' ρ' hpre hag
  have e : ∀ c : Dev Cert.ProjInIdeal.nD, Cert.RefInIdeal.Stages.ins m' c = Cert.ProjInIdeal.Windows.ins m c := fun c => by
    obtain ⟨g0, g1, g2, g3, g4, g5, g6, g7, g8⟩ := hag c
    unfold Cert.RefInIdeal.Stages.ins Cert.ProjInIdeal.Windows.ins
    rw [g0, g1, g2, g3, g4, g5, g6, g7, g8]
  exact ⟨_, _, _, _, _, _, Cert.ProjInIdeal.Value.run_blocks (F := Ideal) m ρ,
    (θ_run Cert.RefInIdeal.defs _ _).mono (fun _ h c => ⟨(h c).1.trans (key_hy m m' c (e c)), (h c).2.1.trans (key_ml m m' c (e c)),
      (h c).2.2.1.trans (key_q m m' c (e c) (reals m hpre c)), (h c).2.2.2.1.trans (key_k m m' c (e c) (reals m hpre c)),
      (h c).2.2.2.2.1.trans (key_v m m' c (e c)), (h c).2.2.2.2.2.1.trans (key_g m m' c (e c)), (h c).2.2.2.2.2.2⟩)
      (Cert.RefInIdeal.Stages.run m' ρ')⟩

end Cert.Proof.In

end

end
-- ==== Proof.OutSpec.lean ====
/- The output projection over the extended reals, row by row. -/
module

public import proofs.«01_k».proof.Proof.InSpec

@[expose] public section

set_option maxRecDepth 16384

noncomputable section

namespace Cert.Proj

open Idealize.ShloMosaic

/-- The mLSTM's states normed within each head of 64 lanes, weighted and gated. -/
def finish (hs o w : Fin 256 → EReal) (c : Fin 256) : EReal :=
  Ideal.logistic (o c) * (hs c * Ideal.rsqrt (Ideal.div (∑ j : Fin 64, hs ⟨c.val / 64 * 64 + j.val, by omega⟩ * hs ⟨c.val / 64 * 64 + j.val, by omega⟩)
    (Ideal.ofBits FTy.f32 1115684864#32) + Ideal.ofBits FTy.f32 897988541#32) * w c)

/-- A row of the three branches through the projection. -/
def mix (hy hs o w : Fin 256 → EReal) (da : Fin 512 → EReal) (W : Fin 1024 → Fin 1024 → EReal) (d : Fin 1024) : EReal :=
  (∑ k : Fin 256, hy k * W ⟨k.val, by omega⟩ d + ∑ k : Fin 256, finish hs o w k * W ⟨256 + k.val, by omega⟩ d)
    + ∑ k : Fin 512, da k * W ⟨512 + k.val, by omega⟩ d

/-- The arguments, entry by entry. -/
structure Outs where
  x : Fin 8 → Fin 4096 → Fin 1024 → EReal
  xc : Fin 8 → Fin 256 → Fin 1024 → EReal
  mod : Fin 8 → Fin 6144 → EReal
  modc : Fin 6144 → EReal
  hy : Fin 8 → Fin 4096 → Fin 256 → EReal
  hyc : Fin 8 → Fin 256 → Fin 256 → EReal
  hf : Fin 8 → Fin 4096 → Fin 256 → EReal
  hfc : Fin 8 → Fin 256 → Fin 256 → EReal
  hb : Fin 8 → Fin 4096 → Fin 256 → EReal
  hbc : Fin 8 → Fin 256 → Fin 256 → EReal
  o : Fin 8 → Fin 4096 → Fin 256 → EReal
  oc : Fin 8 → Fin 256 → Fin 256 → EReal
  da : Fin 8 → Fin 4096 → Fin 512 → EReal
  dac : Fin 8 → Fin 256 → Fin 512 → EReal
  nw : Fin 256 → EReal
  w : Fin 1024 → Fin 1024 → EReal

/-- Row `R` of the latents, then the context. -/
def pick {n : ℕ} (a : Fin 8 → Fin 4096 → Fin n → EReal) (b : Fin 8 → Fin 256 → Fin n → EReal) (R : Fin 34816) (k : Fin n) : EReal :=
  if h : R.val < 32768 then a ⟨R.val / 4096, by omega⟩ ⟨R.val % 4096, by omega⟩ k
  else b ⟨(R.val - 32768) / 256, by omega⟩ ⟨(R.val - 32768) % 256, by omega⟩ k

/-- The modulation of row `R`. -/
def Outs.md (O : Outs) (R : Fin 34816) (j : Fin 6144) : EReal :=
  if h : R.val < 32768 then O.mod ⟨R.val / 4096, by omega⟩ j else O.modc j

/-- The two directions' states of row `R`. -/
def Outs.hs (O : Outs) (R : Fin 34816) (k : Fin 256) : EReal := pick O.hf O.hfc R k + pick O.hb O.hbc R k

/-- The result. -/
def Outs.res (O : Outs) (R : Fin 34816) (d : Fin 1024) : EReal :=
  pick O.x O.xc R d + O.md R ⟨2048 + d.val, by omega⟩ * mix (pick O.hy O.hyc R) (O.hs R) (pick O.o O.oc R) O.nw (pick O.da O.dac R) O.w d

/-- The states are real. -/
structure Outs.Real (O : Outs) : Prop where
  hf : ∀ b n k, ∃ r : ℝ, O.hf b n k = r
  hfc : ∀ b n k, ∃ r : ℝ, O.hfc b n k = r
  hb : ∀ b n k, ∃ r : ℝ, O.hb b n k = r
  hbc : ∀ b n k, ∃ r : ℝ, O.hbc b n k = r

theorem pick_real {n : ℕ} {a : Fin 8 → Fin 4096 → Fin n → EReal} {b : Fin 8 → Fin 256 → Fin n → EReal}
    (ha : ∀ i j k, ∃ r : ℝ, a i j k = r) (hb : ∀ i j k, ∃ r : ℝ, b i j k = r) (R : Fin 34816) (k : Fin n) : ∃ r : ℝ, pick a b R k = r := by
  unfold pick
  split
  · exact ha _ _ _
  · exact hb _ _ _

theorem Outs.Real.hs {O : Outs} (h : O.Real) (R : Fin 34816) (k : Fin 256) : ∃ r : ℝ, O.hs R k = r :=
  real_add (pick_real h.hf h.hfc R k) (pick_real h.hb h.hbc R k)

/-- A sum over all lanes that keeps one head's is the sum over that head's. -/
theorem head_sum (f : Fin 256 → EReal) (c : Fin 256) :
    ∑ k, f k * (if k.val / 64 = c.val / 64 then 1 else 0) = ∑ j : Fin 64, f ⟨c.val / 64 * 64 + j.val, by omega⟩ := by
  refine (Finset.sum_of_injOn (fun j : Fin 64 => (⟨c.val / 64 * 64 + j.val, by omega⟩ : Fin 256)) ?_ (fun _ _ => Finset.mem_coe.mpr (Finset.mem_univ _)) ?_ ?_).symm
  · intro a _ b _ h
    have := congrArg Fin.val h
    exact Fin.ext (by simp only at this; omega)
  · intro k _ hk
    have : ¬ k.val / 64 = c.val / 64 := fun e => hk ⟨⟨k.val % 64, by omega⟩, Finset.mem_coe.mpr (Finset.mem_univ _), Fin.ext (by simp only; omega)⟩
    rw [if_neg this, mul_zero]
  · intro j _
    rw [if_pos (by simp only; omega), mul_one]

/-- The two halves of the product with the head's lanes make the head's sum of squares, the lanes real. -/
theorem head_square (hs : Fin 256 → EReal) (h : ∀ k, ∃ r : ℝ, hs k = r) (s : Fin 256 → EReal) (c : Fin 256)
    (e : ∀ k, s k = if k.val / 64 = c.val / 64 then 1 else 0) :
    (∑ k, hs k * hs k * s k + ∑ k, (hs k * hs k - hs k * hs k) * s k) * Ideal.ofBits FTy.f32 1015021568#32
      = Ideal.div (∑ j : Fin 64, hs ⟨c.val / 64 * 64 + j.val, by omega⟩ * hs ⟨c.val / 64 * 64 + j.val, by omega⟩) (Ideal.ofBits FTy.f32 1115684864#32) := by
  have z : ∀ k, hs k * hs k - hs k * hs k = 0 := fun k => by
    obtain ⟨r, hr⟩ := real_mul (h k) (h k)
    rw [hr, ← EReal.coe_sub, sub_self, EReal.coe_zero]
  have e1 : Ideal.ofBits FTy.f32 1015021568#32 = ((1 / 64 : ℝ) : EReal) := by
    simp [Ideal.ofBits, Ideal.ieee]
    rw [← EReal.coe_mul]
    norm_num
  have e2 : Ideal.ofBits FTy.f32 1115684864#32 = ((64 : ℝ) : EReal) := by
    simp [Ideal.ofBits, Ideal.ieee]
    try rw [← EReal.coe_mul]
    norm_num
  simp only [z, e, zero_mul, Finset.sum_const_zero, add_zero]
  rw [head_sum (fun k => hs k * hs k) c, e1, e2, Ideal.div_coe (by norm_num)]

end Cert.Proj

end

end
-- ==== Proof.OutWindows.lean ====
/- What the output projection's blocks hold, in terms of the arguments. -/
module

public import proofs.«01_k».proof.Proof.Gen.ProjOutIdeal.Value
public import proofs.«01_k».proof.Proof.OutSpec
public import Idealize.ShloMosaic.Lib.Pointwise
public import Idealize.ShloMosaic.Lib.Pipeline.ValueKit

@[expose] public section

set_option maxRecDepth 16384

noncomputable section

namespace Cert.ProjOutIdeal.Windows

open Cert.ProjOutIdeal Cert.ProjOutIdeal.Gen Cert.Proj
open Idealize.ShloMosaic Idealize.ShloMosaic.TcCoe Idealize.SL.Sem
open Idealize.ShloMosaic.Pipeline (Dat)

/-- The latent rows, then the context rows, of 1024 columns. -/
def cat (A : FVec Ideal S8x4096x1024 .f32) (B : FVec Ideal S8x256x1024 .f32) : FVec Ideal S34816x1024 .f32 :=
  concatenate S34816x1024 0 [⟨S32768x1024, shapeCast S32768x1024 A shapeCasts_S8x4096x1024_S32768x1024⟩,
    ⟨S2048x1024, shapeCast S2048x1024 B shapeCasts_S8x256x1024_S2048x1024⟩] concatenates_S32768x1024_S2048x1024_S34816x1024_d0

theorem cat_apply (A : FVec Ideal S8x4096x1024 .f32) (B : FVec Ideal S8x256x1024 .f32) (R : Fin 34816) (k : Fin 1024) :
    cat A B (ix2 R k) = pick (fun b n k => A (ix3 b n k)) (fun b n k => B (ix3 b n k)) R k := by
  unfold pick
  pointwise [cat]

/-- The latent rows, then the context rows, of 256 columns. -/
def cat256 (A : FVec Ideal S8x4096x256 .f32) (B : FVec Ideal S8x256x256 .f32) : FVec Ideal S34816x256 .f32 :=
  concatenate S34816x256 0 [⟨S32768x256, shapeCast S32768x256 A shapeCasts_S8x4096x256_S32768x256⟩,
    ⟨S2048x256, shapeCast S2048x256 B shapeCasts_S8x256x256_S2048x256⟩] concatenates_S32768x256_S2048x256_S34816x256_d0

theorem cat256_apply (A : FVec Ideal S8x4096x256 .f32) (B : FVec Ideal S8x256x256 .f32) (R : Fin 34816) (k : Fin 256) :
    cat256 A B (ix2 R k) = pick (fun b n k => A (ix3 b n k)) (fun b n k => B (ix3 b n k)) R k := by
  unfold pick
  pointwise [cat256]

/-- The latent rows, then the context rows, of 512 columns. -/
def cat512 (A : FVec Ideal S8x4096x512 .f32) (B : FVec Ideal S8x256x512 .f32) : FVec Ideal S34816x512 .f32 :=
  concatenate S34816x512 0 [⟨S32768x512, shapeCast S32768x512 A shapeCasts_S8x4096x512_S32768x512⟩,
    ⟨S2048x512, shapeCast S2048x512 B shapeCasts_S8x256x512_S2048x512⟩] concatenates_S32768x512_S2048x512_S34816x512_d0

theorem cat512_apply (A : FVec Ideal S8x4096x512 .f32) (B : FVec Ideal S8x256x512 .f32) (R : Fin 34816) (k : Fin 512) :
    cat512 A B (ix2 R k) = pick (fun b n k => A (ix3 b n k)) (fun b n k => B (ix3 b n k)) R k := by
  unfold pick
  pointwise [cat512]

/-- The modulations of the prompts, then the context's, by part. -/
def mods (A : FVec Ideal S8x6144 .f32) (B : FVec Ideal S6144 .f32) : FVec Ideal S16x6x1024 .f32 :=
  shapeCast S16x6x1024 (concatenate S16x6144 0 [⟨S8x6144, A⟩, ⟨S1x6144, broadcastInDim S1x6144 ![1] bcast_S6144_S1x6144_1 B⟩,
    ⟨S7x6144, broadcastInDim S7x6144 ![] bcast_S_S7x6144 (constant S_ .f32 0x00000000#32)⟩] concatenates_S8x6144_S1x6144_S7x6144_S16x6144_d0)
    shapeCasts_S16x6144_S16x6x1024

theorem mods_apply (A : FVec Ideal S8x6144 .f32) (B : FVec Ideal S6144 .f32) (b : Fin 16) (hb : b.val < 9) (j : Fin 6) (k : Fin 1024) :
    mods A B (ix3 b j k) = if h : b.val < 8 then A (ix2 ⟨b.val, h⟩ ⟨j.val * 1024 + k.val, by omega⟩) else B (ix1 ⟨j.val * 1024 + k.val, by omega⟩) := by
  pointwise [mods]
  split
  · rfl
  · rw [dif_pos (by omega)]

/-- The columns in two halves of 128. -/
def halves (A : FVec Ideal S34816x256 .f32) : FVec Ideal S2x34816x128 .f32 :=
  transpose S2x34816x128 [1, 0, 2] (shapeCast S34816x2x128 A shapeCasts_S34816x256_S34816x2x128) transposes_S34816x2x128_S2x34816x128_1_0_2

theorem halves_apply (A : FVec Ideal S34816x256 .f32) (j : Fin 2) (R : Fin 34816) (k : Fin 128) :
    halves A (ix3 j R k) = A (ix2 R ⟨j.val * 128 + k.val, by omega⟩) := by
  pointwise [halves]

/-- The columns behind 768 zeros. -/
def wide (A : FVec Ideal S34816x256 .f32) : FVec Ideal S34816x1024 .f32 :=
  concatenate S34816x1024 1 [⟨S34816x768, broadcastInDim S34816x768 ![] bcast_S_S34816x768 (constant S_ .f32 0x00000000#32)⟩, ⟨S34816x256, A⟩]
    concatenates_S34816x768_S34816x256_S34816x1024_d1

theorem wide_apply (A : FVec Ideal S34816x256 .f32) (R : Fin 34816) (k : Fin 256) : wide A (ix2 R ⟨768 + k.val, by omega⟩) = A (ix2 R k) := by
  pointwise [wide]

variable (m : (ℓ : Loc nD τ sig) → Buf (Elt Ideal) ℓ) (c : Dev nD)

/-- The arguments. -/
def outs : Outs where
  x b n k := m ((c : Thread nD τ).loc main_arg0) (ix3 b n k)
  xc b n k := m ((c : Thread nD τ).loc main_arg1) (ix3 b n k)
  mod b j := m ((c : Thread nD τ).loc main_arg2) (ix2 b j)
  modc j := m ((c : Thread nD τ).loc main_arg3) (ix1 j)
  hy b n k := m ((c : Thread nD τ).loc main_arg4) (ix3 b n k)
  hyc b n k := m ((c : Thread nD τ).loc main_arg5) (ix3 b n k)
  hf b n k := m ((c : Thread nD τ).loc main_arg6) (ix3 b n k)
  hfc b n k := m ((c : Thread nD τ).loc main_arg7) (ix3 b n k)
  hb b n k := m ((c : Thread nD τ).loc main_arg8) (ix3 b n k)
  hbc b n k := m ((c : Thread nD τ).loc main_arg9) (ix3 b n k)
  o b n k := m ((c : Thread nD τ).loc main_arg10) (ix3 b n k)
  oc b n k := m ((c : Thread nD τ).loc main_arg11) (ix3 b n k)
  da b n k := m ((c : Thread nD τ).loc main_arg12) (ix3 b n k)
  dac b n k := m ((c : Thread nD τ).loc main_arg13) (ix3 b n k)
  nw k := m ((c : Thread nD τ).loc main_arg14) (ix1 k)
  w k d := m ((c : Thread nD τ).loc main_arg15) (ix2 k d)

theorem V_x : V m c main_v2 = cat (m ((c : Thread nD τ).loc main_arg0)) (m ((c : Thread nD τ).loc main_arg1)) := by
  show StableHlo.after hostOps0 (fun b => m (c, b)) _ = _
  after_results
  rfl

theorem V_mods : V m c main_v6 = mods (m ((c : Thread nD τ).loc main_arg2)) (m ((c : Thread nD τ).loc main_arg3)) := by
  show StableHlo.after hostOps0 (fun b => m (c, b)) _ = _
  after_results
  rfl

theorem V_hy : V m c main_v11 = halves (cat256 (m ((c : Thread nD τ).loc main_arg4)) (m ((c : Thread nD τ).loc main_arg5))) := by
  show StableHlo.after hostOps0 (fun b => m (c, b)) _ = _
  after_results
  rfl

theorem V_hf : V m c main_v19 = cat256 (m ((c : Thread nD τ).loc main_arg6)) (m ((c : Thread nD τ).loc main_arg7)) := by
  show StableHlo.after hostOps0 (fun b => m (c, b)) _ = _
  after_results
  rfl

theorem V_hb : V m c main_v22 = cat256 (m ((c : Thread nD τ).loc main_arg8)) (m ((c : Thread nD τ).loc main_arg9)) := by
  show StableHlo.after hostOps0 (fun b => m (c, b)) _ = _
  after_results
  rfl

theorem V_o : V m c main_v16 = wide (cat256 (m ((c : Thread nD τ).loc main_arg10)) (m ((c : Thread nD τ).loc main_arg11))) := by
  show StableHlo.after hostOps0 (fun b => m (c, b)) _ = _
  after_results
  rfl

theorem V_da : V m c main_v25 = cat512 (m ((c : Thread nD τ).loc main_arg12)) (m ((c : Thread nD τ).loc main_arg13)) := by
  show StableHlo.after hostOps0 (fun b => m (c, b)) _ = _
  after_results
  rfl

theorem V_nw : V m c main_v30 = broadcastInDim S1x256 ![1] bcast_S256_S1x256_1 (m ((c : Thread nD τ).loc main_arg14)) := by
  show StableHlo.after hostOps0 (fun b => m (c, b)) _ = _
  after_results

theorem V_w0 : V m c main_v27 = extractStridedSlice S256x1024 ![0, 0] (truncf (F := Ideal) .bf16 (m ((c : Thread nD τ).loc main_arg15)) bitsLt_bf16_f32) slices_S1024x1024_S256x1024_0_0 := by
  show StableHlo.after hostOps0 (fun b => m (c, b)) _ = _
  after_results

theorem V_w1 : V m c main_v28 = extractStridedSlice S256x1024 ![256, 0] (truncf (F := Ideal) .bf16 (m ((c : Thread nD τ).loc main_arg15)) bitsLt_bf16_f32) slices_S1024x1024_S256x1024_256_0 := by
  show StableHlo.after hostOps0 (fun b => m (c, b)) _ = _
  after_results

theorem V_w2 : V m c main_v29 = extractStridedSlice S512x1024 ![512, 0] (truncf (F := Ideal) .bf16 (m ((c : Thread nD τ).loc main_arg15)) bitsLt_bf16_f32) slices_S1024x1024_S512x1024_512_0 := by
  show StableHlo.after hostOps0 (fun b => m (c, b)) _ = _
  after_results

variable (t : Fin cfg0.N)

theorem idx0 : ∀ t : Fin cfg0.N, win0_0.index t = ![t.val, 0] :=
  (by decide +kernel : ∀ t : Fin grid0.N, win0_0.index t = ![t.val, 0])
theorem idx1 : ∀ t : Fin cfg0.N, win0_1.index t = ![if t.val < 128 then t.val / 16 else 8, 0, 0] :=
  (by decide +kernel : ∀ t : Fin grid0.N, win0_1.index t = ![if t.val < 128 then t.val / 16 else 8, 0, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 3] :=
  (by decide +kernel : ∀ t : Fin grid0.N, win0_5.index t = ![t.val, 3])
theorem idx6 : ∀ t : Fin cfg0.N, win0_6.index t = ![t.val, 0] :=
  (by decide +kernel : ∀ t : Fin grid0.N, win0_6.index t = ![t.val, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![t.val, 0] :=
  (by decide +kernel : ∀ t : Fin grid0.N, win0_11.index t = ![t.val, 0])

theorem lt136 : t.val < 136 := t.isLt

/-- Row `r` of a block, in the whole array. -/
def R (r : Fin 256) : Fin 34816 := ⟨t.val * 256 + r.val, by have := lt136 t; omega⟩

/-! A block's rows; -/
theorem blk0 (r : Fin 256) (k : Fin 1024) : iblk m c 0 t (ix2 r k) = pick (outs m c).x (outs m c).xc (R t r) k := by
  refine Eq.trans ?_ ((congrFun (V_x m c) (ix2 (R t r) k)).trans (cat_apply _ _ (R t r) k))
  unfold iblk
  refine congrArg (V m c main_v2) ?_
  blk_ext [idx0, R]

/-- their modulation; -/
theorem blk1 (r : Fin 256) (j : Fin 6) (k : Fin 1024) : iblk m c 1 t (ix3 0 j k) = (outs m c).md (R t r) ⟨j.val * 1024 + k.val, by omega⟩ := by
  have ht := lt136 t
  have hb : (if t.val < 128 then t.val / 16 else 8) < 9 := by split <;> omega
  have e : V m c main_v6 (ix3 ⟨if t.val < 128 then t.val / 16 else 8, by omega⟩ j k) = (outs m c).md (R t r) ⟨j.val * 1024 + k.val, by omega⟩ := by
    rw [V_mods, mods_apply _ _ _ hb]
    unfold Outs.md
    have hR : (R t r).val = t.val * 256 + r.val := rfl
    by_cases h : t.val < 128
    · rw [dif_pos (by show (if t.val < 128 then t.val / 16 else 8) < 8; rw [if_pos h]; omega), dif_pos (by show (R t r).val < 32768; omega)]
      refine congrArg (fun i => m ((c : Thread nD τ).loc main_arg2) (ix2 i _)) (Fin.ext ?_)
      show (if t.val < 128 then t.val / 16 else 8) = (R t r).val / 4096
      rw [if_pos h]
      omega
    · rw [dif_neg (by show ¬ (if t.val < 128 then t.val / 16 else 8) < 8; rw [if_neg h]; omega), dif_neg (by show ¬ (R t r).val < 32768; omega)]
      rfl
  refine Eq.trans ?_ e
  unfold iblk
  refine congrArg (V m c main_v6) ?_
  blk_ext [idx1]

/-- the hyena's columns, in two halves; -/
theorem blk2 (j : Fin 2) (r : Fin 256) (k : Fin 128) :
    iblk m c 2 t (ix3 j r k) = pick (outs m c).hy (outs m c).hyc (R t r) ⟨j.val * 128 + k.val, by omega⟩ := by
  refine Eq.trans ?_ ((congrFun (V_hy m c) (ix3 j (R t r) k)).trans ((halves_apply _ j (R t r) k).trans (cat256_apply _ _ (R t r) _)))
  unfold iblk
  refine congrArg (V m c main_v11) ?_
  blk_ext [idx2, R]

/-! the states of the two directions; -/
theorem blk3 (r : Fin 256) (k : Fin 256) : iblk m c 3 t (ix2 r k) = pick (outs m c).hf (outs m c).hfc (R t r) k := by
  refine Eq.trans ?_ ((congrFun (V_hf m c) (ix2 (R t r) k)).trans (cat256_apply _ _ (R t r) k))
  unfold iblk
  refine congrArg (V m c main_v19) ?_
  blk_ext [idx3, R]

theorem blk4 (r : Fin 256) (k : Fin 256) : iblk m c 4 t (ix2 r k) = pick (outs m c).hb (outs m c).hbc (R t r) k := by
  refine Eq.trans ?_ ((congrFun (V_hb m c) (ix2 (R t r) k)).trans (cat256_apply _ _ (R t r) k))
  unfold iblk
  refine congrArg (V m c main_v22) ?_
  blk_ext [idx4, R]

/-- the gate; -/
theorem blk5 (r : Fin 256) (k : Fin 256) : iblk m c 5 t (ix2 r k) = pick (outs m c).o (outs m c).oc (R t r) k := by
  refine Eq.trans ?_ ((congrFun (V_o m c) (ix2 (R t r) ⟨768 + k.val, by omega⟩)).trans ((wide_apply _ (R t r) k).trans (cat256_apply _ _ (R t r) k)))
  unfold iblk
  refine congrArg (V m c main_v16) ?_
  blk_ext [idx5, R]

/-! the attention's columns; -/
theorem blk6 (r : Fin 256) (k : Fin 512) : iblk m c 6 t (ix2 r k) = pick (outs m c).da (outs m c).dac (R t r) k := by
  refine Eq.trans ?_ ((congrFun (V_da m c) (ix2 (R t r) k)).trans (cat512_apply _ _ (R t r) k))
  unfold iblk
  refine congrArg (V m c main_v25) ?_
  blk_ext [idx6, R]

/-! the norm's weight and the projection's, whole. -/

theorem blk7 (k : Fin 256) : iblk m c 7 t (ix2 0 k) = (outs m c).nw k := by
  have hw : V m c main_v30 (ix2 0 k) = (outs m c).nw k := by
    rw [V_nw]
    pointwise
    rfl
  refine Eq.trans ?_ hw
  unfold iblk
  refine congrArg (V m c main_v30) ?_
  blk_ext [idx7]

theorem blk8 (k : Fin 256) (d : Fin 1024) : iblk m c 8 t (ix2 k d) = (outs m c).w ⟨k.val, by omega⟩ d := by
  have hw : V m c main_v27 (ix2 k d) = (outs m c).w ⟨k.val, by omega⟩ d := by
    rw [V_w0]
    pointwise
    rfl
  refine Eq.trans ?_ hw
  unfold iblk
  refine congrArg (V m c main_v27) ?_
  blk_ext [idx8]

theorem blk9 (k : Fin 256) (d : Fin 1024) : iblk m c 9 t (ix2 k d) = (outs m c).w ⟨256 + k.val, by omega⟩ d := by
  have hw : V m c main_v28 (ix2 k d) = (outs m c).w ⟨256 + k.val, by omega⟩ d := by
    rw [V_w1]
    pointwise
    rfl
  refine Eq.trans ?_ hw
  unfold iblk
  refine congrArg (V m c main_v28) ?_
  blk_ext [idx9]

theorem blk10 (k : Fin 512) (d : Fin 1024) : iblk m c 10 t (ix2 k d) = (outs m c).w ⟨512 + k.val, by omega⟩ d := by
  have hw : V m c main_v29 (ix2 k d) = (outs m c).w ⟨512 + k.val, by omega⟩ d := by
    rw [V_w2]
    pointwise
    rfl
  refine Eq.trans ?_ hw
  unfold iblk
  refine congrArg (V m c main_v29) ?_
  blk_ext [idx10]

end Cert.ProjOutIdeal.Windows

end

end
-- ==== Proof.OutBody.lean ====
/- A block of the output projection: what one step stores, entry by entry. -/
module

public import proofs.«01_k».proof.Proof.Gen.ProjOutIdeal.Frame
public import proofs.«01_k».proof.Proof.OutSpec
public import Idealize.ShloMosaic.Lib.Tactic
public import Idealize.ShloMosaic.Lib.Pointwise
public import Idealize.ShloMosaic.Lib.Pipeline.ValueKit.Tiles
public import Idealize.ShloMosaic.Lib.Pipeline.ValueKit.Basic

@[expose] public section

set_option maxRecDepth 16384

noncomputable section

namespace Cert.ProjOutIdeal.Body

open Cert.ProjOutIdeal Cert.ProjOutIdeal.Gen Idealize.ShloMosaic Idealize.ShloMosaic.Tactic Idealize.SL.Sem Cert.Proj

/-- The head of a row of the matrix of heads; -/
theorem rowhead (a b : Fin 256) : k0_pay3 (ix2 a b) = BitVec.ofNat 32 (a.val / 64) := by
  pointwise [k0_pay3]
  clear b
  revert a
  decide +kernel

/-- the head of a column. -/
theorem colhead (a b : Fin 256) :
    Scalar.select (IntOp.andi (IntOp.cmpi .ne (k0_pay5 (ix2 a b)) (Scalar.subi (Scalar.extui (Scalar.cmpi .sgt 64#32 0#32)) (Scalar.extui (Scalar.cmpi .slt 64#32 0#32))))
        (IntOp.cmpi .ne (IntOp.remsi .vector (BitVec.ofNat 32 b.val) 64#32) 0#32))
      (IntOp.subi (k0_pay4 (ix2 a b)) 1#32) (k0_pay4 (ix2 a b)) = BitVec.ofNat 32 (b.val / 64) := by
  pointwise [k0_pay4, k0_pay5]
  clear a
  revert b
  decide +kernel

theorem same_head : ∀ a b : Fin 4, IntOp.cmpi .eq (BitVec.ofNat 32 a.val) (BitVec.ofNat 32 b.val) = if a.val = b.val then 1#1 else 0#1 := by
  decide +kernel

theorem y_apply (hs : FVec Ideal S256x256 .f32) (og : Vec Ideal S256x256 .f32) (w : Vec Ideal S1x256 .f32) (r c : Fin 256)
    (h : ∀ k, ∃ z : ℝ, hs (ix2 r k) = z) :
    k0_pay6 (F := Ideal) hs k0_pay3 (iota .tc S256x256 32 [1] iota_S256x256_d1_w32) 64#32 k0_pay4 k0_pay5 (Scalar.extui (Scalar.cmpi .sgt 64#32 0#32)) (Scalar.cmpi .slt 64#32 0#32) og w (ix2 r c)
      = finish (fun k => hs (ix2 r k)) (fun k => og (ix2 r k)) (fun k => w (ix2 0 k)) c := by
  have key := head_square (fun k => hs (ix2 r k)) h (fun k => Scalar.select (IntOp.cmpi .eq (k0_pay3 (ix2 k c))
    (Scalar.select (IntOp.andi (IntOp.cmpi .ne (k0_pay5 (ix2 k c)) (Scalar.subi (Scalar.extui (Scalar.cmpi .sgt 64#32 0#32)) (Scalar.extui (Scalar.cmpi .slt 64#32 0#32))))
        (IntOp.cmpi .ne (IntOp.remsi .vector (BitVec.ofNat 32 c.val) 64#32) 0#32))
      (IntOp.subi (k0_pay4 (ix2 k c)) 1#32) (k0_pay4 (ix2 k c)))) (1 : EReal) 0) c (fun k => by
        simp only [rowhead, colhead]
        rw [same_head ⟨k.val / 64, by omega⟩ ⟨c.val / 64, by omega⟩]
        split <;> rfl)
  unfold finish
  rw [← key]
  generalize k0_pay3 = P3
  generalize k0_pay4 = P4
  generalize k0_pay5 = P5
  pointwise [k0_pay6]

theorem out_apply (y : FVec Ideal S256x256 .f32) (hy0 : FVec Ideal S256x128 .f32) (hy1 : Vec Ideal S1x256x128 .f32) (w8 w9 : Vec Ideal S256x1024 .bf16)
    (da : Vec Ideal S256x512 .f32) (w10 : Vec Ideal S512x1024 .bf16) (x : Vec Ideal S256x1024 .f32) (g : Vec Ideal S1x1x1024 .f32) (r : Fin 256) (d : Fin 1024) :
    k0_pay1 (F := Ideal) y hy0 hy1 w8 w9 da w10 x g (ix2 r d)
      = x (ix2 r d) + g (ix3 0 0 d) * ((∑ k : Fin 256, (if h : k.val < 128 then hy0 (ix2 r ⟨k.val, h⟩) else hy1 (ix3 0 r ⟨k.val - 128, by omega⟩)) * w8 (ix2 k d)
        + ∑ k : Fin 256, y (ix2 r k) * w9 (ix2 k d)) + ∑ k : Fin 512, da (ix2 r k) * w10 (ix2 k d)) := by
  pointwise [k0_pay1]

theorem hs_apply (a b : Vec Ideal S256x256 .f32) (r c : Fin 256) : k0_pay2 (F := Ideal) a b (ix2 r c) = a (ix2 r c) + b (ix2 r c) := by
  pointwise [k0_pay2]

theorem half_apply (a : Vec Ideal S1x256x128 .f32) (r : Fin 256) (c : Fin 128) : k0_pay7 (F := Ideal) a (ix2 r c) = a (ix3 0 r c) := by
  pointwise [k0_pay7]

section
variable (x0 : Vec Ideal S256x1024 .f32) (x1 : Vec Ideal S1x6x1024 .f32) (x2 : Vec Ideal S2x256x128 .f32) (x3 : Vec Ideal S256x256 .f32) (x4 : Vec Ideal S256x256 .f32) (x5 : Vec Ideal S256x256 .f32) (x6 : Vec Ideal S256x512 .f32) (x7 : Vec Ideal S1x256 .f32) (x8 : Vec Ideal S256x1024 .bf16) (x9 : Vec Ideal S256x1024 .bf16) (x10 : Vec Ideal S512x1024 .bf16)

theorem ld_gate (k : Fin 1024) : View.ld x1 r0_7 (ix3 0 0 k) = x1 (ix3 0 2 k) :=
  View.ld_unit_apply_of (S := S1x6x1024) x1 _ _ _ (ix3 0 0 k) (ix3 0 2 k) (fun a => by
    match a with
    | 0 => rfl
    | 1 => rfl
    | 2 => exact (Nat.zero_add _).symm)

theorem ld_first (r : Fin 256) (k : Fin 128) : View.ld x2 r0_2 (ix3 0 r k) = x2 (ix3 0 r k) :=
  View.ld_unit_apply_of (S := S2x256x128) x2 _ _ _ (ix3 0 r k) (ix3 0 r k) (fun a => by
    match a with
    | 0 => rfl
    | 1 => exact (Nat.zero_add _).symm
    | 2 => exact (Nat.zero_add _).symm)

theorem ld_second (r : Fin 256) (k : Fin 128) : View.ld x2 r0_3 (ix3 0 r k) = x2 (ix3 1 r k) :=
  View.ld_unit_apply_of (S := S2x256x128) x2 _ _ _ (ix3 0 r k) (ix3 1 r k) (fun a => by
    match a with
    | 0 => rfl
    | 1 => exact (Nat.zero_add _).symm
    | 2 => exact (Nat.zero_add _).symm)

theorem ldr0 (x : Vec Ideal S256x256 .f32) : View.ld x r0_0 = x := View.ld_unit_lit _ x (by decide)
theorem ldr1 : View.ld x7 r0_1 = x7 := View.ld_unit_lit _ x7 (by decide)
theorem ldr4 : View.ld x0 r0_4 = x0 := View.ld_unit_lit _ x0 (by decide)
theorem ldr4' (x : Vec Ideal S256x1024 .bf16) : View.ld x r0_4 = x := View.ld_unit_lit _ x (by decide)
theorem ldr5 : View.ld x6 r0_5 = x6 := View.ld_unit_lit _ x6 (by decide)
theorem ldr6 : View.ld x10 r0_6 = x10 := View.ld_unit_lit _ x10 (by decide)

/-- A block of the result, the states of its rows real. -/
theorem out11_apply (r : Fin 256) (d : Fin 1024) (h : ∀ k, ∃ z : ℝ, x3 (ix2 r k) + x4 (ix2 r k) = (z : EReal)) :
    out0_11 (F := Ideal) x0 x1 x2 x3 x4 x5 x6 x7 x8 x9 x10 (ix2 r d)
      = x0 (ix2 r d) + x1 (ix3 0 2 d) * ((∑ k : Fin 256, (if h : k.val < 128 then x2 (ix3 0 r ⟨k.val, h⟩) else x2 (ix3 1 r ⟨k.val - 128, by omega⟩)) * x8 (ix2 k d)
        + ∑ k : Fin 256, finish (fun k => x3 (ix2 r k) + x4 (ix2 r k)) (fun k => x5 (ix2 r k)) (fun k => x7 (ix2 0 k)) k * x9 (ix2 k d))
        + ∑ k : Fin 512, x6 (ix2 r k) * x10 (ix2 k d)) := by
  unfold out0_11
  refine (congrFun (View.canon_cons_unit_lit _ _ [] (by decide)) _).trans ?_
  rw [out_apply, ldr0 x3, ldr0 x4, ldr0 x5, ldr1, ldr4, ldr4' x8, ldr4' x9, ldr5, ldr6, ld_gate]
  have e0 : ∀ k : Fin 256, (if h : k.val < 128 then k0_pay7 (F := Ideal) (View.ld x2 r0_2) (ix2 r ⟨k.val, h⟩) else View.ld x2 r0_3 (ix3 0 r ⟨k.val - 128, by omega⟩))
      = if h : k.val < 128 then x2 (ix3 0 r ⟨k.val, h⟩) else x2 (ix3 1 r ⟨k.val - 128, by omega⟩) := fun k => by
    split
    · exact (half_apply _ r _).trans (ld_first x2 r _)
    · exact ld_second x2 r _
  have e1 : ∀ k : Fin 256, k0_pay6 (F := Ideal) (k0_pay2 x3 x4) k0_pay3 (iota .tc S256x256 32 [1] iota_S256x256_d1_w32) 64#32 k0_pay4 k0_pay5 (Scalar.extui (Scalar.cmpi .sgt 64#32 0#32)) (Scalar.cmpi .slt 64#32 0#32) x5 x7 (ix2 r k)
      = finish (fun k => x3 (ix2 r k) + x4 (ix2 r k)) (fun k => x5 (ix2 r k)) (fun k => x7 (ix2 0 k)) k := fun k => by
    rw [y_apply _ x5 x7 r k (fun k => by rw [hs_apply]; exact h k)]
    simp only [hs_apply]
  exact congrArg₂ (fun s t : Fin 256 → EReal => x0 (ix2 r d) + x1 (ix3 0 2 d) * ((∑ k : Fin 256, s k * x8 (ix2 k d) + ∑ k : Fin 256, t k * x9 (ix2 k d))
    + ∑ k : Fin 512, x6 (ix2 r k) * x10 (ix2 k d))) (funext e0) (funext e1)

end

end Cert.ProjOutIdeal.Body

end

end
-- ==== Proof.OutFinal.lean ====
/- The output projection's whole result. -/
module

public import proofs.«01_k».proof.Proof.OutWindows
public import proofs.«01_k».proof.Proof.OutBody

@[expose] public section

set_option maxRecDepth 16384

noncomputable section

namespace Cert.ProjOutIdeal.Final

open Cert.ProjOutIdeal Cert.ProjOutIdeal.Gen Cert.ProjOutIdeal.Value Cert.ProjOutIdeal.Body Cert.ProjOutIdeal.Windows Cert.Proj
open Idealize.ShloMosaic Idealize.ShloMosaic.TcCoe Idealize.SL.Sem

/-- The whole result, from the arguments. -/
def resAll (O : Outs) : FVec Ideal S34816x1024 .f32 := fun y => O.res (y 0) (y 1)

variable (m : (ℓ : Loc nD τ sig) → Buf (Elt Ideal) ℓ) (c : Dev nD) (t : Fin cfg0.N)

/-- One entry of the block a step writes. -/
theorem block11 (hO : (outs m c).Real) (r : Fin 256) (d : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = (outs m c).res (R t r) d := by
  have e3 : ∀ k : Fin 256, @HAdd.hAdd EReal EReal EReal _ (iblk m c 3 t (ix2 r k)) (iblk m c 4 t (ix2 r k)) = (outs m c).hs (R t r) k := fun k => by
    rw [blk3, blk4]
    rfl
  refine (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r d (fun k => ⟨_, (e3 k).trans (hO.hs (R t r) k).choose_spec⟩)).trans ?_
  have e2 : ∀ k : Fin 256, (if h : k.val < 128 then (iblk m c 2 t (ix3 0 r ⟨k.val, h⟩) : EReal) else (iblk m c 2 t (ix3 1 r ⟨k.val - 128, by omega⟩) : EReal))
      = pick (outs m c).hy (outs m c).hyc (R t r) k := fun k => by
    split
    · exact (blk2 m c t 0 r _).trans (congrArg (pick _ _ (R t r)) (Fin.ext (by show 0 * 128 + k.val = k.val; omega)))
    · exact (blk2 m c t 1 r _).trans (congrArg (pick _ _ (R t r)) (Fin.ext (by show 1 * 128 + (k.val - 128) = k.val; omega)))
  have e1 : iblk m c 1 t (ix3 0 2 d) = (outs m c).md (R t r) ⟨2048 + d.val, by omega⟩ :=
    (blk1 m c t r 2 d).trans (congrArg ((outs m c).md (R t r)) (Fin.ext (by show 2 * 1024 + d.val = 2048 + d.val; omega)))
  simp only [e2, e3, e1, blk0, blk5, blk6, blk7, blk8, blk9, blk10]
  rfl

/-- The array after the run. -/
theorem arr11 (hO : (outs m c).Real) : (dats m 0 c).arrAt 11 cfg0.N = resAll (outs m c) := by
  refine (dats m 0 c).arrAt_eq_of_covers 11 _ (by decide +kernel) fun t hf y => ?_
  have ht := lt136 t
  blk_simp
  rw [after0_11]
  have hy : y = ix2 (y 0 : Fin 256) (y 1 : Fin 1024) := by
    funext a
    match a with
    | 0 => rfl
    | 1 => rfl
  have e0 : ((win0_11.blk t).view.emb y) 0 = R t (y 0 : Fin 256) := by
    refine Fin.ext ?_
    blk_simp [idx11, R]
  have e1 : ((win0_11.blk t).view.emb y) 1 = (y 1 : Fin 1024) := by
    refine Fin.ext ?_
    blk_simp [idx11]
  refine (congrArg _ hy).trans ((block11 m c t hO (y 0 : Fin 256) (y 1 : Fin 1024)).trans ?_)
  exact (congrArg₂ (outs m c).res e0 e1).symm

end Cert.ProjOutIdeal.Final

end

end
-- ==== Proof.OutRef.lean ====
/- The reference of the output projection in stages, and its result row by row. -/
module

public import proofs.«01_k».proof.Proof.Gen.RefOutIdeal.Run
public import proofs.«01_k».proof.Proof.OutSpec
public import Idealize.ShloMosaic.Lib.Pointwise
public import Idealize.ShloMosaic.Lib.KernelVsHost

@[expose] public section

set_option maxRecDepth 16384

noncomputable section

namespace Cert.RefOutIdeal.Stages

open Cert.RefOutIdeal Cert.RefOutIdeal.Gen Cert.RefOutIdeal.Value Cert.Proj
open Idealize.ShloMosaic Idealize.ShloMosaic.TcCoe Idealize.SL.Sem

theorem three_sum (F : Fin 1024 → EReal) : ∑ k, F k = (∑ k : Fin 256, F ⟨k.val, by omega⟩ + ∑ k : Fin 256, F ⟨256 + k.val, by omega⟩)
    + ∑ k : Fin 512, F ⟨512 + k.val, by omega⟩ := by
  have e1 : ∑ k, F k = ∑ k : Fin 256, F ⟨k.val, by omega⟩ + ∑ k : Fin 768, F ⟨256 + k.val, by omega⟩ :=
    Fin.sum_univ_add (show Fin (256 + 768) → EReal from F)
  have e2 : ∑ k : Fin 768, F ⟨256 + k.val, by omega⟩ = ∑ k : Fin 256, F ⟨256 + k.val, by omega⟩ + ∑ k : Fin 512, F ⟨256 + (256 + k.val), by omega⟩ :=
    Fin.sum_univ_add (show Fin (256 + 512) → EReal from fun k => F ⟨256 + k.val, by omega⟩)
  rw [e1, e2, ← add_assoc]
  exact congrArg _ (Finset.sum_congr rfl fun k _ => congrArg F (Fin.ext (by simp only; omega)))

/-- The three branches side by side through the whole projection. -/
theorem mix_eq (hy hs o w : Fin 256 → EReal) (da : Fin 512 → EReal) (W : Fin 1024 → Fin 1024 → EReal) (d : Fin 1024) :
    ∑ k : Fin 1024, (if h : k.val < 256 then hy ⟨k.val, h⟩ else if h' : k.val - 256 < 256 then finish hs o w ⟨k.val - 256, h'⟩
      else da ⟨k.val - 256 - 256, by omega⟩) * W k d = mix hy hs o w da W d := by
  rw [three_sum]
  unfold mix
  refine congrArg₂ (· + ·) (congrArg₂ (· + ·) (Finset.sum_congr rfl fun k _ => ?_) (Finset.sum_congr rfl fun k _ => ?_)) (Finset.sum_congr rfl fun k _ => ?_)
  · rw [dif_pos (by simp only; omega)]
  · rw [dif_neg (by simp only; omega), dif_pos (by simp only; omega)]
    exact congrArg (fun i => finish hs o w i * W ⟨256 + k.val, by omega⟩ d) (Fin.ext (by simp only; omega))
  · rw [dif_neg (by simp only; omega), dif_neg (by simp only; omega)]
    exact congrArg (fun i => da i * W ⟨512 + k.val, by omega⟩ d) (Fin.ext (by simp only; omega))

/-- The latent rows' states normed and gated. -/
def finl (h o : FVec Ideal S8x4096x256 .f32) (w : FVec Ideal S256 .f32) : FVec Ideal S8x4096x256 .f32 :=
  mulf (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf o)))) (shapeCast S8x4096x256 (mulf (mulf (shapeCast S8x4096x4x64 h shapeCasts_S8x4096x256_S8x4096x4x64) (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf (shapeCast S8x4096x4x64 h shapeCasts_S8x4096x256_S8x4096x4x64) (shapeCast S8x4096x4x64 h shapeCasts_S8x4096x256_S8x4096x4x64)) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x4x64_S8x4096x4x64_0_1_2_3 (broadcastInDim S1x1x4x64 ![2, 3] bcast_S4x64_S1x1x4x64_2_3 (shapeCast S4x64 w shapeCasts_S256_S4x64)))) shapeCasts_S8x4096x4x64_S8x4096x256)

/-- The three branches side by side. -/
def catl (hy f : FVec Ideal S8x4096x256 .f32) (da : FVec Ideal S8x4096x512 .f32) : FVec Ideal S8x4096x1024 .f32 :=
  concatenate S8x4096x1024 2 [⟨S8x4096x256, (hy : (⟨S8x4096x256, .f32⟩ : BufTy).Contents (Elt Ideal))⟩, ⟨S8x4096x256, (f : (⟨S8x4096x256, .f32⟩ : BufTy).Contents (Elt Ideal))⟩, ⟨S8x4096x512, (da : (⟨S8x4096x512, .f32⟩ : BufTy).Contents (Elt Ideal))⟩] concatenates_S8x4096x256_S8x4096x256_S8x4096x512_S8x4096x1024_d2

/-- The latent rows' results. -/
def yl (x : FVec Ideal S8x4096x1024 .f32) (g : FVec Ideal S8x6144 .f32) (z : FVec Ideal S8x4096x1024 .f32) (W : FVec Ideal S1024x1024 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] g slices_S8x6144_S8x1024_0_2048))) (Host.dotGeneral dot_S8x4096x1024_S1024x1024_S8x4096x1024_2_0_01_1_n_n none (z) W))

theorem finl_apply (h o : FVec Ideal S8x4096x256 .f32) (w : FVec Ideal S256 .f32) (b : Fin 8) (n : Fin 4096) (k : Fin 256) :
    finl h o w (ix3 b n k) = finish (fun k => h (ix3 b n k)) (fun k => o (ix3 b n k)) (fun k => w (ix1 k)) k := by
  pointwise [finl]
  rfl

theorem catl_apply (hy f : FVec Ideal S8x4096x256 .f32) (da : FVec Ideal S8x4096x512 .f32) (b : Fin 8) (n : Fin 4096) (k : Fin 1024) :
    catl hy f da (ix3 b n k) = if h : k.val < 256 then hy (ix3 b n ⟨k.val, h⟩) else if h' : k.val - 256 < 256 then f (ix3 b n ⟨k.val - 256, h'⟩)
      else da (ix3 b n ⟨k.val - 256 - 256, by omega⟩) := by
  pointwise [catl]

theorem yl_apply (x : FVec Ideal S8x4096x1024 .f32) (g : FVec Ideal S8x6144 .f32) (z : FVec Ideal S8x4096x1024 .f32) (W : FVec Ideal S1024x1024 .f32)
    (b : Fin 8) (n : Fin 4096) (d : Fin 1024) :
    yl x g z W (ix3 b n d) = x (ix3 b n d) + g (ix2 b ⟨2048 + d.val, by omega⟩) * ∑ k, z (ix3 b n k) * W (ix2 k d) := by
  pointwise [yl]

theorem resl_apply (x : FVec Ideal S8x4096x1024 .f32) (g : FVec Ideal S8x6144 .f32) (hy h o : FVec Ideal S8x4096x256 .f32) (da : FVec Ideal S8x4096x512 .f32)
    (w : FVec Ideal S256 .f32) (W : FVec Ideal S1024x1024 .f32) (b : Fin 8) (n : Fin 4096) (d : Fin 1024) :
    yl x g (catl hy (finl h o w) da) W (ix3 b n d) = x (ix3 b n d) + g (ix2 b ⟨2048 + d.val, by omega⟩) * mix (fun k => hy (ix3 b n k)) (fun k => h (ix3 b n k))
      (fun k => o (ix3 b n k)) (fun k => w (ix1 k)) (fun k => da (ix3 b n k)) (fun k d => W (ix2 k d)) d := by
  rw [yl_apply]
  refine congrArg (fun s : EReal => x (ix3 b n d) + g (ix2 b ⟨2048 + d.val, by omega⟩) * s) (Eq.trans (Finset.sum_congr rfl fun k _ => ?_)
    (mix_eq (fun k => hy (ix3 b n k)) (fun k => h (ix3 b n k)) (fun k => o (ix3 b n k)) (fun k => w (ix1 k)) (fun k => da (ix3 b n k)) (fun k d => W (ix2 k d)) d))
  rw [catl_apply]
  simp only [finl_apply]

/-- The context rows' states normed and gated. -/
def finc (h o : FVec Ideal S8x256x256 .f32) (w : FVec Ideal S256 .f32) : FVec Ideal S8x256x256 .f32 :=
  mulf (Host.divf (broadcastInDim S8x256x256 ![] bcast_S_S8x256x256 (constant S_ .f32 0x3F800000#32)) (addf (broadcastInDim S8x256x256 ![] bcast_S_S8x256x256 (constant S_ .f32 0x3F800000#32)) (Host.exp (Host.negf o)))) (shapeCast S8x256x256 (mulf (mulf (shapeCast S8x256x4x64 h shapeCasts_S8x256x256_S8x256x4x64) (broadcastInDim S8x256x4x64 ![0, 1, 2, 3] bcast_S8x256x4x1_S8x256x4x64_0_1_2_3 (Host.rsqrt (addf (Host.divf (broadcastInDim S8x256x4x1 ![0, 1, 2] bcast_S8x256x4_S8x256x4x1_0_1_2 (Host.reduceAdd (mulf (shapeCast S8x256x4x64 h shapeCasts_S8x256x256_S8x256x4x64) (shapeCast S8x256x4x64 h shapeCasts_S8x256x256_S8x256x4x64)) (constant S_ .f32 0x00000000#32) reducesTo_S8x256x4x64_S8x256x4_d3 h_S_)) (broadcastInDim S8x256x4x1 ![] bcast_S_S8x256x4x1 (constant S_ .f32 0x42800000#32))) (broadcastInDim S8x256x4x1 ![] bcast_S_S8x256x4x1 (constant S_ .f32 0x358637BD#32)))))) (broadcastInDim S8x256x4x64 ![0, 1, 2, 3] bcast_S1x1x4x64_S8x256x4x64_0_1_2_3 (broadcastInDim S1x1x4x64 ![2, 3] bcast_S4x64_S1x1x4x64_2_3 (shapeCast S4x64 w shapeCasts_S256_S4x64)))) shapeCasts_S8x256x4x64_S8x256x256)

/-- The three branches side by side. -/
def catc (hy f : FVec Ideal S8x256x256 .f32) (da : FVec Ideal S8x256x512 .f32) : FVec Ideal S8x256x1024 .f32 :=
  concatenate S8x256x1024 2 [⟨S8x256x256, (hy : (⟨S8x256x256, .f32⟩ : BufTy).Contents (Elt Ideal))⟩, ⟨S8x256x256, (f : (⟨S8x256x256, .f32⟩ : BufTy).Contents (Elt Ideal))⟩, ⟨S8x256x512, (da : (⟨S8x256x512, .f32⟩ : BufTy).Contents (Elt Ideal))⟩] concatenates_S8x256x256_S8x256x256_S8x256x512_S8x256x1024_d2

/-- The context rows' results. -/
def yc (x : FVec Ideal S8x256x1024 .f32) (g : FVec Ideal S6144 .f32) (z : FVec Ideal S8x256x1024 .f32) (W : FVec Ideal S1024x1024 .f32) : FVec Ideal S8x256x1024 .f32 :=
  addf x (mulf (broadcastInDim S8x256x1024 ![0, 1, 2] bcast_S1x1x1024_S8x256x1024_0_1_2 (broadcastInDim S1x1x1024 ![2] bcast_S1024_S1x1x1024_2 (extractStridedSlice S1024 ![2048] g slices_S6144_S1024_2048))) (Host.dotGeneral dot_S8x256x1024_S1024x1024_S8x256x1024_2_0_01_1_n_n none (z) W))

theorem finc_apply (h o : FVec Ideal S8x256x256 .f32) (w : FVec Ideal S256 .f32) (b : Fin 8) (n : Fin 256) (k : Fin 256) :
    finc h o w (ix3 b n k) = finish (fun k => h (ix3 b n k)) (fun k => o (ix3 b n k)) (fun k => w (ix1 k)) k := by
  pointwise [finc]
  rfl

theorem catc_apply (hy f : FVec Ideal S8x256x256 .f32) (da : FVec Ideal S8x256x512 .f32) (b : Fin 8) (n : Fin 256) (k : Fin 1024) :
    catc hy f da (ix3 b n k) = if h : k.val < 256 then hy (ix3 b n ⟨k.val, h⟩) else if h' : k.val - 256 < 256 then f (ix3 b n ⟨k.val - 256, h'⟩)
      else da (ix3 b n ⟨k.val - 256 - 256, by omega⟩) := by
  pointwise [catc]

theorem yc_apply (x : FVec Ideal S8x256x1024 .f32) (g : FVec Ideal S6144 .f32) (z : FVec Ideal S8x256x1024 .f32) (W : FVec Ideal S1024x1024 .f32)
    (b : Fin 8) (n : Fin 256) (d : Fin 1024) :
    yc x g z W (ix3 b n d) = x (ix3 b n d) + g (ix1 ⟨2048 + d.val, by omega⟩) * ∑ k, z (ix3 b n k) * W (ix2 k d) := by
  pointwise [yc]

theorem resc_apply (x : FVec Ideal S8x256x1024 .f32) (g : FVec Ideal S6144 .f32) (hy h o : FVec Ideal S8x256x256 .f32) (da : FVec Ideal S8x256x512 .f32)
    (w : FVec Ideal S256 .f32) (W : FVec Ideal S1024x1024 .f32) (b : Fin 8) (n : Fin 256) (d : Fin 1024) :
    yc x g (catc hy (finc h o w) da) W (ix3 b n d) = x (ix3 b n d) + g (ix1 ⟨2048 + d.val, by omega⟩) * mix (fun k => hy (ix3 b n k)) (fun k => h (ix3 b n k))
      (fun k => o (ix3 b n k)) (fun k => w (ix1 k)) (fun k => da (ix3 b n k)) (fun k d => W (ix2 k d)) d := by
  rw [yc_apply]
  refine congrArg (fun s : EReal => x (ix3 b n d) + g (ix1 ⟨2048 + d.val, by omega⟩) * s) (Eq.trans (Finset.sum_congr rfl fun k _ => ?_)
    (mix_eq (fun k => hy (ix3 b n k)) (fun k => h (ix3 b n k)) (fun k => o (ix3 b n k)) (fun k => w (ix1 k)) (fun k => da (ix3 b n k)) (fun k d => W (ix2 k d)) d))
  rw [catc_apply]
  simp only [finc_apply]

/-- Latent rows before context rows. -/
def rows (A : FVec Ideal S8x4096x1024 .f32) (B : FVec Ideal S8x256x1024 .f32) : FVec Ideal S34816x1024 .f32 :=
  concatenate S34816x1024 0 [⟨S32768x1024, (shapeCast _ A shapeCasts_S8x4096x1024_S32768x1024)⟩, ⟨S2048x1024, (shapeCast _ B shapeCasts_S8x256x1024_S2048x1024)⟩] concatenates_S32768x1024_S2048x1024_S34816x1024_d0

theorem rows_apply (A : FVec Ideal S8x4096x1024 .f32) (B : FVec Ideal S8x256x1024 .f32) (R : Fin 34816) (d : Fin 1024) :
    rows A B (ix2 R d) = pick (fun b n k => A (ix3 b n k)) (fun b n k => B (ix3 b n k)) R d := by
  unfold pick
  pointwise [rows]

variable (m : (ℓ : Loc nD τ sig) → Buf (Elt Ideal) ℓ) (c : Dev nD)

/-- The arguments. -/
def outs : Outs where
  x b n k := m ((c : Thread nD τ).loc main_arg0) (ix3 b n k)
  xc b n k := m ((c : Thread nD τ).loc main_arg1) (ix3 b n k)
  mod b j := m ((c : Thread nD τ).loc main_arg2) (ix2 b j)
  modc j := m ((c : Thread nD τ).loc main_arg3) (ix1 j)
  hy b n k := m ((c : Thread nD τ).loc main_arg4) (ix3 b n k)
  hyc b n k := m ((c : Thread nD τ).loc main_arg5) (ix3 b n k)
  hf b n k := m ((c : Thread nD τ).loc main_arg6) (ix3 b n k)
  hfc b n k := m ((c : Thread nD τ).loc main_arg7) (ix3 b n k)
  hb b n k := m ((c : Thread nD τ).loc main_arg8) (ix3 b n k)
  hbc b n k := m ((c : Thread nD τ).loc main_arg9) (ix3 b n k)
  o b n k := m ((c : Thread nD τ).loc main_arg10) (ix3 b n k)
  oc b n k := m ((c : Thread nD τ).loc main_arg11) (ix3 b n k)
  da b n k := m ((c : Thread nD τ).loc main_arg12) (ix3 b n k)
  dac b n k := m ((c : Thread nD τ).loc main_arg13) (ix3 b n k)
  nw k := m ((c : Thread nD τ).loc main_arg14) (ix1 k)
  w k d := m ((c : Thread nD τ).loc main_arg15) (ix2 k d)

/-- The latent rows' results, and the context rows'. -/
def YL : FVec Ideal S8x4096x1024 .f32 :=
  yl (m ((c : Thread nD τ).loc main_arg0)) (m ((c : Thread nD τ).loc main_arg2)) (catl (m ((c : Thread nD τ).loc main_arg4)) (finl (addf (m ((c : Thread nD τ).loc main_arg6)) (m ((c : Thread nD τ).loc main_arg8))) (m ((c : Thread nD τ).loc main_arg10)) (m ((c : Thread nD τ).loc main_arg14))) (m ((c : Thread nD τ).loc main_arg12))) (m ((c : Thread nD τ).loc main_arg15))

def YC : FVec Ideal S8x256x1024 .f32 :=
  yc (m ((c : Thread nD τ).loc main_arg1)) (m ((c : Thread nD τ).loc main_arg3)) (catc (m ((c : Thread nD τ).loc main_arg5)) (finc (addf (m ((c : Thread nD τ).loc main_arg7)) (m ((c : Thread nD τ).loc main_arg9))) (m ((c : Thread nD τ).loc main_arg11)) (m ((c : Thread nD τ).loc main_arg14))) (m ((c : Thread nD τ).loc main_arg13))) (m ((c : Thread nD τ).loc main_arg15))

theorem res_eq : res_main_v64 m c = rows (YL m c) (YC m c) := by
  unfold res_main_v64
  rfl

theorem res_apply (R : Fin 34816) (d : Fin 1024) : rows (YL m c) (YC m c) (ix2 R d) = (outs m c).res R d := by
  rw [rows_apply]
  unfold Outs.res Outs.md Outs.hs pick
  by_cases h : R.val < 32768
  · simp only [dif_pos h]
    exact resl_apply _ _ _ _ _ _ _ _ _ _ _
  · simp only [dif_neg h]
    exact resc_apply _ _ _ _ _ _ _ _ _ _ _

end Cert.RefOutIdeal.Stages

end

end
-- ==== Proof.OutEqual.lean ====
/- The claims of the output projection: the frames, and the equality of the kernel's result and the reference's over
   the extended reals, the states of the two directions finite. -/
module

public import proofs.«01_k».proof.Defs
public import proofs.«01_k».proof.Proof.Gen.ProjOut.Frame
public import proofs.«01_k».proof.Proof.Gen.Pre_finite_out
public import proofs.«01_k».proof.Proof.OutFinal
public import proofs.«01_k».proof.Proof.OutRef
public import proofs.«01_k».proof.Proof.Equal
public import Idealize.ShloMosaic.Lib.Quiescent

@[expose] public section

set_option maxRecDepth 16384

noncomputable section

namespace Cert.Proof.Out

open Idealize.ShloMosaic Idealize.ShloMosaic.TcCoe Idealize.SL.Sem Cert.Proof.Attn Cert.Proj

theorem frame_p : Cert.quiescent_ProjOut := fun m ρ _ => Cert.ProjOut.Gen.frame m ρ

theorem frame_pi : Cert.quiescent_ProjOutIdeal := fun m ρ _ => Cert.ProjOutIdeal.Gen.frame m ρ

theorem frame_pi' : Cert.quiescent_ProjOutIdeal_pre_finite_out := fun m ρ _ => Cert.ProjOutIdeal.Gen.frame m ρ

theorem frame_ri : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)

theorem frame_ri' : Cert.quiescent_RefOutIdeal_pre_finite_out := fun m ρ _ => frame_ri m ρ trivial

theorem preserves : Cert.preserves_ProjOut_ProjOutIdeal := trivial

/-- The precondition, entry by entry. -/
theorem reals (m : (ℓ : Loc Cert.ProjOutIdeal.nD Cert.ProjOutIdeal.τ Cert.ProjOutIdeal.sig) → Buf (Elt Ideal) ℓ)
    (hpre : Cert.Pre_ProjOutIdeal_finite_out m) (c : Dev Cert.ProjOutIdeal.nD) : (Cert.ProjOutIdeal.Windows.outs m c).Real := by
  obtain ⟨h6, h7, h8, h9⟩ := hpre c
  obtain ⟨r6, e6⟩ := reals_of_finite _ _ h6
  obtain ⟨r7, e7⟩ := reals_of_finite _ _ h7
  obtain ⟨r8, e8⟩ := reals_of_finite _ _ h8
  obtain ⟨r9, e9⟩ := reals_of_finite _ _ h9
  exact { hf := fun _ _ _ => ⟨_, e6 _⟩, hfc := fun _ _ _ => ⟨_, e7 _⟩, hb := fun _ _ _ => ⟨_, e8 _⟩, hbc := fun _ _ _ => ⟨_, e9 _⟩ }

theorem algebraic : Cert.algebraic_ProjOutIdeal_RefOutIdeal_pre_finite_out := by
  intro m ρ m' ρ' hpre hag
  have key : ∀ c : Dev Cert.ProjOutIdeal.nD, Cert.RefOutIdeal.Value.res_main_v64 (F := Ideal) m' c
      = (Cert.ProjOutIdeal.Gen.dats m 0 c).arrAt 11 Cert.ProjOutIdeal.cfg0.N := fun c => by
    obtain ⟨g0, g1, g2, g3, g4, g5, g6, g7, g8, g9, g10, g11, g12, g13, g14, g15⟩ := hag c
    have e : Cert.RefOutIdeal.Stages.outs m' c = Cert.ProjOutIdeal.Windows.outs m c := by
      unfold Cert.RefOutIdeal.Stages.outs Cert.ProjOutIdeal.Windows.outs
      rw [g0, g1, g2, g3, g4, g5, g6, g7, g8, g9, g10, g11, g12, g13, g14, g15]
    refine (Cert.RefOutIdeal.Stages.res_eq m' c).trans (Eq.trans (funext fun y => ?_) (Cert.ProjOutIdeal.Final.arr11 m c (reals m hpre c)).symm)
    have hy : y = ix2 (y 0 : Fin 34816) (y 1 : Fin 1024) := by
      refine funext fun a => ?_
      match a with
      | 0 => rfl
      | 1 => rfl
    refine (congrArg _ hy).trans ((Cert.RefOutIdeal.Stages.res_apply m' c (y 0 : Fin 34816) (y 1 : Fin 1024)).trans ?_)
    rw [e]
    rfl
  exact ⟨_, Cert.ProjOutIdeal.Value.run_blocks (F := Ideal) m ρ,
    (θ_run Cert.RefOutIdeal.defs _ _).mono (fun _ h c => ⟨(h c).1.trans (key c), (h c).2⟩) (Cert.RefOutIdeal.Value.run (F := Ideal) m' ρ')⟩

end Cert.Proof.Out

end

end
-- ==== Proof.FfnPipe.lean ====
/- The experts' products in the machine's floats, run at whatever the tables of blocks' experts hold: what every step
   leaves in its block and in the three held weights, and the run of the whole call. -/
module

public import proofs.«01_k».proof.Proof.Gen.Ffn.Flash.Runs
public import proofs.«01_k».proof.Proof.Gen.Ffn.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384

noncomputable section

namespace Cert.Ffn.Pipe

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is over. -/
abbrev Res := MT nD τ sig Unit (Elt Bits) ℕ (UR sig nD τ) ℕ

/-- The staging cells' resources in them. -/
abbrev EP : Emb (UR sig nD τ) Res := emb₁

/-! ## The decisions of a step -/

/-- The count of used blocks, as a step reads it; -/
abbrev count (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- the expert of the step's block; -/
abbrev here (i : grid0.Coords) (T0 : S168.Idx → Elt Bits .i32) : BitVec 32 :=
  View.readAt (Elt Bits) (tbM0_0).view (Rect.unit (s := S168) (k0_off1 i) S1.size (k0_off1_inb i)).toLoadRect T0 (Shape.Idx.first (numel1_S1.symm ▸ Nat.one_pos))

/-- the expert of the block before it. -/
abbrev before (i : grid0.Coords) (T0 : S168.Idx → Elt Bits .i32) : BitVec 32 :=
  View.readAt (Elt Bits) (tbM0_0).view (Rect.unit (s := S168) (k0_off2 i) S1.size (k0_off2_inb i)).toLoadRect T0 (Shape.Idx.first (numel1_S1.symm ▸ Nat.one_pos))

/-- The step takes its expert's weights anew; -/
abbrev Anew (i : grid0.Coords) (T0 : S168.Idx → Elt Bits .i32) (T1 : S1.Idx → Elt Bits .i32) : Prop :=
  Scalar.cmpi .ne (Scalar.extui (Scalar.andi (Scalar.cmpi .slt (BitVec.ofNat 32 (i 0).val) (count T1))
    (Scalar.ori (Scalar.cmpi .eq (BitVec.ofNat 32 (i 0).val) 0#32) (Scalar.cmpi .ne (here i T0) (before i T0))))) 0#32 = 1#1

/-- the step's block is used; -/
abbrev Used (i : grid0.Coords) (T1 : S1.Idx → Elt Bits .i32) : Prop := k0_cond2 i (count T1) = 1#1

/-- the step's block is unused. -/
abbrev Unused (i : grid0.Coords) (T1 : S1.Idx → Elt Bits .i32) : Prop := k0_cond3 i (count T1) = 1#1

theorem cond2_iff (i : grid0.Coords) (v : BitVec 32) : k0_cond2 i v = 1#1 ↔ Scalar.cmpi .slt (BitVec.ofNat 32 (i 0).val) v = 1#1 := by
  unfold k0_cond2
  rcases BitVec.eq_zero_or_eq_one (Scalar.cmpi .slt (BitVec.ofNat 32 (i 0).val) v) with e | e <;> simp only [e] <;> decide

theorem cond3_iff (i : grid0.Coords) (v : BitVec 32) : k0_cond3 i v = 1#1 ↔ ¬ k0_cond2 i v = 1#1 := by
  unfold k0_cond2 k0_cond3
  rcases BitVec.eq_zero_or_eq_one (Scalar.cmpi .slt (BitVec.ofNat 32 (i 0).val) v) with e | e <;> simp only [e] <;> decide

theorem anew_iff (x y : BitVec 1) : Scalar.cmpi .ne ((Scalar.extui (Scalar.andi x y) : BitVec 32)) 0#32 = 1#1 ↔ x = 1#1 ∧ y = 1#1 := by
  rcases BitVec.eq_zero_or_eq_one x with rfl | rfl <;> rcases BitVec.eq_zero_or_eq_one y with rfl | rfl <;> decide

theorem ori_iff (x y : BitVec 1) : Scalar.ori x y = 1#1 ↔ x = 1#1 ∨ y = 1#1 := by
  rcases BitVec.eq_zero_or_eq_one x with rfl | rfl <;> rcases BitVec.eq_zero_or_eq_one y with rfl | rfl <;> decide

theorem used_of_anew (i : grid0.Coords) (T0 : S168.Idx → Elt Bits .i32) (T1 : S1.Idx → Elt Bits .i32) (h : Anew i T0 T1) : Used i T1 :=
  (cond2_iff i _).2 ((anew_iff _ _).1 h).1

/-- A used block whose weights are not taken anew is not the first, and has the expert of the block before it. -/
theorem same_of_not_anew (i : grid0.Coords) (T0 : S168.Idx → Elt Bits .i32) (T1 : S1.Idx → Elt Bits .i32) (hu : Used i T1) (h : ¬ Anew i T0 T1) :
    (i 0).val ≠ 0 ∧ here i T0 = before i T0 := by
  have h' : ¬ (Scalar.cmpi .eq (BitVec.ofNat 32 (i 0).val) 0#32 = 1#1 ∨ Scalar.cmpi .ne (here i T0) (before i T0) = 1#1) :=
    fun h' => h ((anew_iff _ _).2 ⟨(cond2_iff i _).1 hu, (ori_iff _ _).2 h'⟩)
  rw [not_or] at h'
  refine ⟨fun e => h'.1 (by rw [e]; decide), ?_⟩
  by_contra e
  refine h'.2 ?_
  have e' : (here i T0 != before i T0) = true := bne_iff_ne.2 e
  show BitVec.ofBool (here i T0 != before i T0) = 1#1
  rw [e']
  rfl

/-! ## The pipeline at the tables' contents -/

variable (a : (pcfg0 (F := Bits)).Adm)

abbrev cfgT : Pipeline.Cfg sig Λ₀ := cfg0 (F := Bits) a
abbrev pcs : Fin 1 → Pipeline.Cfg sig Λ₀ := Pipeline.pin (pcfgs (F := Bits)) fun _ => a

/-- The tables: the blocks' experts, and the count of used blocks. -/
abbrev tab0 : S168.Idx → Elt Bits .i32 := a.1 0
abbrev tab1 : S1.Idx → Elt Bits .i32 := a.1 1

variable (m : (ℓ : Loc nD τ sig) → Buf (Elt Bits) ℓ) (ρ : Dev nD → PrngReg)

abbrev crd (t : Fin (cfgT a).N) : (cfgT a).grid.Coords := (cfgT a).grid.coords t

abbrev ms0_0 (t : Fin (cfgT a).N) : Memref sig .tc .vmem S512x1024 .f32 := spec0_0.stage ((cfgT a).slots t (0 : Fin 5))
abbrev hs0_0 (t : Fin (cfgT a).N) : (ms0_0 a t).IsWhole := hstage0_0 (((cfgT a).slots t (0 : Fin 5)).cast nbuf0_0)
abbrev ms0_1 (t : Fin (cfgT a).N) : Memref sig .tc .vmem S1x1x1024x512 .f32 := spec0_1.stage ((cfgT a).slots t (1 : Fin 5))
abbrev hs0_1 (t : Fin (cfgT a).N) : (ms0_1 a t).IsWhole := hstage0_1 (((cfgT a).slots t (1 : Fin 5)).cast nbuf0_1)
abbrev ms0_2 (t : Fin (cfgT a).N) : Memref sig .tc .vmem S1x1x1024x512 .f32 := spec0_2.stage ((cfgT a).slots t (2 : Fin 5))
abbrev hs0_2 (t : Fin (cfgT a).N) : (ms0_2 a t).IsWhole := hstage0_2 (((cfgT a).slots t (2 : Fin 5)).cast nbuf0_2)
abbrev ms0_3 (t : Fin (cfgT a).N) : Memref sig .tc .vmem S1x1x512x1024 .f32 := spec0_3.stage ((cfgT a).slots t (3 : Fin 5))
abbrev hs0_3 (t : Fin (cfgT a).N) : (ms0_3 a t).IsWhole := hstage0_3 (((cfgT a).slots t (3 : Fin 5)).cast nbuf0_3)
abbrev ms0_4 (t : Fin (cfgT a).N) : Memref sig .tc .vmem S512x1024 .f32 := spec0_4.stage ((cfgT a).slots t (4 : Fin 5))
abbrev hs0_4 (t : Fin (cfgT a).N) : (ms0_4 a t).IsWhole := hstage0_4 (((cfgT a).slots t (4 : Fin 5)).cast nbuf0_4)

/-- Window `w`'s block at point `t`, read off its array. -/
def iblk (c : Dev nD) (w : Fin (cfgT a).W) (t : Fin (cfgT a).N) : (((cfgT a).win w).xblock (crd a t)).Idx → Elt Bits ((cfgT a).win w).elt :=
  (((cfgT a).win w).blk t).view.read (Elt Bits) ((s₀ m ρ).mem (((cfgT a).win w).arr.view.loc (c : Thread nD τ)))

/-- The weights of the step's expert, narrowed. -/
def W1 (c : Dev nD) (t : Fin (cfgT a).N) : Buf (Elt Bits) ((c : Thread nD τ).loc cc0_scratch0) := k0_pay1 (F := Bits) (iblk a m ρ c (1 : Fin 5) t)
def W3 (c : Dev nD) (t : Fin (cfgT a).N) : Buf (Elt Bits) ((c : Thread nD τ).loc cc0_scratch1) := k0_pay2 (F := Bits) (iblk a m ρ c (2 : Fin 5) t)
def W2 (c : Dev nD) (t : Fin (cfgT a).N) : Buf (Elt Bits) ((c : Thread nD τ).loc cc0_scratch2) := k0_pay3 (F := Bits) (iblk a m ρ c (3 : Fin 5) t)

open Classical in
/-- What a step leaves in its block: the product of a used one, the zeros of an unused one. -/
def left (c : Dev nD) (t : Fin (cfgT a).N) : S512x1024.Idx → Elt Bits .f32 :=
  if Used (crd a t) (tab1 a) then k0_pay4 (F := Bits) (iblk a m ρ c (0 : Fin 5) t) (W1 a m ρ c t) (W3 a m ρ c t) (W2 a m ρ c t) else k0_pay5 (F := Bits)

/-- The weights held before step `n`: those of the block before, where it is used. -/
def Held (c : Dev nD) (n : ℕ) (x1 : Buf (Elt Bits) ((c : Thread nD τ).loc cc0_scratch0)) (x3 : Buf (Elt Bits) ((c : Thread nD τ).loc cc0_scratch1))
    (x2 : Buf (Elt Bits) ((c : Thread nD τ).loc cc0_scratch2)) : Prop :=
  ∀ t : Fin (cfgT a).N, t.val + 1 = n → Used (crd a t) (tab1 a) → x1 = W1 a m ρ c t ∧ x3 = W3 a m ρ c t ∧ x2 = W2 a m ρ c t

/-! ## What each way through a step leaves -/

section
variable (c : Dev nD) (i : grid0.Coords) (arg3 : Memref sig .tc .vmem S512x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (T0 : S168.Idx → Elt Bits .i32) (T1 : S1.Idx → Elt Bits .i32)
  (x0 : S512x1024.Idx → Elt Bits .f32) (x1 x2 : S1x1x1024x512.Idx → Elt Bits .f32) (x3 : S1x1x512x1024.Idx → Elt Bits .f32)
  (xa0 : Buf (Elt Bits) ((c : Thread nD τ).loc cc0_scratch0)) (xa1 : Buf (Elt Bits) ((c : Thread nD τ).loc cc0_scratch1)) (xa2 : Buf (Elt Bits) ((c : Thread nD τ).loc cc0_scratch2))

theorem anew_held0 (h1 h2 h3) : (View.whole cc0_scratch0).read (Elt Bits) (kernelRun0_A c i arg3 harg3 arg4 harg4 arg5 harg5 arg6 harg6 arg7 harg7 T0 T1 x0 x1 x2 x3 h1 h2 h3).2.1 = k0_pay1 (F := Bits) x1 := by
  frame_out [View.read_rep]
  exact View.canon_cons_unit_lit (S := S1024x512) _ _ _ (by decide)

theorem anew_held1 (h1 h2 h3) : (View.whole cc0_scratch1).read (Elt Bits) (kernelRun0_A c i arg3 harg3 arg4 harg4 arg5 harg5 arg6 harg6 arg7 harg7 T0 T1 x0 x1 x2 x3 h1 h2 h3).2.2.1 = k0_pay2 (F := Bits) x2 := by
  frame_out [View.read_rep]
  exact View.canon_cons_unit_lit (S := S1024x512) _ _ _ (by decide)

theorem anew_held2 (h1 h2 h3) : (View.whole cc0_scratch2).read (Elt Bits) (kernelRun0_A c i arg3 harg3 arg4 harg4 arg5 harg5 arg6 harg6 arg7 harg7 T0 T1 x0 x1 x2 x3 h1 h2 h3).2.2.2.1 = k0_pay3 (F := Bits) x3 := by
  frame_out [View.read_rep]
  exact View.canon_cons_unit_lit (S := S512x1024) _ _ _ (by decide)

theorem anew_left (h1 h2 h3) : out0_A_4 c i arg3 harg3 arg4 harg4 arg5 harg5 arg6 harg6 arg7 harg7 T0 T1 x0 x1 x2 x3 h1 h2 h3 = k0_pay4 (F := Bits) x0 (k0_pay1 (F := Bits) x1) (k0_pay2 (F := Bits) x2) (k0_pay3 (F := Bits) x3) := by
  frame_out [View.read_rep]

theorem held_held0 (h1 h2 h3) : (kernelRun0_B c i arg3 harg3 arg4 harg4 arg5 harg5 arg6 harg6 arg7 harg7 T0 T1 x0 x1 x2 x3 xa0 xa1 xa2 h1 h2 h3).2.1 = xa0 := rfl

theorem held_held1 (h1 h2 h3) : (kernelRun0_B c i arg3 harg3 arg4 harg4 arg5 harg5 arg6 harg6 arg7 harg7 T0 T1 x0 x1 x2 x3 xa0 xa1 xa2 h1 h2 h3).2.2.1 = xa1 := rfl

theorem held_held2 (h1 h2 h3) : (kernelRun0_B c i arg3 harg3 arg4 harg4 arg5 harg5 arg6 harg6 arg7 harg7 T0 T1 x0 x1 x2 x3 xa0 xa1 xa2 h1 h2 h3).2.2.2.1 = xa2 := rfl

theorem unused_held0 (h1 h2 h3) : (kernelRun0_C c i arg3 harg3 arg4 harg4 arg5 harg5 arg6 harg6 arg7 harg7 T0 T1 x0 x1 x2 x3 xa0 xa1 xa2 h1 h2 h3).2.1 = xa0 := rfl

theorem unused_held1 (h1 h2 h3) : (kernelRun0_C c i arg3 harg3 arg4 harg4 arg5 harg5 arg6 harg6 arg7 harg7 T0 T1 x0 x1 x2 x3 xa0 xa1 xa2 h1 h2 h3).2.2.1 = xa1 := rfl

theorem unused_held2 (h1 h2 h3) : (kernelRun0_C c i arg3 harg3 arg4 harg4 arg5 harg5 arg6 harg6 arg7 harg7 T0 T1 x0 x1 x2 x3 xa0 xa1 xa2 h1 h2 h3).2.2.2.1 = xa2 := rfl

theorem held_left (h1 h2 h3) : out0_B_4 c i arg3 harg3 arg4 harg4 arg5 harg5 arg6 harg6 arg7 harg7 T0 T1 x0 x1 x2 x3 xa0 xa1 xa2 h1 h2 h3 = k0_pay4 (F := Bits) x0 xa0 xa1 xa2 := by
  frame_out [View.read_rep]
  rfl

theorem unused_left (h1 h2 h3) : out0_C_4 c i arg3 harg3 arg4 harg4 arg5 harg5 arg6 harg6 arg7 harg7 T0 T1 x0 x1 x2 x3 xa0 xa1 xa2 h1 h2 h3 = k0_pay5 (F := Bits) := by
  frame_out [View.read_rep]

end

/-! ## The proof data -/

/-- What holds before step `t`: the scratches hold the weights of the block before, and the body has its halves of the tables. -/
def Phi (c : Dev nD) (t : Fin ((cfgT a).N + 1)) : sProp Res :=
  iprop((∃ x1 x3 x2, ⌜Held a m ρ c t.val x1 x3 x2⌝ ∗ (scM0_0.view.loc (c : Thread nD τ) ↦{fullShare} x1) ∗ (scM0_1.view.loc (c : Thread nD τ) ↦{fullShare} x3)
      ∗ (scM0_2.view.loc (c : Thread nD τ) ↦{fullShare} x2))
    ∗ (tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt Bits) Unit ℕ (UR sig nD τ) ℕ (cfgT a) c where
  A w := (s₀ m ρ).mem (((cfgT a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => left a m ρ c t
  Φ t := Phi a m ρ c t
  q _ := fullShare
  owed _ := 0

theorem after0_0 (c : Dev nD) (t : Fin (cfgT a).N) : (dats a m ρ 0 c).after (0 : Fin 5) t = iblk a m ρ c (0 : Fin 5) t := rfl
theorem after0_1 (c : Dev nD) (t : Fin (cfgT a).N) : (dats a m ρ 0 c).after (1 : Fin 5) t = iblk a m ρ c (1 : Fin 5) t := rfl
theorem after0_2 (c : Dev nD) (t : Fin (cfgT a).N) : (dats a m ρ 0 c).after (2 : Fin 5) t = iblk a m ρ c (2 : Fin 5) t := rfl
theorem after0_3 (c : Dev nD) (t : Fin (cfgT a).N) : (dats a m ρ 0 c).after (3 : Fin 5) t = iblk a m ρ c (3 : Fin 5) t := rfl
theorem after0_4 (c : Dev nD) (t : Fin (cfgT a).N) : (dats a m ρ 0 c).after (4 : Fin 5) t = left a m ρ c t := rfl

theorem fetched0_0 (c : Dev nD) (t : Fin (cfgT a).N) (d) : (dats a m ρ 0 c).fetched (0 : Fin 5) t d = iblk a m ρ c (0 : Fin 5) t := by
  unfold Dat.fetched Dat.blockOf iblk; rfl

/-- Input window 0 holds its block when the body runs. -/
theorem before0_0 (c : Dev nD) (t : Fin (cfgT a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (fetched0_0 a m ρ c t d)

theorem fetched0_1 (c : Dev nD) (t : Fin (cfgT a).N) (d) : (dats a m ρ 0 c).fetched (1 : Fin 5) t d = iblk a m ρ c (1 : Fin 5) t := by
  unfold Dat.fetched Dat.blockOf iblk; rfl

/-- Input window 1 holds its block when the body runs. -/
theorem before0_1 (c : Dev nD) (t : Fin (cfgT a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (fetched0_1 a m ρ c t d)

theorem fetched0_2 (c : Dev nD) (t : Fin (cfgT a).N) (d) : (dats a m ρ 0 c).fetched (2 : Fin 5) t d = iblk a m ρ c (2 : Fin 5) t := by
  unfold Dat.fetched Dat.blockOf iblk; rfl

/-- Input window 2 holds its block when the body runs. -/
theorem before0_2 (c : Dev nD) (t : Fin (cfgT a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (fetched0_2 a m ρ c t d)

theorem fetched0_3 (c : Dev nD) (t : Fin (cfgT a).N) (d) : (dats a m ρ 0 c).fetched (3 : Fin 5) t d = iblk a m ρ c (3 : Fin 5) t := by
  unfold Dat.fetched Dat.blockOf iblk; rfl

/-- Input window 3 holds its block when the body runs. -/
theorem before0_3 (c : Dev nD) (t : Fin (cfgT a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (fetched0_3 a m ρ c t d)

/-! ## The weights held are the weights of the step's expert -/

theorem crd_val : ∀ t : Fin grid0.N, (grid0.coords t 0).val = t.val := by decide +kernel

theorem off2_succ : ∀ t : Fin grid0.N, ∀ h : t.val ≠ 0, k0_off2 (grid0.coords t) = k0_off1 (grid0.coords ⟨t.val - 1, by omega⟩) := by decide +kernel

theorem readAt_congr (T0 : S168.Idx → Elt Bits .i32) {o o' : Fin 1 → ℕ} (e : o = o') (h h') :
    View.readAt (Elt Bits) (tbM0_0).view (Rect.unit (s := S168) o S1.size h).toLoadRect T0 (Shape.Idx.first (numel1_S1.symm ▸ Nat.one_pos))
      = View.readAt (Elt Bits) (tbM0_0).view (Rect.unit (s := S168) o' S1.size h').toLoadRect T0 (Shape.Idx.first (numel1_S1.symm ▸ Nat.one_pos)) := by
  subst e; rfl

theorem before_eq (T0 : S168.Idx → Elt Bits .i32) (t : Fin grid0.N) (h : t.val ≠ 0) : before (grid0.coords t) T0 = here (grid0.coords ⟨t.val - 1, by omega⟩) T0 :=
  readAt_congr T0 (off2_succ t h) _ _

/-- A used block's predecessors are used. -/
theorem used_pred (T1 : S1.Idx → Elt Bits .i32) (t : Fin grid0.N) (h : t.val ≠ 0) (hu : Used (grid0.coords t) T1) : Used (grid0.coords ⟨t.val - 1, by omega⟩) T1 := by
  have hN : t.val < 168 := lt_of_lt_of_eq t.isLt N_0
  have h1 := (cond2_iff _ _).1 hu
  refine (cond2_iff _ _).2 ?_
  rw [crd_val] at h1 ⊢
  have key : ∀ (n : ℕ) (v : BitVec 32), n < 168 → (Scalar.cmpi .slt (BitVec.ofNat 32 n) v = 1#1 ↔ (n : ℤ) < v.toInt) := by
    intro n v hn
    have e : (BitVec.ofNat 32 n).toInt = (n : ℤ) := by
      rw [BitVec.toInt_ofNat']
      have : n < 2147483648 := by omega
      simp only [Int.bmod]
      omega
    show BitVec.ofBool ((BitVec.ofNat 32 n).slt v) = 1#1 ↔ _
    rw [BitVec.slt, e]
    by_cases hh : (n : ℤ) < v.toInt
    · simp [hh]
    · simp [hh]
  rw [key _ _ hN] at h1
  rw [key _ _ (by show t.val - 1 < 168; omega)]
  push_cast
  show ((t.val - 1 : ℕ) : ℤ) < _
  omega

/-- Two steps of one expert have one block of weights. -/
theorem same1 (c : Dev nD) (s t : Fin (cfgT a).N) (h : here (crd a s) (tab0 a) = here (crd a t) (tab0 a)) :
    W1 a m ρ c s = W1 a m ρ c t ∧ W3 a m ρ c s = W3 a m ρ c t ∧ W2 a m ρ c s = W2 a m ρ c t := by
  have e1 : iblk a m ρ c (1 : Fin 5) s = iblk a m ρ c (1 : Fin 5) t :=
    (fetched0_1 a m ρ c s default).symm.trans (((dats a m ρ 0 c).fetched_congr (1 : Fin 5)
      (show (![0, (here (crd a s) (tab0 a)).toNat, 0, 0] : Fin 4 → ℕ) = ![0, (here (crd a t) (tab0 a)).toNat, 0, 0] by rw [h]) rfl default).trans (fetched0_1 a m ρ c t default))
  have e2 : iblk a m ρ c (2 : Fin 5) s = iblk a m ρ c (2 : Fin 5) t :=
    (fetched0_2 a m ρ c s default).symm.trans (((dats a m ρ 0 c).fetched_congr (2 : Fin 5)
      (show (![0, (here (crd a s) (tab0 a)).toNat, 0, 0] : Fin 4 → ℕ) = ![0, (here (crd a t) (tab0 a)).toNat, 0, 0] by rw [h]) rfl default).trans (fetched0_2 a m ρ c t default))
  have e3 : iblk a m ρ c (3 : Fin 5) s = iblk a m ρ c (3 : Fin 5) t :=
    (fetched0_3 a m ρ c s default).symm.trans (((dats a m ρ 0 c).fetched_congr (3 : Fin 5)
      (show (![0, (here (crd a s) (tab0 a)).toNat, 0, 0] : Fin 4 → ℕ) = ![0, (here (crd a t) (tab0 a)).toNat, 0, 0] by rw [h]) rfl default).trans (fetched0_3 a m ρ c t default))
  exact ⟨congrArg (k0_pay1 (F := Bits)) e1, congrArg (k0_pay2 (F := Bits)) e2, congrArg (k0_pay3 (F := Bits)) e3⟩

/-- At a used block whose weights are not taken anew, the weights held are its own. -/
theorem held_same (c : Dev nD) (t : Fin (cfgT a).N) (hu : Used (crd a t) (tab1 a)) (hn : ¬ Anew (crd a t) (tab0 a) (tab1 a)) {x1 x3 x2}
    (h : Held a m ρ c t.val x1 x3 x2) : x1 = W1 a m ρ c t ∧ x3 = W3 a m ρ c t ∧ x2 = W2 a m ρ c t := by
  obtain ⟨h0, he⟩ := same_of_not_anew _ _ _ hu hn
  have ht : t.val ≠ 0 := fun e => h0 ((crd_val t).trans e)
  have hb := before_eq (tab0 a) t ht
  obtain ⟨g1, g2, g3⟩ := h ⟨t.val - 1, by omega⟩ (by show t.val - 1 + 1 = t.val; omega) (used_pred (tab1 a) t ht hu)
  obtain ⟨k1, k2, k3⟩ := same1 a m ρ c ⟨t.val - 1, by omega⟩ t (hb.symm.trans he.symm)
  exact ⟨g1.trans k1, g2.trans k2, g3.trans k3⟩

/-- The output's block is stored at every step. -/
theorem live4 (t : Fin (cfgT a).N) : (cfgT a).idle (4 : Fin 5) ((cfgT a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · rw [h]; rfl
  · rw [(cond3_iff _ _).2 h, Bool.and_eq_false_iff]; exact Or.inr rfl

theorem left_used (c : Dev nD) (t : Fin (cfgT a).N) (hu : Used (crd a t) (tab1 a)) :
    left a m ρ c t = k0_pay4 (F := Bits) (iblk a m ρ c (0 : Fin 5) t) (W1 a m ρ c t) (W3 a m ρ c t) (W2 a m ρ c t) := if_pos hu

theorem left_unused (c : Dev nD) (t : Fin (cfgT a).N) (hu : ¬ Used (crd a t) (tab1 a)) : left a m ρ c t = k0_pay5 (F := Bits) := if_neg hu

/-- What a step has to leave in the scratches. -/
theorem held_succ (c : Dev nD) (t : Fin (cfgT a).N) {x1 x3 x2} (h : Used (crd a t) (tab1 a) → x1 = W1 a m ρ c t ∧ x3 = W3 a m ρ c t ∧ x2 = W2 a m ρ c t) :
    Held a m ρ c (t.succ).val x1 x3 x2 := by
  intro s hs hu
  have e : s = t := Fin.ext (by rw [Fin.val_succ] at hs; omega)
  subst e
  exact h hu

/-! ## The body's obligation -/

/-- The body at point `t` on its staging memrefs. -/
abbrev bodyAt0 (t : Fin (cfgT a).N) : Prog (TpuEff nD τ sig (Elt Bits) Λ₀ .tc) PUnit :=
  cc0_moe_ffn (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

set_option maxHeartbeats 4000000 in
/-- The body's obligation at a point, by what the step decides. -/
theorem sound_body (c : Dev nD) (t : Fin (cfgT a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m ρ 0 c).before w t d))
                  | true => owns (c : Thread nD τ) (((cfgT a).win w).stage ((cfgT a).slots t w)) fullShare ((dats a m ρ 0 c).after w t)
                | false => owns (c : Thread nD τ) (((cfgT a).win w).stage ((cfgT a).slots t w)) fullShare ((dats a m ρ 0 c).after w t)) := by
  rw [bigSep_W0]
  rewrite [live4 a t]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%x1, %x3, %x2, %hh, HS0, HS1, HS2⟩, HT0, HT1⟩, Ho, ⟨%d0, H0⟩, ⟨%d1, H1⟩, ⟨%d2, H2⟩, ⟨%d3, H3⟩, ⟨%d4, H4⟩⟩
  by_cases hA : Anew (crd a t) (tab0 a) (tab1 a)
  · have hu : Used (crd a t) (tab1 a) := used_of_anew _ _ _ hA
    have h3 : ¬ Unused (crd a t) (tab1 a) := fun h => (cond3_iff _ _).1 h hu
    iapply ((kernelRun0_A c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) hA hu h3).2.2.2.2 x1 x3 x2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0 HS1 HS2]
      · iexists _, _, _
        isplitr; swap
        · isplitl [HS0]; · iexact HS0
          isplitl [HS1]; · iexact HS1
          iexact HS2
        · ipureintro
          exact held_succ a m ρ c t fun _ => ⟨anew_held0 c _ _ _ _ _ _ _ _ _ _ _ _ _ _ _ _ _ hA hu h3, anew_held1 c _ _ _ _ _ _ _ _ _ _ _ _ _ _ _ _ _ hA hu h3, anew_held2 c _ _ _ _ _ _ _ _ _ _ _ _ _ _ _ _ _ hA hu h3⟩
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      exact (View.read_writes_of_cover _ _ _ _ _ (cover0_A_4 c _ _ _ _ _ _ _ _ _ _ _ _ _ _ _ _ _ hA hu h3)).trans ((anew_left c _ _ _ _ _ _ _ _ _ _ _ _ _ _ _ _ _ hA hu h3).trans (left_used a m ρ c t hu).symm)
  · by_cases hu : Used (crd a t) (tab1 a)
    · have h3 : ¬ Unused (crd a t) (tab1 a) := fun h => (cond3_iff _ _).1 h hu
      obtain ⟨e1, e3, e2⟩ := held_same a m ρ c t hu hA hh
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) x1 x3 x2 hA hu h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0 HS1 HS2]
        · iexists x1, x3, x2
          isplitr; swap
          · isplitl [HS0]; · iexact HS0
            isplitl [HS1]; · iexact HS1
            iexact HS2
          · ipureintro
            exact held_succ a m ρ c t fun _ => ⟨e1, e3, e2⟩
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        refine (View.read_writes_of_cover _ _ _ _ _ (cover0_B_4 c _ _ _ _ _ _ _ _ _ _ _ _ _ _ _ _ _ _ _ _ hA hu h3)).trans ((held_left c _ _ _ _ _ _ _ _ _ _ _ _ _ _ _ _ _ _ _ _ hA hu h3).trans ?_)
        rw [e1, e3, e2]
        exact (left_used a m ρ c t hu).symm
    · have h3 : Unused (crd a t) (tab1 a) := (cond3_iff _ _).2 hu
      iapply ((kernelRun0_C c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) x1 x3 x2 hA hu h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0 HS1 HS2]
        · iexists x1, x3, x2
          isplitr; swap
          · isplitl [HS0]; · iexact HS0
            isplitl [HS1]; · iexact HS1
            iexact HS2
          · ipureintro
            exact held_succ a m ρ c t fun h => absurd h hu
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        exact (View.read_writes_of_cover _ _ _ _ _ (cover0_C_4 c _ _ _ _ _ _ _ _ _ _ _ _ _ _ _ _ _ _ _ _ hA hu h3)).trans ((unused_left c _ _ _ _ _ _ _ _ _ _ _ _ _ _ _ _ _ _ _ _ hA hu h3).trans (left_unused a m ρ c t hu).symm)

/-- The body's obligation at every point. -/
theorem body_obligation (c : Dev nD) : BodyObligation (dats a m ρ 0 c) (defs₀ (F := Bits)) Variants.none () Set.univ := fun t => by
  rw [bigSep_W0]
  exact sound_body a m ρ c t

/-! ## The launch -/

/-- The element the launch starts from. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgT a).W) : (dats a m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first step from the tables and the scratches; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%x1, HS0⟩, ⟨%x3, HS1⟩, ⟨%x2, HS2⟩⟩
  isplitl [HS0 HS1 HS2]
  · iexists x1, x3, x2
    isplitr; swap
    · isplitl [HS0]; · iexact HS0
      isplitl [HS1]; · iexact HS1
      iexact HS2
    · ipureintro
      intro s hs
      exact absurd hs (Nat.succ_ne_zero _)
  isplitl [HT0]
  · iexact HT0
  iexact HT1

/-- after the last the scratches are given back. -/
theorem phiN_exit (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Phi a m ρ c (Fin.last _) from rfl]
  unfold Phi
  iintro ⟨⟨%x1, %x3, %x2, -, HS0, HS1, HS2⟩, -, -⟩
  isplitr; · iempintro
  isplitl [HS0]
  · iexists x1; iexact HS0
  isplitl [HS1]
  · iexists x3; iexact HS1
  iexists x2; iexact HS2

/-- What the run leaves: every array at what its steps leave, every table as it was. -/
def QC : PUnit × MemSt nD τ sig (Elt Bits) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
/-- The whole run, and its counters. -/
theorem run_main_quiescent (hp : ∀ (c : Dev nD) (j : Fin 2), m ((c : Thread nD τ).loc (pre0.ref j)) = a.1 j) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : ∀ (c : Dev nD) (j : Fin 2), m ((c : Thread nD τ).loc (pre0.ref j)) = a.1 j) : θ_run (defs (F := Bits)) (onTc (τ := τ) (main (F := Bits))) (s₀ m ρ) (QC a m ρ) :=
  (θ_run defs _ _).mono (fun _ h => h.1) (run_main_quiescent a m ρ hp)

/-- `frame` without the counters: the argument arrays end unchanged. -/
theorem unchanged (hp : ∀ (c : Dev nD) (j : Fin 2), m ((c : Thread nD τ).loc (pre0.ref j)) = a.1 j) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp c 0).symm, ((h c).2 1).trans (hp c 1).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The call runs, leaves its arguments as they were, and leaves every counter at zero. -/
theorem frame (hp : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

/-! ## The tables of a memory -/

/-- The tables' contents in a memory. -/
def tables : pre0.Contents (Elt Bits) := fun j => m (((0 : Dev nD) : Thread nD τ).loc (pre0.ref j))

/-- Every block's expert is one of the experts. -/
def InRange : Prop := ∀ x : S168.Idx, ((m (((0 : Dev nD) : Thread nD τ).loc main_arg0) : S168.Idx → Elt Bits .i32) x : BitVec 32).toNat < 32

theorem ok_tables (h : InRange m) : ok0 (F := Bits) (tables m) := by
  have key : ∀ i : grid0.Coords, ((here i (tables m 0)) : BitVec 32).toNat < 32 := fun i => h _
  refine ⟨fun i => ⟨?_, .inl rfl⟩, fun i => ⟨?_, .inl rfl⟩, fun i => ⟨?_, .inl rfl⟩⟩
  · intro b
    have k := key i
    match b with
    | 0 => show (0 + 1) * 1 ≤ 2; decide
    | 1 => show ((here i (tables m 0) : BitVec 32).toNat + 1) * 1 ≤ 32; omega
    | 2 => show (0 + 1) * 1024 ≤ 1024; decide
    | 3 => show (0 + 1) * 512 ≤ 512; decide
  · intro b
    have k := key i
    match b with
    | 0 => show (0 + 1) * 1 ≤ 2; decide
    | 1 => show ((here i (tables m 0) : BitVec 32).toNat + 1) * 1 ≤ 32; omega
    | 2 => show (0 + 1) * 1024 ≤ 1024; decide
    | 3 => show (0 + 1) * 512 ≤ 512; decide
  · intro b
    have k := key i
    match b with
    | 0 => show (0 + 1) * 1 ≤ 2; decide
    | 1 => show ((here i (tables m 0) : BitVec 32).toNat + 1) * 1 ≤ 32; omega
    | 2 => show (0 + 1) * 512 ≤ 512; decide
    | 3 => show (0 + 1) * 1024 ≤ 1024; decide

/-- The tables of a memory whose blocks' experts are all experts, as the pipeline takes them. -/
def adm (h : InRange m) : (pcfg0 (F := Bits)).Adm := ⟨tables m, ok_tables m h⟩

theorem adm_eq (h : InRange m) (c : Dev nD) (j : Fin 2) : m ((c : Thread nD τ).loc (pre0.ref j)) = (adm m h).1 j := by
  obtain rfl : c = 0 := Subsingleton.elim _ _
  rfl

end Cert.Ffn.Pipe

end

end
-- ==== Proof.FfnIdealPipe.lean ====
/- The experts' products over the extended reals, run at whatever the tables of blocks' experts hold: what every step
   leaves in its block and in the three held weights, and the run of the whole call. -/
module

public import proofs.«01_k».proof.Proof.Gen.FfnIdeal.Flash.Runs
public import proofs.«01_k».proof.Proof.Gen.FfnIdeal.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.FfnIdeal.Pipe

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof is over. -/
abbrev Res := MT nD τ sig Unit (Elt Ideal) ℕ (UR sig nD τ) ℕ

/-- The staging cells' resources in them. -/
abbrev EP : Emb (UR sig nD τ) Res := emb₁

/-! ## The decisions of a step -/

/-- The count of used blocks, as a step reads it; -/
abbrev count (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- the expert of the step's block; -/
abbrev here (i : grid0.Coords) (T0 : S168.Idx → Elt Ideal .i32) : BitVec 32 :=
  View.readAt (Elt Ideal) (tbM0_0).view (Rect.unit (s := S168) (k0_off1 i) S1.size (k0_off1_inb i)).toLoadRect T0 (Shape.Idx.first (numel1_S1.symm ▸ Nat.one_pos))

/-- the expert of the block before it. -/
abbrev before (i : grid0.Coords) (T0 : S168.Idx → Elt Ideal .i32) : BitVec 32 :=
  View.readAt (Elt Ideal) (tbM0_0).view (Rect.unit (s := S168) (k0_off2 i) S1.size (k0_off2_inb i)).toLoadRect T0 (Shape.Idx.first (numel1_S1.symm ▸ Nat.one_pos))

/-- The step takes its expert's weights anew; -/
abbrev Anew (i : grid0.Coords) (T0 : S168.Idx → Elt Ideal .i32) (T1 : S1.Idx → Elt Ideal .i32) : Prop :=
  Scalar.cmpi .ne (Scalar.extui (Scalar.andi (Scalar.cmpi .slt (BitVec.ofNat 32 (i 0).val) (count T1))
    (Scalar.ori (Scalar.cmpi .eq (BitVec.ofNat 32 (i 0).val) 0#32) (Scalar.cmpi .ne (here i T0) (before i T0))))) 0#32 = 1#1

/-- the step's block is used; -/
abbrev Used (i : grid0.Coords) (T1 : S1.Idx → Elt Ideal .i32) : Prop := k0_cond2 i (count T1) = 1#1

/-- the step's block is unused. -/
abbrev Unused (i : grid0.Coords) (T1 : S1.Idx → Elt Ideal .i32) : Prop := k0_cond3 i (count T1) = 1#1

theorem cond2_iff (i : grid0.Coords) (v : BitVec 32) : k0_cond2 i v = 1#1 ↔ Scalar.cmpi .slt (BitVec.ofNat 32 (i 0).val) v = 1#1 := by
  unfold k0_cond2
  rcases BitVec.eq_zero_or_eq_one (Scalar.cmpi .slt (BitVec.ofNat 32 (i 0).val) v) with e | e <;> simp only [e] <;> decide

theorem cond3_iff (i : grid0.Coords) (v : BitVec 32) : k0_cond3 i v = 1#1 ↔ ¬ k0_cond2 i v = 1#1 := by
  unfold k0_cond2 k0_cond3
  rcases BitVec.eq_zero_or_eq_one (Scalar.cmpi .slt (BitVec.ofNat 32 (i 0).val) v) with e | e <;> simp only [e] <;> decide

theorem anew_iff (x y : BitVec 1) : Scalar.cmpi .ne ((Scalar.extui (Scalar.andi x y) : BitVec 32)) 0#32 = 1#1 ↔ x = 1#1 ∧ y = 1#1 := by
  rcases BitVec.eq_zero_or_eq_one x with rfl | rfl <;> rcases BitVec.eq_zero_or_eq_one y with rfl | rfl <;> decide

theorem ori_iff (x y : BitVec 1) : Scalar.ori x y = 1#1 ↔ x = 1#1 ∨ y = 1#1 := by
  rcases BitVec.eq_zero_or_eq_one x with rfl | rfl <;> rcases BitVec.eq_zero_or_eq_one y with rfl | rfl <;> decide

theorem used_of_anew (i : grid0.Coords) (T0 : S168.Idx → Elt Ideal .i32) (T1 : S1.Idx → Elt Ideal .i32) (h : Anew i T0 T1) : Used i T1 :=
  (cond2_iff i _).2 ((anew_iff _ _).1 h).1

/-- A used block whose weights are not taken anew is not the first, and has the expert of the block before it. -/
theorem same_of_not_anew (i : grid0.Coords) (T0 : S168.Idx → Elt Ideal .i32) (T1 : S1.Idx → Elt Ideal .i32) (hu : Used i T1) (h : ¬ Anew i T0 T1) :
    (i 0).val ≠ 0 ∧ here i T0 = before i T0 := by
  have h' : ¬ (Scalar.cmpi .eq (BitVec.ofNat 32 (i 0).val) 0#32 = 1#1 ∨ Scalar.cmpi .ne (here i T0) (before i T0) = 1#1) :=
    fun h' => h ((anew_iff _ _).2 ⟨(cond2_iff i _).1 hu, (ori_iff _ _).2 h'⟩)
  rw [not_or] at h'
  refine ⟨fun e => h'.1 (by rw [e]; decide), ?_⟩
  by_contra e
  refine h'.2 ?_
  have e' : (here i T0 != before i T0) = true := bne_iff_ne.2 e
  show BitVec.ofBool (here i T0 != before i T0) = 1#1
  rw [e']
  rfl

/-! ## The pipeline at the tables' contents -/

variable (a : (pcfg0 (F := Ideal)).Adm)

abbrev cfgT : Pipeline.Cfg sig Λ₀ := cfg0 (F := Ideal) a
abbrev pcs : Fin 1 → Pipeline.Cfg sig Λ₀ := Pipeline.pin (pcfgs (F := Ideal)) fun _ => a

/-- The tables: the blocks' experts, and the count of used blocks. -/
abbrev tab0 : S168.Idx → Elt Ideal .i32 := a.1 0
abbrev tab1 : S1.Idx → Elt Ideal .i32 := a.1 1

variable (m : (ℓ : Loc nD τ sig) → Buf (Elt Ideal) ℓ) (ρ : Dev nD → PrngReg)

abbrev crd (t : Fin (cfgT a).N) : (cfgT a).grid.Coords := (cfgT a).grid.coords t

abbrev ms0_0 (t : Fin (cfgT a).N) : Memref sig .tc .vmem S512x1024 .f32 := spec0_0.stage ((cfgT a).slots t (0 : Fin 5))
abbrev hs0_0 (t : Fin (cfgT a).N) : (ms0_0 a t).IsWhole := hstage0_0 (((cfgT a).slots t (0 : Fin 5)).cast nbuf0_0)
abbrev ms0_1 (t : Fin (cfgT a).N) : Memref sig .tc .vmem S1x1x1024x512 .f32 := spec0_1.stage ((cfgT a).slots t (1 : Fin 5))
abbrev hs0_1 (t : Fin (cfgT a).N) : (ms0_1 a t).IsWhole := hstage0_1 (((cfgT a).slots t (1 : Fin 5)).cast nbuf0_1)
abbrev ms0_2 (t : Fin (cfgT a).N) : Memref sig .tc .vmem S1x1x1024x512 .f32 := spec0_2.stage ((cfgT a).slots t (2 : Fin 5))
abbrev hs0_2 (t : Fin (cfgT a).N) : (ms0_2 a t).IsWhole := hstage0_2 (((cfgT a).slots t (2 : Fin 5)).cast nbuf0_2)
abbrev ms0_3 (t : Fin (cfgT a).N) : Memref sig .tc .vmem S1x1x512x1024 .f32 := spec0_3.stage ((cfgT a).slots t (3 : Fin 5))
abbrev hs0_3 (t : Fin (cfgT a).N) : (ms0_3 a t).IsWhole := hstage0_3 (((cfgT a).slots t (3 : Fin 5)).cast nbuf0_3)
abbrev ms0_4 (t : Fin (cfgT a).N) : Memref sig .tc .vmem S512x1024 .f32 := spec0_4.stage ((cfgT a).slots t (4 : Fin 5))
abbrev hs0_4 (t : Fin (cfgT a).N) : (ms0_4 a t).IsWhole := hstage0_4 (((cfgT a).slots t (4 : Fin 5)).cast nbuf0_4)

/-- Window `w`'s block at point `t`, read off its array. -/
def iblk (c : Dev nD) (w : Fin (cfgT a).W) (t : Fin (cfgT a).N) : (((cfgT a).win w).xblock (crd a t)).Idx → Elt Ideal ((cfgT a).win w).elt :=
  (((cfgT a).win w).blk t).view.read (Elt Ideal) ((s₀ m ρ).mem (((cfgT a).win w).arr.view.loc (c : Thread nD τ)))

/-- The weights of the step's expert, narrowed. -/
def W1 (c : Dev nD) (t : Fin (cfgT a).N) : Buf (Elt Ideal) ((c : Thread nD τ).loc cc0_scratch0) := k0_pay1 (F := Ideal) (iblk a m ρ c (1 : Fin 5) t)
def W3 (c : Dev nD) (t : Fin (cfgT a).N) : Buf (Elt Ideal) ((c : Thread nD τ).loc cc0_scratch1) := k0_pay2 (F := Ideal) (iblk a m ρ c (2 : Fin 5) t)
def W2 (c : Dev nD) (t : Fin (cfgT a).N) : Buf (Elt Ideal) ((c : Thread nD τ).loc cc0_scratch2) := k0_pay3 (F := Ideal) (iblk a m ρ c (3 : Fin 5) t)

open Classical in
/-- What a step leaves in its block: the product of a used one, the zeros of an unused one. -/
def left (c : Dev nD) (t : Fin (cfgT a).N) : S512x1024.Idx → Elt Ideal .f32 :=
  if Used (crd a t) (tab1 a) then k0_pay4 (F := Ideal) (iblk a m ρ c (0 : Fin 5) t) (W1 a m ρ c t) (W3 a m ρ c t) (W2 a m ρ c t) else k0_pay5 (F := Ideal)

/-- The weights held before step `n`: those of the block before, where it is used. -/
def Held (c : Dev nD) (n : ℕ) (x1 : Buf (Elt Ideal) ((c : Thread nD τ).loc cc0_scratch0)) (x3 : Buf (Elt Ideal) ((c : Thread nD τ).loc cc0_scratch1))
    (x2 : Buf (Elt Ideal) ((c : Thread nD τ).loc cc0_scratch2)) : Prop :=
  ∀ t : Fin (cfgT a).N, t.val + 1 = n → Used (crd a t) (tab1 a) → x1 = W1 a m ρ c t ∧ x3 = W3 a m ρ c t ∧ x2 = W2 a m ρ c t

/-! ## What each way through a step leaves -/

section
variable (c : Dev nD) (i : grid0.Coords) (arg3 : Memref sig .tc .vmem S512x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (T0 : S168.Idx → Elt Ideal .i32) (T1 : S1.Idx → Elt Ideal .i32)
  (x0 : S512x1024.Idx → Elt Ideal .f32) (x1 x2 : S1x1x1024x512.Idx → Elt Ideal .f32) (x3 : S1x1x512x1024.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem anew_held0 (h1 h2 h3) : (View.whole cc0_scratch0).read (Elt Ideal) (kernelRun0_A c i arg3 harg3 arg4 harg4 arg5 harg5 arg6 harg6 arg7 harg7 T0 T1 x0 x1 x2 x3 h1 h2 h3).2.1 = k0_pay1 (F := Ideal) x1 := by
  frame_out [View.read_rep]
  exact View.canon_cons_unit_lit (S := S1024x512) _ _ _ (by decide)

theorem anew_held1 (h1 h2 h3) : (View.whole cc0_scratch1).read (Elt Ideal) (kernelRun0_A c i arg3 harg3 arg4 harg4 arg5 harg5 arg6 harg6 arg7 harg7 T0 T1 x0 x1 x2 x3 h1 h2 h3).2.2.1 = k0_pay2 (F := Ideal) x2 := by
  frame_out [View.read_rep]
  exact View.canon_cons_unit_lit (S := S1024x512) _ _ _ (by decide)

theorem anew_held2 (h1 h2 h3) : (View.whole cc0_scratch2).read (Elt Ideal) (kernelRun0_A c i arg3 harg3 arg4 harg4 arg5 harg5 arg6 harg6 arg7 harg7 T0 T1 x0 x1 x2 x3 h1 h2 h3).2.2.2.1 = k0_pay3 (F := Ideal) x3 := by
  frame_out [View.read_rep]
  exact View.canon_cons_unit_lit (S := S512x1024) _ _ _ (by decide)

theorem anew_left (h1 h2 h3) : out0_A_4 c i arg3 harg3 arg4 harg4 arg5 harg5 arg6 harg6 arg7 harg7 T0 T1 x0 x1 x2 x3 h1 h2 h3 = k0_pay4 (F := Ideal) x0 (k0_pay1 (F := Ideal) x1) (k0_pay2 (F := Ideal) x2) (k0_pay3 (F := Ideal) x3) := by
  frame_out [View.read_rep]

theorem held_held0 (h1 h2 h3) : (kernelRun0_B c i arg3 harg3 arg4 harg4 arg5 harg5 arg6 harg6 arg7 harg7 T0 T1 x0 x1 x2 x3 xa0 xa1 xa2 h1 h2 h3).2.1 = xa0 := rfl

theorem held_held1 (h1 h2 h3) : (kernelRun0_B c i arg3 harg3 arg4 harg4 arg5 harg5 arg6 harg6 arg7 harg7 T0 T1 x0 x1 x2 x3 xa0 xa1 xa2 h1 h2 h3).2.2.1 = xa1 := rfl

theorem held_held2 (h1 h2 h3) : (kernelRun0_B c i arg3 harg3 arg4 harg4 arg5 harg5 arg6 harg6 arg7 harg7 T0 T1 x0 x1 x2 x3 xa0 xa1 xa2 h1 h2 h3).2.2.2.1 = xa2 := rfl

theorem unused_held0 (h1 h2 h3) : (kernelRun0_C c i arg3 harg3 arg4 harg4 arg5 harg5 arg6 harg6 arg7 harg7 T0 T1 x0 x1 x2 x3 xa0 xa1 xa2 h1 h2 h3).2.1 = xa0 := rfl

theorem unused_held1 (h1 h2 h3) : (kernelRun0_C c i arg3 harg3 arg4 harg4 arg5 harg5 arg6 harg6 arg7 harg7 T0 T1 x0 x1 x2 x3 xa0 xa1 xa2 h1 h2 h3).2.2.1 = xa1 := rfl

theorem unused_held2 (h1 h2 h3) : (kernelRun0_C c i arg3 harg3 arg4 harg4 arg5 harg5 arg6 harg6 arg7 harg7 T0 T1 x0 x1 x2 x3 xa0 xa1 xa2 h1 h2 h3).2.2.2.1 = xa2 := rfl

theorem held_left (h1 h2 h3) : out0_B_4 c i arg3 harg3 arg4 harg4 arg5 harg5 arg6 harg6 arg7 harg7 T0 T1 x0 x1 x2 x3 xa0 xa1 xa2 h1 h2 h3 = k0_pay4 (F := Ideal) x0 xa0 xa1 xa2 := by
  frame_out [View.read_rep]
  rfl

theorem unused_left (h1 h2 h3) : out0_C_4 c i arg3 harg3 arg4 harg4 arg5 harg5 arg6 harg6 arg7 harg7 T0 T1 x0 x1 x2 x3 xa0 xa1 xa2 h1 h2 h3 = k0_pay5 (F := Ideal) := by
  frame_out [View.read_rep]

end

/-! ## The proof data -/

/-- What holds before step `t`: the scratches hold the weights of the block before, and the body has its halves of the tables. -/
def Phi (c : Dev nD) (t : Fin ((cfgT a).N + 1)) : sProp Res :=
  iprop((∃ x1 x3 x2, ⌜Held a m ρ c t.val x1 x3 x2⌝ ∗ (scM0_0.view.loc (c : Thread nD τ) ↦{fullShare} x1) ∗ (scM0_1.view.loc (c : Thread nD τ) ↦{fullShare} x3)
      ∗ (scM0_2.view.loc (c : Thread nD τ) ↦{fullShare} x2))
    ∗ (tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt Ideal) Unit ℕ (UR sig nD τ) ℕ (cfgT a) c where
  A w := (s₀ m ρ).mem (((cfgT a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => left a m ρ c t
  Φ t := Phi a m ρ c t
  q _ := fullShare
  owed _ := 0

theorem after0_0 (c : Dev nD) (t : Fin (cfgT a).N) : (dats a m ρ 0 c).after (0 : Fin 5) t = iblk a m ρ c (0 : Fin 5) t := rfl
theorem after0_1 (c : Dev nD) (t : Fin (cfgT a).N) : (dats a m ρ 0 c).after (1 : Fin 5) t = iblk a m ρ c (1 : Fin 5) t := rfl
theorem after0_2 (c : Dev nD) (t : Fin (cfgT a).N) : (dats a m ρ 0 c).after (2 : Fin 5) t = iblk a m ρ c (2 : Fin 5) t := rfl
theorem after0_3 (c : Dev nD) (t : Fin (cfgT a).N) : (dats a m ρ 0 c).after (3 : Fin 5) t = iblk a m ρ c (3 : Fin 5) t := rfl
theorem after0_4 (c : Dev nD) (t : Fin (cfgT a).N) : (dats a m ρ 0 c).after (4 : Fin 5) t = left a m ρ c t := rfl

theorem fetched0_0 (c : Dev nD) (t : Fin (cfgT a).N) (d) : (dats a m ρ 0 c).fetched (0 : Fin 5) t d = iblk a m ρ c (0 : Fin 5) t := by
  unfold Dat.fetched Dat.blockOf iblk; rfl

/-- Input window 0 holds its block when the body runs. -/
theorem before0_0 (c : Dev nD) (t : Fin (cfgT a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (fetched0_0 a m ρ c t d)

theorem fetched0_1 (c : Dev nD) (t : Fin (cfgT a).N) (d) : (dats a m ρ 0 c).fetched (1 : Fin 5) t d = iblk a m ρ c (1 : Fin 5) t := by
  unfold Dat.fetched Dat.blockOf iblk; rfl

/-- Input window 1 holds its block when the body runs. -/
theorem before0_1 (c : Dev nD) (t : Fin (cfgT a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (fetched0_1 a m ρ c t d)

theorem fetched0_2 (c : Dev nD) (t : Fin (cfgT a).N) (d) : (dats a m ρ 0 c).fetched (2 : Fin 5) t d = iblk a m ρ c (2 : Fin 5) t := by
  unfold Dat.fetched Dat.blockOf iblk; rfl

/-- Input window 2 holds its block when the body runs. -/
theorem before0_2 (c : Dev nD) (t : Fin (cfgT a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (fetched0_2 a m ρ c t d)

theorem fetched0_3 (c : Dev nD) (t : Fin (cfgT a).N) (d) : (dats a m ρ 0 c).fetched (3 : Fin 5) t d = iblk a m ρ c (3 : Fin 5) t := by
  unfold Dat.fetched Dat.blockOf iblk; rfl

/-- Input window 3 holds its block when the body runs. -/
theorem before0_3 (c : Dev nD) (t : Fin (cfgT a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (fetched0_3 a m ρ c t d)

/-! ## The weights held are the weights of the step's expert -/

theorem crd_val : ∀ t : Fin grid0.N, (grid0.coords t 0).val = t.val := by decide +kernel

theorem off2_succ : ∀ t : Fin grid0.N, ∀ h : t.val ≠ 0, k0_off2 (grid0.coords t) = k0_off1 (grid0.coords ⟨t.val - 1, by omega⟩) := by decide +kernel

theorem readAt_congr (T0 : S168.Idx → Elt Ideal .i32) {o o' : Fin 1 → ℕ} (e : o = o') (h h') :
    View.readAt (Elt Ideal) (tbM0_0).view (Rect.unit (s := S168) o S1.size h).toLoadRect T0 (Shape.Idx.first (numel1_S1.symm ▸ Nat.one_pos))
      = View.readAt (Elt Ideal) (tbM0_0).view (Rect.unit (s := S168) o' S1.size h').toLoadRect T0 (Shape.Idx.first (numel1_S1.symm ▸ Nat.one_pos)) := by
  subst e; rfl

theorem before_eq (T0 : S168.Idx → Elt Ideal .i32) (t : Fin grid0.N) (h : t.val ≠ 0) : before (grid0.coords t) T0 = here (grid0.coords ⟨t.val - 1, by omega⟩) T0 :=
  readAt_congr T0 (off2_succ t h) _ _

/-- A used block's predecessors are used. -/
theorem used_pred (T1 : S1.Idx → Elt Ideal .i32) (t : Fin grid0.N) (h : t.val ≠ 0) (hu : Used (grid0.coords t) T1) : Used (grid0.coords ⟨t.val - 1, by omega⟩) T1 := by
  have hN : t.val < 168 := lt_of_lt_of_eq t.isLt N_0
  have h1 := (cond2_iff _ _).1 hu
  refine (cond2_iff _ _).2 ?_
  rw [crd_val] at h1 ⊢
  have key : ∀ (n : ℕ) (v : BitVec 32), n < 168 → (Scalar.cmpi .slt (BitVec.ofNat 32 n) v = 1#1 ↔ (n : ℤ) < v.toInt) := by
    intro n v hn
    have e : (BitVec.ofNat 32 n).toInt = (n : ℤ) := by
      rw [BitVec.toInt_ofNat']
      have : n < 2147483648 := by omega
      simp only [Int.bmod]
      omega
    show BitVec.ofBool ((BitVec.ofNat 32 n).slt v) = 1#1 ↔ _
    rw [BitVec.slt, e]
    by_cases hh : (n : ℤ) < v.toInt
    · simp [hh]
    · simp [hh]
  rw [key _ _ hN] at h1
  rw [key _ _ (by show t.val - 1 < 168; omega)]
  push_cast
  show ((t.val - 1 : ℕ) : ℤ) < _
  omega

/-- Two steps of one expert have one block of weights. -/
theorem same1 (c : Dev nD) (s t : Fin (cfgT a).N) (h : here (crd a s) (tab0 a) = here (crd a t) (tab0 a)) :
    W1 a m ρ c s = W1 a m ρ c t ∧ W3 a m ρ c s = W3 a m ρ c t ∧ W2 a m ρ c s = W2 a m ρ c t := by
  have e1 : iblk a m ρ c (1 : Fin 5) s = iblk a m ρ c (1 : Fin 5) t :=
    (fetched0_1 a m ρ c s default).symm.trans (((dats a m ρ 0 c).fetched_congr (1 : Fin 5)
      (show (![0, (here (crd a s) (tab0 a)).toNat, 0, 0] : Fin 4 → ℕ) = ![0, (here (crd a t) (tab0 a)).toNat, 0, 0] by rw [h]) rfl default).trans (fetched0_1 a m ρ c t default))
  have e2 : iblk a m ρ c (2 : Fin 5) s = iblk a m ρ c (2 : Fin 5) t :=
    (fetched0_2 a m ρ c s default).symm.trans (((dats a m ρ 0 c).fetched_congr (2 : Fin 5)
      (show (![0, (here (crd a s) (tab0 a)).toNat, 0, 0] : Fin 4 → ℕ) = ![0, (here (crd a t) (tab0 a)).toNat, 0, 0] by rw [h]) rfl default).trans (fetched0_2 a m ρ c t default))
  have e3 : iblk a m ρ c (3 : Fin 5) s = iblk a m ρ c (3 : Fin 5) t :=
    (fetched0_3 a m ρ c s default).symm.trans (((dats a m ρ 0 c).fetched_congr (3 : Fin 5)
      (show (![0, (here (crd a s) (tab0 a)).toNat, 0, 0] : Fin 4 → ℕ) = ![0, (here (crd a t) (tab0 a)).toNat, 0, 0] by rw [h]) rfl default).trans (fetched0_3 a m ρ c t default))
  exact ⟨congrArg (k0_pay1 (F := Ideal)) e1, congrArg (k0_pay2 (F := Ideal)) e2, congrArg (k0_pay3 (F := Ideal)) e3⟩

/-- At a used block whose weights are not taken anew, the weights held are its own. -/
theorem held_same (c : Dev nD) (t : Fin (cfgT a).N) (hu : Used (crd a t) (tab1 a)) (hn : ¬ Anew (crd a t) (tab0 a) (tab1 a)) {x1 x3 x2}
    (h : Held a m ρ c t.val x1 x3 x2) : x1 = W1 a m ρ c t ∧ x3 = W3 a m ρ c t ∧ x2 = W2 a m ρ c t := by
  obtain ⟨h0, he⟩ := same_of_not_anew _ _ _ hu hn
  have ht : t.val ≠ 0 := fun e => h0 ((crd_val t).trans e)
  have hb := before_eq (tab0 a) t ht
  obtain ⟨g1, g2, g3⟩ := h ⟨t.val - 1, by omega⟩ (by show t.val - 1 + 1 = t.val; omega) (used_pred (tab1 a) t ht hu)
  obtain ⟨k1, k2, k3⟩ := same1 a m ρ c ⟨t.val - 1, by omega⟩ t (hb.symm.trans he.symm)
  exact ⟨g1.trans k1, g2.trans k2, g3.trans k3⟩

/-- The output's block is stored at every step. -/
theorem live4 (t : Fin (cfgT a).N) : (cfgT a).idle (4 : Fin 5) ((cfgT a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · rw [h]; rfl
  · rw [(cond3_iff _ _).2 h, Bool.and_eq_false_iff]; exact Or.inr rfl

theorem left_used (c : Dev nD) (t : Fin (cfgT a).N) (hu : Used (crd a t) (tab1 a)) :
    left a m ρ c t = k0_pay4 (F := Ideal) (iblk a m ρ c (0 : Fin 5) t) (W1 a m ρ c t) (W3 a m ρ c t) (W2 a m ρ c t) := if_pos hu

theorem left_unused (c : Dev nD) (t : Fin (cfgT a).N) (hu : ¬ Used (crd a t) (tab1 a)) : left a m ρ c t = k0_pay5 (F := Ideal) := if_neg hu

/-- What a step has to leave in the scratches. -/
theorem held_succ (c : Dev nD) (t : Fin (cfgT a).N) {x1 x3 x2} (h : Used (crd a t) (tab1 a) → x1 = W1 a m ρ c t ∧ x3 = W3 a m ρ c t ∧ x2 = W2 a m ρ c t) :
    Held a m ρ c (t.succ).val x1 x3 x2 := by
  intro s hs hu
  have e : s = t := Fin.ext (by rw [Fin.val_succ] at hs; omega)
  subst e
  exact h hu

/-! ## The body's obligation -/

/-- The body at point `t` on its staging memrefs. -/
abbrev bodyAt0 (t : Fin (cfgT a).N) : Prog (TpuEff nD τ sig (Elt Ideal) Λ₀ .tc) PUnit :=
  cc0_moe_ffn (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

set_option maxHeartbeats 4000000 in
/-- The body's obligation at a point, by what the step decides. -/
theorem sound_body (c : Dev nD) (t : Fin (cfgT a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m ρ 0 c).before w t d))
                  | true => owns (c : Thread nD τ) (((cfgT a).win w).stage ((cfgT a).slots t w)) fullShare ((dats a m ρ 0 c).after w t)
                | false => owns (c : Thread nD τ) (((cfgT a).win w).stage ((cfgT a).slots t w)) fullShare ((dats a m ρ 0 c).after w t)) := by
  rw [bigSep_W0]
  rewrite [live4 a t]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%x1, %x3, %x2, %hh, HS0, HS1, HS2⟩, HT0, HT1⟩, Ho, ⟨%d0, H0⟩, ⟨%d1, H1⟩, ⟨%d2, H2⟩, ⟨%d3, H3⟩, ⟨%d4, H4⟩⟩
  by_cases hA : Anew (crd a t) (tab0 a) (tab1 a)
  · have hu : Used (crd a t) (tab1 a) := used_of_anew _ _ _ hA
    have h3 : ¬ Unused (crd a t) (tab1 a) := fun h => (cond3_iff _ _).1 h hu
    iapply ((kernelRun0_A c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) hA hu h3).2.2.2.2 x1 x3 x2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0 HS1 HS2]
      · iexists _, _, _
        isplitr; swap
        · isplitl [HS0]; · iexact HS0
          isplitl [HS1]; · iexact HS1
          iexact HS2
        · ipureintro
          exact held_succ a m ρ c t fun _ => ⟨anew_held0 c _ _ _ _ _ _ _ _ _ _ _ _ _ _ _ _ _ hA hu h3, anew_held1 c _ _ _ _ _ _ _ _ _ _ _ _ _ _ _ _ _ hA hu h3, anew_held2 c _ _ _ _ _ _ _ _ _ _ _ _ _ _ _ _ _ hA hu h3⟩
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      exact (View.read_writes_of_cover _ _ _ _ _ (cover0_A_4 c _ _ _ _ _ _ _ _ _ _ _ _ _ _ _ _ _ hA hu h3)).trans ((anew_left c _ _ _ _ _ _ _ _ _ _ _ _ _ _ _ _ _ hA hu h3).trans (left_used a m ρ c t hu).symm)
  · by_cases hu : Used (crd a t) (tab1 a)
    · have h3 : ¬ Unused (crd a t) (tab1 a) := fun h => (cond3_iff _ _).1 h hu
      obtain ⟨e1, e3, e2⟩ := held_same a m ρ c t hu hA hh
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) x1 x3 x2 hA hu h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0 HS1 HS2]
        · iexists x1, x3, x2
          isplitr; swap
          · isplitl [HS0]; · iexact HS0
            isplitl [HS1]; · iexact HS1
            iexact HS2
          · ipureintro
            exact held_succ a m ρ c t fun _ => ⟨e1, e3, e2⟩
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        refine (View.read_writes_of_cover _ _ _ _ _ (cover0_B_4 c _ _ _ _ _ _ _ _ _ _ _ _ _ _ _ _ _ _ _ _ hA hu h3)).trans ((held_left c _ _ _ _ _ _ _ _ _ _ _ _ _ _ _ _ _ _ _ _ hA hu h3).trans ?_)
        rw [e1, e3, e2]
        exact (left_used a m ρ c t hu).symm
    · have h3 : Unused (crd a t) (tab1 a) := (cond3_iff _ _).2 hu
      iapply ((kernelRun0_C c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a m ρ c (0 : Fin 5) t) (iblk a m ρ c (1 : Fin 5) t) (iblk a m ρ c (2 : Fin 5) t) (iblk a m ρ c (3 : Fin 5) t) x1 x3 x2 hA hu h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0 HS1 HS2]
        · iexists x1, x3, x2
          isplitr; swap
          · isplitl [HS0]; · iexact HS0
            isplitl [HS1]; · iexact HS1
            iexact HS2
          · ipureintro
            exact held_succ a m ρ c t fun h => absurd h hu
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        exact (View.read_writes_of_cover _ _ _ _ _ (cover0_C_4 c _ _ _ _ _ _ _ _ _ _ _ _ _ _ _ _ _ _ _ _ hA hu h3)).trans ((unused_left c _ _ _ _ _ _ _ _ _ _ _ _ _ _ _ _ _ _ _ _ hA hu h3).trans (left_unused a m ρ c t hu).symm)

/-- The body's obligation at every point. -/
theorem body_obligation (c : Dev nD) : BodyObligation (dats a m ρ 0 c) (defs₀ (F := Ideal)) Variants.none () Set.univ := fun t => by
  rw [bigSep_W0]
  exact sound_body a m ρ c t

/-! ## The launch -/

/-- The element the launch starts from. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgT a).W) : (dats a m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first step from the tables and the scratches; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%x1, HS0⟩, ⟨%x3, HS1⟩, ⟨%x2, HS2⟩⟩
  isplitl [HS0 HS1 HS2]
  · iexists x1, x3, x2
    isplitr; swap
    · isplitl [HS0]; · iexact HS0
      isplitl [HS1]; · iexact HS1
      iexact HS2
    · ipureintro
      intro s hs
      exact absurd hs (Nat.succ_ne_zero _)
  isplitl [HT0]
  · iexact HT0
  iexact HT1

/-- after the last the scratches are given back. -/
theorem phiN_exit (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Phi a m ρ c (Fin.last _) from rfl]
  unfold Phi
  iintro ⟨⟨%x1, %x3, %x2, -, HS0, HS1, HS2⟩, -, -⟩
  isplitr; · iempintro
  isplitl [HS0]
  · iexists x1; iexact HS0
  isplitl [HS1]
  · iexists x3; iexact HS1
  iexists x2; iexact HS2

/-- What the run leaves: every array at what its steps leave, every table as it was. -/
def QC : PUnit × MemSt nD τ sig (Elt Ideal) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
/-- The whole run, and its counters. -/
theorem run_main_quiescent (hp : ∀ (c : Dev nD) (j : Fin 2), m ((c : Thread nD τ).loc (pre0.ref j)) = a.1 j) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : ∀ (c : Dev nD) (j : Fin 2), m ((c : Thread nD τ).loc (pre0.ref j)) = a.1 j) : θ_run (defs (F := Ideal)) (onTc (τ := τ) (main (F := Ideal))) (s₀ m ρ) (QC a m ρ) :=
  (θ_run defs _ _).mono (fun _ h => h.1) (run_main_quiescent a m ρ hp)

/-- `frame` without the counters: the argument arrays end unchanged. -/
theorem unchanged (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp c 0).symm, ((h c).2 1).trans (hp c 1).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hp)

/-- The call runs, leaves its arguments as they were, and leaves every counter at zero. -/
theorem frame (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hp) ((θ_run defs _ _).mono (fun _ h => h.2) (run_main_quiescent a m ρ hp))

/-! ## The tables of a memory -/

/-- The tables' contents in a memory. -/
def tables : pre0.Contents (Elt Ideal) := fun j => m (((0 : Dev nD) : Thread nD τ).loc (pre0.ref j))

/-- Every block's expert is one of the experts. -/
def InRange : Prop := ∀ x : S168.Idx, ((m (((0 : Dev nD) : Thread nD τ).loc main_arg0) : S168.Idx → Elt Ideal .i32) x : BitVec 32).toNat < 32

theorem ok_tables (h : InRange m) : ok0 (F := Ideal) (tables m) := by
  have key : ∀ i : grid0.Coords, ((here i (tables m 0)) : BitVec 32).toNat < 32 := fun i => h _
  refine ⟨fun i => ⟨?_, .inl rfl⟩, fun i => ⟨?_, .inl rfl⟩, fun i => ⟨?_, .inl rfl⟩⟩
  · intro b
    have k := key i
    match b with
    | 0 => show (0 + 1) * 1 ≤ 2; decide
    | 1 => show ((here i (tables m 0) : BitVec 32).toNat + 1) * 1 ≤ 32; omega
    | 2 => show (0 + 1) * 1024 ≤ 1024; decide
    | 3 => show (0 + 1) * 512 ≤ 512; decide
  · intro b
    have k := key i
    match b with
    | 0 => show (0 + 1) * 1 ≤ 2; decide
    | 1 => show ((here i (tables m 0) : BitVec 32).toNat + 1) * 1 ≤ 32; omega
    | 2 => show (0 + 1) * 1024 ≤ 1024; decide
    | 3 => show (0 + 1) * 512 ≤ 512; decide
  · intro b
    have k := key i
    match b with
    | 0 => show (0 + 1) * 1 ≤ 2; decide
    | 1 => show ((here i (tables m 0) : BitVec 32).toNat + 1) * 1 ≤ 32; omega
    | 2 => show (0 + 1) * 512 ≤ 512; decide
    | 3 => show (0 + 1) * 1024 ≤ 1024; decide

/-- The tables of a memory whose blocks' experts are all experts, as the pipeline takes them. -/
def adm (h : InRange m) : (pcfg0 (F := Ideal)).Adm := ⟨tables m, ok_tables m h⟩

theorem adm_eq (h : InRange m) (c : Dev nD) (j : Fin 2) : m ((c : Thread nD τ).loc (pre0.ref j)) = (adm m h).1 j := by
  obtain rfl : c = 0 := Subsingleton.elim _ _
  rfl

end Cert.FfnIdeal.Pipe

end

end
-- ==== Proof.FfnSpec.lean ====
/- The experts' product over the extended reals, row by row. -/
module

public import Idealize.ShloMosaic.Lib.Pointwise

@[expose] public section

set_option maxRecDepth 16384

noncomputable section

namespace Cert.Experts

open Idealize.ShloMosaic

/-- A row through an expert's two first matrices, the one gated by the other's sigmoid. -/
def hidden (x : Fin 1024 → EReal) (w1 w3 : Fin 1024 → Fin 512 → EReal) (f : Fin 512) : EReal :=
  (∑ k, x k * w1 k f) * Ideal.logistic (∑ k, x k * w1 k f) * ∑ k, x k * w3 k f

/-- The arguments, entry by entry: the rows, the experts' matrices, the blocks' experts and the count of used blocks. -/
structure Args where
  x : Fin 86016 → Fin 1024 → EReal
  w1 : Fin 32 → Fin 1024 → Fin 512 → EReal
  w3 : Fin 32 → Fin 1024 → Fin 512 → EReal
  w2 : Fin 32 → Fin 512 → Fin 1024 → EReal
  blk : Fin 168 → BitVec 32
  n : BitVec 32

/-- The expert of a block. -/
def Args.ex (A : Args) (b : Fin 168) : Fin 32 := ⟨(A.blk b).toNat % 32, by omega⟩

/-- The result: row `R` through the expert of its block, where the block is used, else zero. -/
def Args.res (A : Args) (R : Fin 86016) (d : Fin 1024) : EReal :=
  Scalar.select (IntOp.cmpi .slt (BitVec.ofNat 32 (R.val / 512)) A.n)
    (∑ f, hidden (A.x R) (A.w1 (A.ex ⟨R.val / 512, by omega⟩)) (A.w3 (A.ex ⟨R.val / 512, by omega⟩)) f * A.w2 (A.ex ⟨R.val / 512, by omega⟩) f d) 0

end Cert.Experts

end

end
-- ==== Proof.FfnBody.lean ====
/- One step of the experts' product, entry by entry. -/
module

public import proofs.«01_k».proof.Proof.Gen.FfnIdeal.Skeleton
public import proofs.«01_k».proof.Proof.Gen.FfnIdeal.Launch
public import proofs.«01_k».proof.Proof.FfnSpec
public import Idealize.ShloMosaic.Lib.Tactic
public import Idealize.ShloMosaic.Lib.Pointwise

@[expose] public section

set_option maxRecDepth 16384

noncomputable section

namespace Cert.FfnIdeal.Body

open Cert.FfnIdeal Cert.FfnIdeal.Gen Idealize.ShloMosaic Cert.Experts

theorem pay1_apply (w : Vec Ideal S1x1x1024x512 .f32) (k : Fin 1024) (f : Fin 512) : k0_pay1 (F := Ideal) w (ix2 k f) = w (ix4 0 0 k f) := by
  pointwise [k0_pay1]

theorem pay2_apply (w : Vec Ideal S1x1x1024x512 .f32) (k : Fin 1024) (f : Fin 512) : k0_pay2 (F := Ideal) w (ix2 k f) = w (ix4 0 0 k f) := by
  pointwise [k0_pay2]

theorem pay3_apply (w : Vec Ideal S1x1x512x1024 .f32) (f : Fin 512) (d : Fin 1024) : k0_pay3 (F := Ideal) w (ix2 f d) = w (ix4 0 0 f d) := by
  pointwise [k0_pay3]

theorem pay4_apply (x : Vec Ideal S512x1024 .f32) (w1 w3 : Vec Ideal S1024x512 .bf16) (w2 : Vec Ideal S512x1024 .bf16) (r : Fin 512) (d : Fin 1024) :
    k0_pay4 (F := Ideal) x w1 w3 w2 (ix2 r d)
      = ∑ f : Fin 512, hidden (fun k => x (ix2 r k)) (fun k f => w1 (ix2 k f)) (fun k f => w3 (ix2 k f)) f * w2 (ix2 f d) := by
  pointwise [k0_pay4]
  rfl

theorem pay5_apply (r : Fin 512) (d : Fin 1024) : k0_pay5 (F := Ideal) (ix2 r d) = 0 := by
  pointwise [k0_pay5]

end Cert.FfnIdeal.Body

end

end
-- ==== Proof.FfnFinal.lean ====
/- The whole result of the experts' product. -/
module

public import proofs.«01_k».proof.Proof.FfnIdealPipe
public import proofs.«01_k».proof.Proof.FfnBody

@[expose] public section

set_option maxRecDepth 16384

noncomputable section

namespace Cert.FfnIdeal.Final

open Cert.FfnIdeal Cert.FfnIdeal.Gen Cert.FfnIdeal.Pipe Cert.FfnIdeal.Body Cert.Experts
open Idealize.ShloMosaic Idealize.ShloMosaic.TcCoe Idealize.SL.Sem
open Idealize.ShloMosaic.Pipeline (Window Dat)

variable (a : (pcfg0 (F := Ideal)).Adm) (m : (ℓ : Loc nD τ sig) → Buf (Elt Ideal) ℓ) (ρ : Dev nD → PrngReg) (c : Dev nD) (t : Fin (cfgT a).N)

/-- The arguments, entry by entry; the blocks' experts and the count of used blocks are the tables'. -/
def args : Args where
  x R k := m ((c : Thread nD τ).loc main_arg2) (ix2 R k)
  w1 e k f := m ((c : Thread nD τ).loc main_arg3) (ix4 0 e k f)
  w3 e k f := m ((c : Thread nD τ).loc main_arg4) (ix4 0 e k f)
  w2 e f d := m ((c : Thread nD τ).loc main_arg5) (ix4 0 e f d)
  blk b := tab0 a (ix1 b)
  n := tab1 a (ix1 0)

theorem lt168 : t.val < 168 := t.isLt

/-- A step's rows. -/
def R (r : Fin 512) : Fin 86016 := ⟨t.val * 512 + r.val, by have := lt168 a t; omega⟩

/-- A step's block. -/
def B : Fin 168 := ⟨t.val, lt168 a t⟩

theorem tr0 : ∀ t : Fin grid0.N, cc0_transform_0 (grid0.coords t) = ![t.val, 0] := by decide +kernel
theorem tr4 : ∀ t : Fin grid0.N, cc0_transform_4 (grid0.coords t) = ![t.val, 0] := by decide +kernel
theorem off1 : ∀ t : Fin grid0.N, k0_off1 (grid0.coords t) = ![t.val] := by decide +kernel

theorem here_eq : here (crd a t) (tab0 a) = tab0 a (ix1 (B a t)) := by
  refine (readAt_congr (tab0 a) (off1 t) _ (fun x => by match x with | 0 => exact lt168 a t)).trans ?_
  refine congrArg (tab0 a) (funext fun x => Fin.ext ?_)
  match x with
  | 0 => rfl

theorem blk0 (r : Fin 512) (k : Fin 1024) : iblk a m ρ c (0 : Fin 5) t (ix2 r k) = (args a m c).x (R a t r) k := by
  show m ((c : Thread nD τ).loc main_arg2) ((((cfgT a).win (0 : Fin 5)).blk t).view.emb (ix2 r k)) = _
  refine congrArg (m ((c : Thread nD τ).loc main_arg2)) (funext fun x => Fin.ext ?_)
  match x with
  | 0 =>
    show cc0_transform_0 (grid0.coords t) 0 * 512 + 1 * r.val = t.val * 512 + r.val
    rw [tr0]
    show t.val * 512 + 1 * r.val = _
    omega
  | 1 =>
    show cc0_transform_0 (grid0.coords t) 1 * 1024 + 1 * k.val = k.val
    rw [tr0]
    show 0 * 1024 + 1 * k.val = _
    omega

theorem blk1 (h : (tab0 a (ix1 (B a t)) : BitVec 32).toNat < 32) (k : Fin 1024) (f : Fin 512) : iblk a m ρ c (1 : Fin 5) t (ix4 0 0 k f) = (args a m c).w1 ((args a m c).ex (B a t)) k f := by
  show m ((c : Thread nD τ).loc main_arg3) ((((cfgT a).win (1 : Fin 5)).blk t).view.emb (ix4 0 0 k f)) = _
  refine congrArg (m ((c : Thread nD τ).loc main_arg3)) (funext fun x => Fin.ext ?_)
  match x with
  | 0 => rfl
  | 1 =>
    show (here (crd a t) (tab0 a)).toNat * 1 + 1 * 0 = (tab0 a (ix1 (B a t)) : BitVec 32).toNat % 32
    rw [here_eq, Nat.mod_eq_of_lt h]
    omega
  | 2 =>
    show 0 * 1024 + 1 * k.val = k.val
    omega
  | 3 =>
    show 0 * 512 + 1 * f.val = f.val
    omega

theorem blk2 (h : (tab0 a (ix1 (B a t)) : BitVec 32).toNat < 32) (k : Fin 1024) (f : Fin 512) : iblk a m ρ c (2 : Fin 5) t (ix4 0 0 k f) = (args a m c).w3 ((args a m c).ex (B a t)) k f := by
  show m ((c : Thread nD τ).loc main_arg4) ((((cfgT a).win (2 : Fin 5)).blk t).view.emb (ix4 0 0 k f)) = _
  refine congrArg (m ((c : Thread nD τ).loc main_arg4)) (funext fun x => Fin.ext ?_)
  match x with
  | 0 => rfl
  | 1 =>
    show (here (crd a t) (tab0 a)).toNat * 1 + 1 * 0 = (tab0 a (ix1 (B a t)) : BitVec 32).toNat % 32
    rw [here_eq, Nat.mod_eq_of_lt h]
    omega
  | 2 =>
    show 0 * 1024 + 1 * k.val = k.val
    omega
  | 3 =>
    show 0 * 512 + 1 * f.val = f.val
    omega

theorem blk3 (h : (tab0 a (ix1 (B a t)) : BitVec 32).toNat < 32) (f : Fin 512) (d : Fin 1024) : iblk a m ρ c (3 : Fin 5) t (ix4 0 0 f d) = (args a m c).w2 ((args a m c).ex (B a t)) f d := by
  show m ((c : Thread nD τ).loc main_arg5) ((((cfgT a).win (3 : Fin 5)).blk t).view.emb (ix4 0 0 f d)) = _
  refine congrArg (m ((c : Thread nD τ).loc main_arg5)) (funext fun x => Fin.ext ?_)
  match x with
  | 0 => rfl
  | 1 =>
    show (here (crd a t) (tab0 a)).toNat * 1 + 1 * 0 = (tab0 a (ix1 (B a t)) : BitVec 32).toNat % 32
    rw [here_eq, Nat.mod_eq_of_lt h]
    omega
  | 2 =>
    show 0 * 512 + 1 * f.val = f.val
    omega
  | 3 =>
    show 0 * 1024 + 1 * d.val = d.val
    omega

/-- A block is used where its number is below the count. -/
theorem used_iff : Used (crd a t) (tab1 a) ↔ IntOp.cmpi .slt (BitVec.ofNat 32 t.val) (args a m c).n = 1#1 := by
  have e : count (tab1 a) = (args a m c).n := congrArg (tab1 a) (funext fun x => by match x with | 0 => rfl)
  refine (cond2_iff _ _).trans ?_
  rw [e, crd_val t]
  exact Iff.rfl

/-- One entry of the block a step leaves. -/
theorem left_apply (h : ∀ b, (tab0 a (ix1 b) : BitVec 32).toNat < 32) (r : Fin 512) (d : Fin 1024) : left a m ρ c t (ix2 r d) = (args a m c).res (R a t r) d := by
  have eb : (⟨(R a t r).val / 512, by have := (R a t r).isLt; omega⟩ : Fin 168) = B a t := Fin.ext (by show (t.val * 512 + r.val) / 512 = t.val; omega)
  have en : (R a t r).val / 512 = t.val := by show (t.val * 512 + r.val) / 512 = t.val; omega
  unfold Args.res
  rw [eb, en]
  by_cases hu : Used (crd a t) (tab1 a)
  · rw [left_used a m ρ c t hu, (used_iff a m c t).1 hu]
    refine (pay4_apply _ _ _ _ r d).trans ?_
    refine Eq.trans ?_ (if_pos rfl).symm
    unfold W1 W3 W2
    simp only [pay1_apply, pay2_apply, pay3_apply, blk0, blk1 a m ρ c t (h _), blk2 a m ρ c t (h _), blk3 a m ρ c t (h _)]
  · rw [left_unused a m ρ c t hu]
    exact (pay5_apply r d).trans (if_neg fun e => hu ((used_iff a m c t).2 e)).symm

theorem flush4 : ∀ t : Fin grid0.N, Window.flushOf grid0 true cc0_transform_4 t = true := by decide +kernel

/-- The blocks written make up the array. -/
theorem covers4 : ((cfgT a).win (4 : Fin 5)).Covers := by
  refine ⟨fun x => ?_, fun β => ?_⟩
  · match x with
    | 0 => show 0 < 512; omega
    | 1 => show 0 < 1024; omega
  · have h0 : (β (0 : Fin 2)).val < 168 :=
      lt_of_lt_of_eq (β (0 : Fin 2)).isLt (show (86016 + 512 - 1) / 512 = 168 by omega)
    have h1 : (β (1 : Fin 2)).val < 1 :=
      lt_of_lt_of_eq (β (1 : Fin 2)).isLt (show (1024 + 1024 - 1) / 1024 = 1 by omega)
    refine ⟨⟨(β (0 : Fin 2)).val, h0⟩, flush4 _, fun x => ⟨?_, Or.inl rfl⟩⟩
    match x with
    | 0 => exact congrFun (tr4 ⟨_, h0⟩) 0
    | 1 =>
      refine (congrFun (tr4 ⟨_, h0⟩) 1).trans ?_
      show 0 = (β (1 : Fin 2)).val
      omega

/-- The whole result, from the arguments. -/
def resAll (A : Args) : FVec Ideal S86016x1024 .f32 := fun y => A.res (y 0) (y 1)

/-- The array after the run. -/
theorem arr4 (h : ∀ b, (tab0 a (ix1 b) : BitVec 32).toNat < 32) : (dats a m ρ 0 c).arrAt (4 : Fin 5) (cfgT a).N = resAll (args a m c) := by
  refine (dats a m ρ 0 c).arrAt_eq_of_covers (4 : Fin 5) _ (covers4 a) (fun t hf y => ?_) (Memref.isWhole_whole _)
  show left a m ρ c t y = (args a m c).res ((((cfgT a).win (4 : Fin 5)).blk t).view.emb y (0 : Fin 2)) ((((cfgT a).win (4 : Fin 5)).blk t).view.emb y (1 : Fin 2))
  have hy : y = ix2 (y (0 : Fin 2) : Fin 512) (y (1 : Fin 2) : Fin 1024) := by
    funext x
    match x with
    | 0 => rfl
    | 1 => rfl
  have e0 : (((cfgT a).win (4 : Fin 5)).blk t).view.emb y (0 : Fin 2) = R a t (y (0 : Fin 2) : Fin 512) := by
    refine Fin.ext ?_
    show cc0_transform_4 (grid0.coords t) 0 * 512 + 1 * (y (0 : Fin 2)).val = t.val * 512 + (y (0 : Fin 2)).val
    rw [tr4]
    show t.val * 512 + 1 * _ = _
    omega
  have e1 : (((cfgT a).win (4 : Fin 5)).blk t).view.emb y (1 : Fin 2) = (y (1 : Fin 2) : Fin 1024) := by
    refine Fin.ext ?_
    show cc0_transform_4 (grid0.coords t) 1 * 1024 + 1 * (y (1 : Fin 2)).val = (y (1 : Fin 2)).val
    rw [tr4]
    show 0 * 1024 + 1 * _ = _
    omega
  refine (congrArg (left a m ρ c t) hy).trans ((left_apply a m ρ c t h (y (0 : Fin 2)) (y (1 : Fin 2))).trans ?_)
  exact (congrArg₂ (args a m c).res e0 e1).symm

end Cert.FfnIdeal.Final

end

end
-- ==== Proof.FfnRef.lean ====
/- The reference of the experts' product in stages. -/
module

public import proofs.«01_k».proof.Proof.Gen.RefFfnIdeal.Run
public import proofs.«01_k».proof.Proof.FfnSpec
public import Idealize.ShloMosaic.Lib.Pointwise
public import Idealize.ShloMosaic.Lib.KernelVsHost

@[expose] public section

set_option maxRecDepth 16384

noncomputable section

namespace Cert.RefFfnIdeal.Stages

open Idealize.ShloMosaic.TcCoe Idealize.SL.Sem
open Cert.RefFfnIdeal Cert.RefFfnIdeal.Gen Cert.RefFfnIdeal.Value Idealize.ShloMosaic Cert.Experts

/-- The experts' matrices taken block by block: the matrix of the block's expert, the number read signed and kept among the experts. -/
theorem take_apply {N P Q E : ℕ} (hN : 0 < N) (wf : GatherDims.WF ⟨3, ![N, P, Q]⟩ ⟨2, ![E, 1]⟩ ⟨3, ![E, P, Q]⟩ [1, 2] [0] [] [0] [] 1 ![1, P, Q])
    (x : (⟨3, ![N, P, Q]⟩ : Shape).Idx → EReal) (idx : IVec ⟨2, ![E, 1]⟩ 32) (e : Fin E) (p : Fin P) (q : Fin Q) :
    Host.gather (⟨[1, 2], [0], [], [], [0], 1, ![1, P, Q], wf⟩ : GatherDims ⟨3, ![N, P, Q]⟩ ⟨2, ![E, 1]⟩ ⟨3, ![E, P, Q]⟩) x idx (ix3 e p q)
      = x (ix3 ⟨min (idx (ix2 e 0)).toInt.toNat (N - 1), by omega⟩ p q) := by
  unfold Host.gather
  refine congrArg x (funext fun a => Fin.ext ?_)
  generalize hd : (⟨[1, 2], [0], [], [], [0], 1, ![1, P, Q], wf⟩ : GatherDims ⟨3, ![N, P, Q]⟩ ⟨2, ![E, 1]⟩ ⟨3, ![E, P, Q]⟩) = D
  show D.start (ix3 e p q) idx a + D.batchCoord (ix3 e p q) a + D.offCoord (ix3 e p q) a = _
  rw [D.batchCoord_eq_zero _ _ (by subst hd; exact List.not_mem_nil), Nat.add_zero]
  subst hd
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine congrArg (fun i => min (idx i).toInt.toNat (N - 1)) (funext fun b => Fin.ext ?_)
    match b with
    | ⟨0, _⟩ => rfl
    | ⟨1, _⟩ => rfl
  | ⟨1, _⟩ =>
    unfold GatherDims.start
    rw [dif_neg (by simp), Nat.zero_add]
    unfold GatherDims.offCoord
    exact (dif_pos ((GatherDims.mem_sKept _ _).mpr ⟨fun h => Nat.succ_ne_zero _ (congrArg Fin.val (List.mem_singleton.mp h)), List.not_mem_nil⟩)).trans rfl
  | ⟨2, _⟩ =>
    unfold GatherDims.start
    rw [dif_neg (by simp), Nat.zero_add]
    unfold GatherDims.offCoord
    exact (dif_pos ((GatherDims.mem_sKept _ _).mpr ⟨fun h => Nat.succ_ne_zero _ (congrArg Fin.val (List.mem_singleton.mp h)), List.not_mem_nil⟩)).trans rfl

/-- The blocks' experts, a negative one counted from the end. -/
def wrap (a0 : IVec S168 32) : IVec S168x1 32 :=
  broadcastInDim S168x1 ![0] bcast_S168_S168x1_0 (select (cmpi .slt a0 (broadcastInDim S168 ![] bcast_S_S168 (constantI S_ 32 0#32))) (addi a0 (broadcastInDim S168 ![] bcast_S_S168 (constantI S_ 32 32#32))) a0)

theorem keep (w : BitVec 32) (h : w.toNat < 32) : Scalar.select (IntOp.cmpi .slt w 0#32) (IntOp.addi w 32#32) w = w ∧ min w.toInt.toNat (32 - 1) = w.toNat % 32 := by
  obtain ⟨n, hn⟩ : ∃ n : Fin 32, w = BitVec.ofNat 32 n.val := ⟨⟨w.toNat, h⟩, by simp⟩
  subst hn
  clear h
  revert n
  decide +kernel

theorem wrap_apply (a0 : IVec S168 32) (e : Fin 168) (h : (a0 (ix1 e)).toNat < 32) : wrap a0 (ix2 e 0) = a0 (ix1 e) := by
  refine Eq.trans ?_ (keep _ h).1
  pointwise [wrap]

/-- The blocks' first matrices; -/
def take1 (W : FVec Ideal S2x32x1024x512 .f32) (a0 : IVec S168 32) : FVec Ideal S168x1024x512 .f32 :=
  Host.gather gather_S32x1024x512_S168x1_S168x1024x512_12_0_n_n_0_1_11024512 (shapeCast _ (extractStridedSlice S1x32x1024x512 ![0, 0, 0, 0] W slices_S2x32x1024x512_S1x32x1024x512_0_0_0_0) shapeCasts_S1x32x1024x512_S32x1024x512) (wrap a0)

/-- and the last. -/
def take2 (W : FVec Ideal S2x32x512x1024 .f32) (a0 : IVec S168 32) : FVec Ideal S168x512x1024 .f32 :=
  Host.gather gather_S32x512x1024_S168x1_S168x512x1024_12_0_n_n_0_1_15121024 (shapeCast _ (extractStridedSlice S1x32x512x1024 ![0, 0, 0, 0] W slices_S2x32x512x1024_S1x32x512x1024_0_0_0_0) shapeCasts_S1x32x512x1024_S32x512x1024) (wrap a0)

theorem layer1 (W : FVec Ideal S2x32x1024x512 .f32) (x : Fin 32) (k : Fin 1024) (f : Fin 512) :
    (shapeCast S32x1024x512 (extractStridedSlice S1x32x1024x512 ![0, 0, 0, 0] W slices_S2x32x1024x512_S1x32x1024x512_0_0_0_0) shapeCasts_S1x32x1024x512_S32x1024x512 : FVec Ideal S32x1024x512 .f32) (ix3 x k f) = W (ix4 0 x k f) := by
  pointwise

theorem layer2 (W : FVec Ideal S2x32x512x1024 .f32) (x : Fin 32) (k : Fin 512) (f : Fin 1024) :
    (shapeCast S32x512x1024 (extractStridedSlice S1x32x512x1024 ![0, 0, 0, 0] W slices_S2x32x512x1024_S1x32x512x1024_0_0_0_0) shapeCasts_S1x32x512x1024_S32x512x1024 : FVec Ideal S32x512x1024 .f32) (ix3 x k f) = W (ix4 0 x k f) := by
  pointwise

theorem take1_apply (W : FVec Ideal S2x32x1024x512 .f32) (a0 : IVec S168 32) (e : Fin 168) (h : (a0 (ix1 e)).toNat < 32) (k : Fin 1024) (f : Fin 512) :
    take1 W a0 (ix3 e k f) = W (ix4 0 ⟨(a0 (ix1 e)).toNat % 32, by omega⟩ k f) := by
  refine (take_apply (by decide) gather_S32x1024x512_S168x1_S168x1024x512_12_0_n_n_0_1_11024512_wf _ (wrap a0) e k f).trans ?_
  refine (layer1 W _ k f).trans (congrArg (fun i => W (ix4 0 i k f)) (Fin.ext ?_))
  show min (wrap a0 (ix2 e 0)).toInt.toNat (32 - 1) = _
  rw [wrap_apply a0 e h]
  exact (keep _ h).2

theorem take2_apply (W : FVec Ideal S2x32x512x1024 .f32) (a0 : IVec S168 32) (e : Fin 168) (h : (a0 (ix1 e)).toNat < 32) (f : Fin 512) (d : Fin 1024) :
    take2 W a0 (ix3 e f d) = W (ix4 0 ⟨(a0 (ix1 e)).toNat % 32, by omega⟩ f d) := by
  refine (take_apply (by decide) gather_S32x512x1024_S168x1_S168x512x1024_12_0_n_n_0_1_15121024_wf _ (wrap a0) e f d).trans ?_
  refine (layer2 W _ f d).trans (congrArg (fun i => W (ix4 0 i f d)) (Fin.ext ?_))
  show min (wrap a0 (ix2 e 0)).toInt.toNat (32 - 1) = _
  rw [wrap_apply a0 e h]
  exact (keep _ h).2

/-- The rows in blocks through one of the first matrices. -/
def first (x : FVec Ideal S86016x1024 .f32) (T : FVec Ideal S168x1024x512 .f32) : FVec Ideal S168x512x512 .f32 :=
  Host.dotGeneral dot_S168x512x1024_S168x1024x512_S168x512x512_2_1_1_2_0_0 none (shapeCast _ x shapeCasts_S86016x1024_S168x512x1024) T

theorem first_apply (x : FVec Ideal S86016x1024 .f32) (T : FVec Ideal S168x1024x512 .f32) (e : Fin 168) (r : Fin 512) (f : Fin 512) :
    first x T (ix3 e r f) = ∑ k : Fin 1024, x (ix2 ⟨e.val * 512 + r.val, by omega⟩ k) * T (ix3 e k f) := by
  pointwise [first]

/-- The gated rows. -/
def gated (A B : FVec Ideal S168x512x512 .f32) : FVec Ideal S168x512x512 .f32 :=
  mulf (mulf A (Host.divf (broadcastInDim S168x512x512 ![] bcast_S_S168x512x512 (constant S_ .f32 0x3F800000#32)) (addf (broadcastInDim S168x512x512 ![] bcast_S_S168x512x512 (constant S_ .f32 0x3F800000#32)) (Host.exp (Host.negf A))))) B

theorem gated_apply (A B : FVec Ideal S168x512x512 .f32) (e : Fin 168) (r : Fin 512) (f : Fin 512) :
    gated A B (ix3 e r f) = A (ix3 e r f) * Ideal.logistic (A (ix3 e r f)) * B (ix3 e r f) := by
  pointwise [gated]
  rfl

/-- The result: the used blocks' products, zero elsewhere. -/
def result (a1 : IVec S1 32) (G : FVec Ideal S168x512x512 .f32) (T : FVec Ideal S168x512x1024 .f32) : FVec Ideal S86016x1024 .f32 :=
  shapeCast _ (select (broadcastInDim S168x512x1024 ![0, 1, 2] bcast_S168x1x1_S168x512x1024_0_1_2 (broadcastInDim S168x1x1 ![0] bcast_S168_S168x1x1_0 (cmpi .slt (iotaInDim S168 32 0) (broadcastInDim S168 ![] bcast_S_S168 (shapeCast _ a1 shapeCasts_S1_S_))))) (Host.dotGeneral dot_S168x512x512_S168x512x1024_S168x512x1024_2_1_1_2_0_0 none G T) (broadcastInDim S168x512x1024 ![] bcast_S_S168x512x1024 (id (constant S_ .f32 0x00000000#32)))) shapeCasts_S168x512x1024_S86016x1024

theorem result_apply (a1 : IVec S1 32) (G : FVec Ideal S168x512x512 .f32) (T : FVec Ideal S168x512x1024 .f32) (R : Fin 86016) (d : Fin 1024) :
    result a1 G T (ix2 R d) = Scalar.select (IntOp.cmpi .slt (BitVec.ofNat 32 (R.val / 512)) (a1 (ix1 0)))
      (∑ f : Fin 512, G (ix3 ⟨R.val / 512, by omega⟩ ⟨R.val % 512, by omega⟩ f) * T (ix3 ⟨R.val / 512, by omega⟩ f d)) 0 := by
  pointwise [result]
  refine congrArg (Scalar.select _ _) ?_
  show (constant (F := Idealize.ShloMosaic.Ideal) S_ .f32 0x00000000#32) ix0 = (0 : EReal)
  pointwise

/-- The arguments, entry by entry. -/
def args (a0 : IVec S168 32) (a1 : IVec S1 32) (a2 : FVec Ideal S86016x1024 .f32) (a3 a4 : FVec Ideal S2x32x1024x512 .f32) (a5 : FVec Ideal S2x32x512x1024 .f32) : Args where
  x R k := a2 (ix2 R k)
  w1 e k f := a3 (ix4 0 e k f)
  w3 e k f := a4 (ix4 0 e k f)
  w2 e f d := a5 (ix4 0 e f d)
  blk b := a0 (ix1 b)
  n := a1 (ix1 0)

/-- The whole reference at an entry, the experts' numbers in range. -/
theorem whole_apply (a0 : IVec S168 32) (a1 : IVec S1 32) (a2 : FVec Ideal S86016x1024 .f32) (a3 a4 : FVec Ideal S2x32x1024x512 .f32) (a5 : FVec Ideal S2x32x512x1024 .f32)
    (h : ∀ b, (a0 (ix1 b)).toNat < 32) (R : Fin 86016) (d : Fin 1024) :
    result a1 (gated (first a2 (take1 a3 a0)) (first a2 (take1 a4 a0))) (take2 a5 a0) (ix2 R d) = (args a0 a1 a2 a3 a4 a5).res R d := by
  rw [result_apply]
  have eR : (⟨R.val / 512 * 512 + R.val % 512, by omega⟩ : Fin 86016) = R := Fin.ext (by show R.val / 512 * 512 + R.val % 512 = R.val; omega)
  simp only [gated_apply, first_apply, take1_apply _ _ _ (h _), take2_apply _ _ _ (h _), eR]
  rfl

end Cert.RefFfnIdeal.Stages

end

end
-- ==== Proof.FfnEqual.lean ====
/- The claims of the experts' product: the frames, and the equality of the kernel's result and the reference's over
   the extended reals, the blocks' experts being experts. -/
module

public import proofs.«01_k».proof.Defs
public import proofs.«01_k».proof.Proof.Gen.Pre_experts
public import proofs.«01_k».proof.Proof.FfnPipe
public import proofs.«01_k».proof.Proof.FfnFinal
public import proofs.«01_k».proof.Proof.FfnRef
public import Idealize.ShloMosaic.Lib.Quiescent

@[expose] public section

set_option maxRecDepth 16384

noncomputable section

namespace Cert.Proof.Experts

open Idealize.ShloMosaic Idealize.ShloMosaic.TcCoe Idealize.SL.Sem Cert.Experts

theorem small (w : BitVec 32) (h0 : IntOp.cmpi .sge w 0#32 = 1#1) (h1 : IntOp.cmpi .slt w 32#32 = 1#1) : w.toNat < 32 := by
  have e0 : (0 : ℤ) ≤ w.toInt := by
    by_contra hn
    have : IntOp.cmpi .sge w 0#32 = 0#1 := by
      show BitVec.ofBool ((0#32).sle w) = 0#1
      rw [show (0#32).sle w = false from decide_eq_false (by simpa using hn)]
      rfl
    rw [this] at h0
    exact absurd h0 (by decide)
  have e1 : w.toInt < 32 := by
    by_contra hn
    have : IntOp.cmpi .slt w 32#32 = 0#1 := by
      show BitVec.ofBool (w.slt 32#32) = 0#1
      rw [show w.slt 32#32 = false from decide_eq_false (by simpa using hn)]
      rfl
    rw [this] at h1
    exact absurd h1 (by decide)
  rw [BitVec.toInt_eq_toNat_cond] at e0 e1
  split at e0 <;> omega

theorem range (m : (ℓ : Loc Cert.Ffn.nD Cert.Ffn.τ Cert.Ffn.sig) → Buf (Elt Bits) ℓ) (h : Cert.Pre_Ffn m) : Cert.Ffn.Pipe.InRange m := fun x => by
  obtain ⟨h0, h1⟩ := h 0
  exact small _ (congrFun h0 x) (congrFun h1 x)

theorem range_i (m : (ℓ : Loc Cert.FfnIdeal.nD Cert.FfnIdeal.τ Cert.FfnIdeal.sig) → Buf (Elt Ideal) ℓ) (h : Cert.Pre_FfnIdeal m) : Cert.FfnIdeal.Pipe.InRange m := fun x => by
  obtain ⟨h0, h1⟩ := h 0
  exact small _ (congrFun h0 x) (congrFun h1 x)

theorem frame_p : Cert.quiescent_Ffn := fun m ρ h => Cert.Ffn.Pipe.frame (Cert.Ffn.Pipe.adm m (range m h)) m ρ (Cert.Ffn.Pipe.adm_eq m (range m h))

theorem frame_pi : Cert.quiescent_FfnIdeal := fun m ρ h => Cert.FfnIdeal.Pipe.frame (Cert.FfnIdeal.Pipe.adm m (range_i m h)) m ρ (Cert.FfnIdeal.Pipe.adm_eq m (range_i m h))

theorem frame_ri : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

theorem frame_ri' : Cert.quiescent_RefFfnIdeal_pre_experts := fun m ρ _ => frame_ri m ρ trivial

theorem preserves : Cert.preserves_Ffn_FfnIdeal := trivial

theorem algebraic : Cert.algebraic_FfnIdeal_RefFfnIdeal := by
  intro m ρ m' ρ' hpre hag
  have hr := range_i m hpre
  have hz : ∀ c : Dev Cert.FfnIdeal.nD, c = 0 := fun c => Subsingleton.elim _ _
  have hb : ∀ b : Fin 168, (Cert.FfnIdeal.Pipe.tab0 (Cert.FfnIdeal.Pipe.adm m hr) (ix1 b) : BitVec 32).toNat < 32 := fun b => hr (ix1 b)
  have ea : ∀ c : Dev Cert.FfnIdeal.nD, Cert.RefFfnIdeal.Stages.args (m' ((c.tc : Thread Cert.RefFfnIdeal.nD Cert.RefFfnIdeal.τ).loc Cert.RefFfnIdeal.main_arg0))
      (m' ((c.tc : Thread Cert.RefFfnIdeal.nD Cert.RefFfnIdeal.τ).loc Cert.RefFfnIdeal.main_arg1))
      (m' ((c.tc : Thread Cert.RefFfnIdeal.nD Cert.RefFfnIdeal.τ).loc Cert.RefFfnIdeal.main_arg2))
      (m' ((c.tc : Thread Cert.RefFfnIdeal.nD Cert.RefFfnIdeal.τ).loc Cert.RefFfnIdeal.main_arg3))
      (m' ((c.tc : Thread Cert.RefFfnIdeal.nD Cert.RefFfnIdeal.τ).loc Cert.RefFfnIdeal.main_arg4))
      (m' ((c.tc : Thread Cert.RefFfnIdeal.nD Cert.RefFfnIdeal.τ).loc Cert.RefFfnIdeal.main_arg5))
      = Cert.FfnIdeal.Final.args (Cert.FfnIdeal.Pipe.adm m hr) m c := fun c => by
    obtain ⟨g0, g1, g2, g3, g4, g5⟩ := hag c
    rw [g0, g1, g2, g3, g4, g5]
    obtain rfl := hz c
    rfl
  have hk : θ_run (Cert.FfnIdeal.defs (F := Ideal)) (onTc (τ := Cert.FfnIdeal.τ) (Cert.FfnIdeal.main (F := Ideal))) ⟨m, fun _ => 0, ρ⟩
      (fun r => ∀ c : Dev Cert.FfnIdeal.nD, r.2.mem ((c.tc : Thread Cert.FfnIdeal.nD Cert.FfnIdeal.τ).loc Cert.FfnIdeal.main_v0)
        = Cert.FfnIdeal.Final.resAll (Cert.FfnIdeal.Final.args (Cert.FfnIdeal.Pipe.adm m hr) m c)) :=
    (θ_run _ _ _).mono (fun r h c => ((h c).1 (4 : Fin 5)).trans (Cert.FfnIdeal.Final.arr4 _ m ρ c hb))
      (Cert.FfnIdeal.Pipe.run_main (Cert.FfnIdeal.Pipe.adm m hr) m ρ (Cert.FfnIdeal.Pipe.adm_eq m hr))
  refine ⟨fun c => Cert.FfnIdeal.Final.resAll (Cert.FfnIdeal.Final.args (Cert.FfnIdeal.Pipe.adm m hr) m c),
    (θ_run _ _ _).mono (fun r h c => ⟨h.1 c, h.2 c⟩) (θ_run_and hk (Cert.FfnIdeal.Pipe.unchanged (Cert.FfnIdeal.Pipe.adm m hr) m ρ (Cert.FfnIdeal.Pipe.adm_eq m hr))),
    (θ_run Cert.RefFfnIdeal.defs _ _).mono (fun _ h c => ⟨(h c).1.trans ?_, (h c).2⟩) (Cert.RefFfnIdeal.Value.run (F := Ideal) m' ρ')⟩
  refine Eq.trans (b := Cert.RefFfnIdeal.Stages.result (m' ((c.tc : Thread Cert.RefFfnIdeal.nD Cert.RefFfnIdeal.τ).loc Cert.RefFfnIdeal.main_arg1))
    (Cert.RefFfnIdeal.Stages.gated
      (Cert.RefFfnIdeal.Stages.first (m' ((c.tc : Thread Cert.RefFfnIdeal.nD Cert.RefFfnIdeal.τ).loc Cert.RefFfnIdeal.main_arg2))
        (Cert.RefFfnIdeal.Stages.take1 (m' ((c.tc : Thread Cert.RefFfnIdeal.nD Cert.RefFfnIdeal.τ).loc Cert.RefFfnIdeal.main_arg3)) (m' ((c.tc : Thread Cert.RefFfnIdeal.nD Cert.RefFfnIdeal.τ).loc Cert.RefFfnIdeal.main_arg0))))
      (Cert.RefFfnIdeal.Stages.first (m' ((c.tc : Thread Cert.RefFfnIdeal.nD Cert.RefFfnIdeal.τ).loc Cert.RefFfnIdeal.main_arg2))
        (Cert.RefFfnIdeal.Stages.take1 (m' ((c.tc : Thread Cert.RefFfnIdeal.nD Cert.RefFfnIdeal.τ).loc Cert.RefFfnIdeal.main_arg4)) (m' ((c.tc : Thread Cert.RefFfnIdeal.nD Cert.RefFfnIdeal.τ).loc Cert.RefFfnIdeal.main_arg0)))))
    (Cert.RefFfnIdeal.Stages.take2 (m' ((c.tc : Thread Cert.RefFfnIdeal.nD Cert.RefFfnIdeal.τ).loc Cert.RefFfnIdeal.main_arg5)) (m' ((c.tc : Thread Cert.RefFfnIdeal.nD Cert.RefFfnIdeal.τ).loc Cert.RefFfnIdeal.main_arg0))))
    rfl (funext fun y => ?_)
  have hy : y = ix2 (y 0 : Fin 86016) (y 1 : Fin 1024) := by
    refine funext fun x => ?_
    match x with
    | 0 => rfl
    | 1 => rfl
  have hx : ∀ b : Fin 168, ((m' ((c.tc : Thread Cert.RefFfnIdeal.nD Cert.RefFfnIdeal.τ).loc Cert.RefFfnIdeal.main_arg0) : Cert.RefFfnIdeal.S168.Idx → BitVec 32) (ix1 b)).toNat < 32 := fun b => by
    rw [(hag c).1]
    obtain rfl := hz c
    exact hr (ix1 b)
  refine (congrArg _ hy).trans ((Cert.RefFfnIdeal.Stages.whole_apply _ _ _ _ _ _ hx (y 0 : Fin 86016) (y 1 : Fin 1024)).trans ?_)
  exact congrArg (fun A : Args => A.res (y 0) (y 1)) (ea c)

end Cert.Proof.Experts

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.RefInIdeal
public import proofs.«01_k».proof.Proof.Gen.RefInIdeal.Run
public import proofs.«01_k».proof.Proof.Gen.RefOutIdeal
public import proofs.«01_k».proof.Proof.Gen.RefOutIdeal.Run
public import proofs.«01_k».proof.Proof.Gen.Pre_finite_in
public import proofs.«01_k».proof.Proof.Gen.Pre_finite_out
public import proofs.«01_k».proof.Proof.Gen.Ffn
public import proofs.«01_k».proof.Proof.Gen.Ffn.Skeleton
public import proofs.«01_k».proof.Proof.Gen.Ffn.Launch
public import proofs.«01_k».proof.Proof.Gen.Ffn.Flash
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Flash
public import proofs.«01_k».proof.Proof.Gen.RefFfnIdeal
public import proofs.«01_k».proof.Proof.Gen.RefFfnIdeal.Run
public import proofs.«01_k».proof.Proof.Gen.Pre_experts
public import proofs.«01_k».proof.Proof.Equal
public import proofs.«01_k».proof.Proof.InEqual
public import proofs.«01_k».proof.Proof.OutEqual
public import proofs.«01_k».proof.Proof.FfnEqual
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ProjIn.Gen.facts, Cert.ProjInIdeal.Gen.facts, Cert.RefInIdeal.Gen.facts, Cert.ProjOut.Gen.facts, Cert.ProjOutIdeal.Gen.facts, Cert.RefOutIdeal.Gen.facts, Cert.Ffn.Gen.facts, Cert.FfnIdeal.Gen.facts, Cert.RefFfnIdeal.Gen.facts, Cert.Pre_finite.Gen.facts, Cert.Pre_finite_in.Gen.facts, Cert.Pre_finite_out.Gen.facts, Cert.Pre_experts.Gen.facts,
  Attn.frame_p, Attn.frame_pi, Attn.frame_pi', Attn.frame_ri, Attn.frame_ri',
  In.frame_p, In.frame_pi, In.frame_pi', In.frame_ri, In.frame_ri',
  Out.frame_p, Out.frame_pi, Out.frame_pi', Out.frame_ri, Out.frame_ri',
  Experts.frame_p, Experts.frame_pi, Experts.frame_ri, Experts.frame_ri',
  Attn.preserves, Attn.algebraic, In.preserves, In.algebraic, Out.preserves, Out.algebraic,
  Experts.preserves, Experts.algebraic⟩

end Cert.Proof

end
